-- ==== Defs.lean ====
def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10)
      ∧ r.2.mem ((c.tc : Thread Cert.Step.nD Cert.Step.τ).loc Cert.Step.main_arg11) = m ((c.tc : Thread Cert.Step.nD Cert.Step.τ).loc Cert.Step.main_arg11)
      ∧ r.2.mem ((c.tc : Thread Cert.Step.nD Cert.Step.τ).loc Cert.Step.main_arg12) = m ((c.tc : Thread Cert.Step.nD Cert.Step.τ).loc Cert.Step.main_arg12)
      ∧ r.2.mem ((c.tc : Thread Cert.Step.nD Cert.Step.τ).loc Cert.Step.main_arg13) = m ((c.tc : Thread Cert.Step.nD Cert.Step.τ).loc Cert.Step.main_arg13))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
      ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
      ∧ r.2.mem ((c.tc : Thread Cert.StepIdeal.nD Cert.StepIdeal.τ).loc Cert.StepIdeal.main_arg12) = m ((c.tc : Thread Cert.StepIdeal.nD Cert.StepIdeal.τ).loc Cert.StepIdeal.main_arg12)
      ∧ r.2.mem ((c.tc : Thread Cert.StepIdeal.nD Cert.StepIdeal.τ).loc Cert.StepIdeal.main_arg13) = m ((c.tc : Thread Cert.StepIdeal.nD Cert.StepIdeal.τ).loc Cert.StepIdeal.main_arg13))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10)
      ∧ r.2.mem ((c.tc : Thread Cert.StepRefIdeal.nD Cert.StepRefIdeal.τ).loc Cert.StepRefIdeal.main_arg11) = m ((c.tc : Thread Cert.StepRefIdeal.nD Cert.StepRefIdeal.τ).loc Cert.StepRefIdeal.main_arg11)
      ∧ r.2.mem ((c.tc : Thread Cert.StepRefIdeal.nD Cert.StepRefIdeal.τ).loc Cert.StepRefIdeal.main_arg12) = m ((c.tc : Thread Cert.StepRefIdeal.nD Cert.StepRefIdeal.τ).loc Cert.StepRefIdeal.main_arg12)
      ∧ r.2.mem ((c.tc : Thread Cert.StepRefIdeal.nD Cert.StepRefIdeal.τ).loc Cert.StepRefIdeal.main_arg13) = m ((c.tc : Thread Cert.StepRefIdeal.nD Cert.StepRefIdeal.τ).loc Cert.StepRefIdeal.main_arg13))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)
      ∧ m' ((c.tc : Thread Cert.StepRefIdeal.nD Cert.StepRefIdeal.τ).loc Cert.StepRefIdeal.main_arg11) = m ((c.tc : Thread Cert.StepIdeal.nD Cert.StepIdeal.τ).loc Cert.StepIdeal.main_arg11)
      ∧ m' ((c.tc : Thread Cert.StepRefIdeal.nD Cert.StepRefIdeal.τ).loc Cert.StepRefIdeal.main_arg12) = m ((c.tc : Thread Cert.StepIdeal.nD Cert.StepIdeal.τ).loc Cert.StepIdeal.main_arg12)
      ∧ m' ((c.tc : Thread Cert.StepRefIdeal.nD Cert.StepRefIdeal.τ).loc Cert.StepRefIdeal.main_arg13) = m ((c.tc : Thread Cert.StepIdeal.nD Cert.StepIdeal.τ).loc Cert.StepIdeal.main_arg13)) →
    ∃ (v0 : (c : Dev Cert.StepIdeal.nD) → Buf (Elt Ideal) ((c.tc : Thread Cert.StepIdeal.nD Cert.StepIdeal.τ).loc Cert.StepIdeal.main_v34_1)) (v1 : (c : Dev Cert.StepIdeal.nD) → Buf (Elt Ideal) ((c.tc : Thread Cert.StepIdeal.nD Cert.StepIdeal.τ).loc Cert.StepIdeal.main_v34_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v34_1) = v0 c
          ∧ r.2.mem ((c.tc : Thread Cert.StepIdeal.nD Cert.StepIdeal.τ).loc Cert.StepIdeal.main_v34_2) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
          ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
          ∧ r.2.mem ((c.tc : Thread Cert.StepIdeal.nD Cert.StepIdeal.τ).loc Cert.StepIdeal.main_arg12) = m ((c.tc : Thread Cert.StepIdeal.nD Cert.StepIdeal.τ).loc Cert.StepIdeal.main_arg12)
          ∧ r.2.mem ((c.tc : Thread Cert.StepIdeal.nD Cert.StepIdeal.τ).loc Cert.StepIdeal.main_arg13) = m ((c.tc : Thread Cert.StepIdeal.nD Cert.StepIdeal.τ).loc Cert.StepIdeal.main_arg13))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v78) = v0 c
          ∧ r.2.mem ((c.tc : Thread Cert.StepRefIdeal.nD Cert.StepRefIdeal.τ).loc Cert.StepRefIdeal.main_v1) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10)
          ∧ r.2.mem ((c.tc : Thread Cert.StepRefIdeal.nD Cert.StepRefIdeal.τ).loc Cert.StepRefIdeal.main_arg11) = m' ((c.tc : Thread Cert.StepRefIdeal.nD Cert.StepRefIdeal.τ).loc Cert.StepRefIdeal.main_arg11)
          ∧ r.2.mem ((c.tc : Thread Cert.StepRefIdeal.nD Cert.StepRefIdeal.τ).loc Cert.StepRefIdeal.main_arg12) = m' ((c.tc : Thread Cert.StepRefIdeal.nD Cert.StepRefIdeal.τ).loc Cert.StepRefIdeal.main_arg12)
          ∧ r.2.mem ((c.tc : Thread Cert.StepRefIdeal.nD Cert.StepRefIdeal.τ).loc Cert.StepRefIdeal.main_arg13) = m' ((c.tc : Thread Cert.StepRefIdeal.nD Cert.StepRefIdeal.τ).loc Cert.StepRefIdeal.main_arg13))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) →
    ∃ (v0 : (c : Dev Cert.LruIdeal.nD) → Buf (Elt Ideal) ((c.tc : Thread Cert.LruIdeal.nD Cert.LruIdeal.τ).loc Cert.LruIdeal.main_v21_0)) (v1 : (c : Dev Cert.LruIdeal.nD) → Buf (Elt Ideal) ((c.tc : Thread Cert.LruIdeal.nD Cert.LruIdeal.τ).loc Cert.LruIdeal.main_v21_1)) (v2 : (c : Dev Cert.LruIdeal.nD) → Buf (Elt Ideal) ((c.tc : Thread Cert.LruIdeal.nD Cert.LruIdeal.τ).loc Cert.LruIdeal.main_v21_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v21_0) = v0 c
          ∧ r.2.mem ((c.tc : Thread Cert.LruIdeal.nD Cert.LruIdeal.τ).loc Cert.LruIdeal.main_v21_1) = v1 c
          ∧ r.2.mem ((c.tc : Thread Cert.LruIdeal.nD Cert.LruIdeal.τ).loc Cert.LruIdeal.main_v21_2) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v85) = v0 c
          ∧ r.2.mem ((c.tc : Thread Cert.LruRefIdeal.nD Cert.LruRefIdeal.τ).loc Cert.LruRefIdeal.main_v82) = v1 c
          ∧ r.2.mem ((c.tc : Thread Cert.LruRefIdeal.nD Cert.LruRefIdeal.τ).loc Cert.LruRefIdeal.main_v86) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v13) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v17) = v0 c
          ∧ r.2.mem ((c.tc : Thread Cert.HeadRefIdeal.nD Cert.HeadRefIdeal.τ).loc Cert.HeadRefIdeal.main_v19) = v1 c
          ∧ r.2.mem ((c.tc : Thread Cert.HeadRefIdeal.nD Cert.HeadRefIdeal.τ).loc Cert.HeadRefIdeal.main_v22) = v2 c
          ∧ r.2.mem ((c.tc : Thread Cert.HeadRefIdeal.nD Cert.HeadRefIdeal.τ).loc Cert.HeadRefIdeal.main_v23) = v3 c
          ∧ r.2.mem ((c.tc : Thread Cert.HeadRefIdeal.nD Cert.HeadRefIdeal.τ).loc Cert.HeadRefIdeal.main_v25) = v4 c
          ∧ r.2.mem ((c.tc : Thread Cert.HeadRefIdeal.nD Cert.HeadRefIdeal.τ).loc Cert.HeadRefIdeal.main_v27) = v5 c
          ∧ r.2.mem ((c.tc : Thread Cert.HeadRefIdeal.nD Cert.HeadRefIdeal.τ).loc Cert.HeadRefIdeal.main_v29) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def Claim : Prop :=
  ∃ (hStep : Cert.Step.Facts) (hStepIdeal : Cert.StepIdeal.Facts) (hStepRefIdeal : Cert.StepRefIdeal.Facts) (hLru : Cert.Lru.Facts) (hLruIdeal : Cert.LruIdeal.Facts) (hLruRefIdeal : Cert.LruRefIdeal.Facts) (hInproj : Cert.Inproj.Facts) (hInprojIdeal : Cert.InprojIdeal.Facts) (hInprojRefIdeal : Cert.InprojRefIdeal.Facts) (hHead : Cert.Head.Facts) (hHeadIdeal : Cert.HeadIdeal.Facts) (hHeadRefIdeal : Cert.HeadRefIdeal.Facts),
    quiescent_Step (hStep := hStep)
    ∧ quiescent_StepIdeal (hStepIdeal := hStepIdeal)
    ∧ quiescent_StepRefIdeal (hStepRefIdeal := hStepRefIdeal)
    ∧ quiescent_Lru (hLru := hLru)
    ∧ quiescent_LruIdeal (hLruIdeal := hLruIdeal)
    ∧ quiescent_LruRefIdeal (hLruRefIdeal := hLruRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Head (hHead := hHead)
    ∧ quiescent_HeadIdeal (hHeadIdeal := hHeadIdeal)
    ∧ quiescent_HeadRefIdeal (hHeadRefIdeal := hHeadRefIdeal)
    ∧ preserves_Step_StepIdeal
    ∧ algebraic_StepIdeal_StepRefIdeal (hStepIdeal := hStepIdeal) (hStepRefIdeal := hStepRefIdeal)
    ∧ preserves_Lru_LruIdeal
    ∧ algebraic_LruIdeal_LruRefIdeal (hLruIdeal := hLruIdeal) (hLruRefIdeal := hLruRefIdeal)
    ∧ preserves_Inproj_InprojIdeal
    ∧ algebraic_InprojIdeal_InprojRefIdeal (hInprojIdeal := hInprojIdeal) (hInprojRefIdeal := hInprojRefIdeal)
    ∧ preserves_Head_HeadIdeal
    ∧ algebraic_HeadIdeal_HeadRefIdeal (hHeadIdeal := hHeadIdeal) (hHeadRefIdeal := hHeadRefIdeal)
-- ==== Step.lean ====
abbrev S128x10240 : Shape := ⟨2, ![128, 10240]⟩
abbrev S128x128 : Shape := ⟨2, ![128, 128]⟩
abbrev S128x3200 : Shape := ⟨2, ![128, 3200]⟩
abbrev S128x16x64x64 : Shape := ⟨4, ![128, 16, 64, 64]⟩
abbrev S3200 : Shape := ⟨1, ![3200]⟩
abbrev S1024 : Shape := ⟨1, ![1024]⟩
abbrev S64x1024 : Shape := ⟨2, ![64, 1024]⟩
abbrev S16x64 : Shape := ⟨2, ![16, 64]⟩
abbrev S16x64x64x128 : Shape := ⟨4, ![16, 64, 64, 128]⟩
abbrev S_ : Shape := ⟨0, ![]⟩
abbrev S1x1024 : Shape := ⟨2, ![1, 1024]⟩
abbrev S16x1024 : Shape := ⟨2, ![16, 1024]⟩
abbrev S128 : Shape := ⟨1, ![128]⟩
abbrev S1x128 : Shape := ⟨2, ![1, 128]⟩
abbrev S8x128 : Shape := ⟨2, ![8, 128]⟩
abbrev S128x1024 : Shape := ⟨2, ![128, 1024]⟩
abbrev S2x64x64x128 : Shape := ⟨4, ![2, 64, 64, 128]⟩
abbrev S1024x128 : Shape := ⟨2, ![1024, 128]⟩
abbrev S16x128 : Shape := ⟨2, ![16, 128]⟩
abbrev S3x128x1024 : Shape := ⟨3, ![3, 128, 1024]⟩
abbrev S16x64x128 : Shape := ⟨3, ![16, 64, 128]⟩
abbrev S1x128x1024 : Shape := ⟨3, ![1, 128, 1024]⟩
abbrev S64x128 : Shape := ⟨2, ![64, 128]⟩
abbrev S1x1x64x128 : Shape := ⟨4, ![1, 1, 64, 128]⟩

abbrev nBuf : Space → Nat
  | .hbm => 59
  | .vmem => 27
  | .smem => 0
  | _ => 0

abbrev bufTy : (tb : Table) → Fin (tcTables nBuf tb) → BufTy
  | .hbm, ⟨0, _⟩ => ⟨S128x10240, .f32⟩
  | .hbm, ⟨1, _⟩ => ⟨S128x128, .f32⟩
  | .hbm, ⟨2, _⟩ => ⟨S128x3200, .f32⟩
  | .hbm, ⟨3, _⟩ => ⟨S128x16x64x64, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S16x64x64x128, .f32⟩
  | .hbm, ⟨15, _⟩ => ⟨S_, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16x1024, .f32⟩
  | .hbm, ⟨31, _⟩ => ⟨S128, .f32⟩
  | .hbm, ⟨32, _⟩ => ⟨S1x128, .f32⟩
  | .hbm, ⟨33, _⟩ => ⟨S8x128, .f32⟩
  | .hbm, ⟨34, _⟩ => ⟨S_, .f32⟩
  | .hbm, ⟨35, _⟩ => ⟨S64x1024, .f32⟩
  | .hbm, ⟨36, _⟩ => ⟨S128x1024, .f32⟩
  | .hbm, ⟨37, _⟩ => ⟨S128x1024, .bf16⟩
  | .hbm, ⟨38, _⟩ => ⟨S128x1024, .f32⟩
  | .hbm, ⟨39, _⟩ => ⟨S128x1024, .bf16⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i1⟩
  | .hbm, ⟨45, _⟩ => ⟨S_, .i32⟩
  | .hbm, ⟨46, _⟩ => ⟨S128x128, .i32⟩
  | .hbm, ⟨47, _⟩ => ⟨S128x128, .i1⟩
  | .hbm, ⟨48, _⟩ => ⟨S128x128, .i1⟩
  | .hbm, ⟨49, _⟩ => ⟨S_, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .bf16⟩
  | .hbm, ⟨56, _⟩ => ⟨S128x1024, .bf16⟩
  | .hbm, ⟨57, _⟩ => ⟨S16x64x64x128, .f32⟩
  | .hbm, ⟨58, _⟩ => ⟨S128x3200, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x3200, .f32⟩
  | .local _ .vmem, ⟨6, _⟩ => ⟨S2x64x64x128, .f32⟩
  | .local _ .vmem, ⟨7, _⟩ => ⟨S2x64x64x128, .f32⟩
  | .local _ .vmem, ⟨8, _⟩ => ⟨S16x1024, .f32⟩
  | .local _ .vmem, ⟨9, _⟩ => ⟨S8x128, .f32⟩
  | .local _ .vmem, ⟨10, _⟩ => ⟨S128x1024, .bf16⟩
  | .local _ .vmem, ⟨11, _⟩ => ⟨S128x1024, .bf16⟩
  | .local _ .vmem, ⟨12, _⟩ => ⟨S128x128, .bf16⟩
  | .local _ .vmem, ⟨13, _⟩ => ⟨S128x1024, .bf16⟩
  | .local _ .vmem, ⟨14, _⟩ => ⟨S2x64x64x128, .f32⟩
  | .local _ .vmem, ⟨15, _⟩ => ⟨S2x64x64x128, .f32⟩
  | .local _ .vmem, ⟨16, _⟩ => ⟨S128x3200, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S16x128, .f32⟩
  | .local _ .vmem, ⟨24, _⟩ => ⟨S16x128, .f32⟩
  | .local _ .vmem, ⟨25, _⟩ => ⟨S1024x128, .f32⟩
  | .local _ .vmem, ⟨26, _⟩ => ⟨S3x128x1024, .f32⟩
  | _, _ => ⟨S128x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c64_i32 : BitVec 32 := 64#32
  let v5 : BitVec 32 := Scalar.muli v4 c64_i32
  v5
def k0_off1 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let c64_i32 : BitVec 32 := 64#32
  let v5 : BitVec 32 := Scalar.muli v4 c64_i32
  let v6 : BitVec 32 := v5
  let v7 : Index := Scalar.indexCast v6
  let c0 : Index := 0#32
  ![v7.toNat, 0]
def k0_off2 (i : grid0.Coords) (c0_i32_1 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32_1
  let v17 : Index := Scalar.indexCast v4
  let c0_6 : Index := 0#32
  ![v17.toNat, 0]
@[reducible] def k0_t1_loop : Scf.Loop 32 :=
  let c0_i32_8 : BitVec 32 := 0#32
  let c8_i32 : BitVec 32 := 8#32
  let v21 : BitVec 32 := Scalar.addi c0_i32_8 c8_i32
  let c1_i32 : BitVec 32 := 1#32
  ⟨c0_i32_8, v21, c1_i32⟩
def k0_mult2 (i : grid0.Coords) (k0_t1 : Fin k0_t1_loop.trips) : BitVec 32 :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c64_i32 : BitVec 32 := 64#32
  let v5 : BitVec 32 := Scalar.muli v4 c64_i32
  let v6 : BitVec 32 := v5
  let c0_i32_8 : BitVec 32 := 0#32
  let c1_i32 : BitVec 32 := 1#32
  let arg26 : BitVec 32 := Scf.iv c0_i32_8 c1_i32 k0_t1
  let c8_i32_25 : BitVec 32 := 8#32
  let v44 : BitVec 32 := Scalar.muli arg26 c8_i32_25
  let v45 : BitVec 32 := Scalar.addi v6 v44
  v45
def k0_off3 (i : grid0.Coords) (k0_t1 : Fin k0_t1_loop.trips) : Fin 2 → Nat :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c64_i32 : BitVec 32 := 64#32
  let v5 : BitVec 32 := Scalar.muli v4 c64_i32
  let v6 : BitVec 32 := v5
  let c0_i32_8 : BitVec 32 := 0#32
  let c1_i32 : BitVec 32 := 1#32
  let arg26 : BitVec 32 := Scf.iv c0_i32_8 c1_i32 k0_t1
  let c8_i32_25 : BitVec 32 := 8#32
  let v44 : BitVec 32 := Scalar.muli arg26 c8_i32_25
  let v45 : BitVec 32 := Scalar.addi v6 v44
  let v46 : BitVec 32 := v45
  let v47 : Index := Scalar.indexCast v46
  let c0_26 : Index := 0#32
  ![v47.toNat, 0]
def k0_off4 (k0_t1 : Fin k0_t1_loop.trips) (c0_i32_28 : BitVec 32) : Fin 4 → Nat :=
  let c0_29 : Index := 0#32
  let c0_i32_8 : BitVec 32 := 0#32
  let c1_i32 : BitVec 32 := 1#32
  let arg26 : BitVec 32 := Scf.iv c0_i32_8 c1_i32 k0_t1
  let c8_i32_27 : BitVec 32 := 8#32
  let v49 : BitVec 32 := Scalar.muli arg26 c8_i32_27
  let v50 : BitVec 32 := Scalar.addi v49 c0_i32_28
  let v51 : Index := Scalar.indexCast v50
  let c0_30 : Index := 0#32
  let c0_31 : Index := 0#32
  ![0, v51.toNat, 0, 0]
def k0_mult3 (i : grid0.Coords) : BitVec 32 :=
  let arg0 : BitVec 32 := BitVec.ofNat 32 (i 0).val
  let c2_i32_10 : BitVec 32 := 2#32
  let v22 : BitVec 32 := Scalar.muli arg0 c2_i32_10
  let c1_i32_11 : BitVec 32 := 1#32
  let v23 : BitVec 32 := Scalar.addi v22 c1_i32_11
  let c64_i32_12 : BitVec 32 := 64#32
  let v24 : BitVec 32 := Scalar.muli v23 c64_i32_12
  v24
@[reducible] def k0_t2_loop : Scf.Loop 32 :=
  let c0_i32_20 : BitVec 32 := 0#32
  let c8_i32_21 : BitVec 32 := 8#32
  let v40 : BitVec 32 := Scalar.addi c0_i32_20 c8_i32_21
  let c1_i32_22 : BitVec 32 := 1#32
  ⟨c0_i32_20, v40, c1_i32_22⟩
def k0_mult4 (i : grid0.Coords) (k0_t2 : Fin k0_t2_loop.trips) : BitVec 32 :=
  let arg0 : BitVec 32 := BitVec.ofNat 32 (i 0).val
  let c2_i32_10 : BitVec 32 := 2#32
  let v22 : BitVec 32 := Scalar.muli arg0 c2_i32_10
  let c1_i32_11 : BitVec 32 := 1#32
  let v23 : BitVec 32 := Scalar.addi v22 c1_i32_11
  let c64_i32_12 : BitVec 32 := 64#32
  let v24 : BitVec 32 := Scalar.muli v23 c64_i32_12
  let v25 : BitVec 32 := v24
  let c0_i32_20 : BitVec 32 := 0#32
  let c1_i32_22 : BitVec 32 := 1#32
  let arg26 : BitVec 32 := Scf.iv c0_i32_20 c1_i32_22 k0_t2
  let c8_i32_25 : BitVec 32 := 8#32
  let v44 : BitVec 32 := Scalar.muli arg26 c8_i32_25
  let v45 : BitVec 32 := Scalar.addi v25 v44
  v45
def k0_off5 (i : grid0.Coords) (k0_t2 : Fin k0_t2_loop.trips) : Fin 2 → Nat :=
  let arg0 : BitVec 32 := BitVec.ofNat 32 (i 0).val
  let c2_i32_10 : BitVec 32 := 2#32
  let v22 : BitVec 32 := Scalar.muli arg0 c2_i32_10
  let c1_i32_11 : BitVec 32 := 1#32
  let v23 : BitVec 32 := Scalar.addi v22 c1_i32_11
  let c64_i32_12 : BitVec 32 := 64#32
  let v24 : BitVec 32 := Scalar.muli v23 c64_i32_12
  let v25 : BitVec 32 := v24
  let c0_i32_20 : BitVec 32 := 0#32
  let c1_i32_22 : BitVec 32 := 1#32
  let arg26 : BitVec 32 := Scf.iv c0_i32_20 c1_i32_22 k0_t2
  let c8_i32_25 : BitVec 32 := 8#32
  let v44 : BitVec 32 := Scalar.muli arg26 c8_i32_25
  let v45 : BitVec 32 := Scalar.addi v25 v44
  let v46 : BitVec 32 := v45
  let v47 : Index := Scalar.indexCast v46
  let c0_26 : Index := 0#32
  ![v47.toNat, 0]
def k0_off6 (k0_t2 : Fin k0_t2_loop.trips) (c0_i32_28 : BitVec 32) : Fin 4 → Nat :=
  let c1 : Index := 1#32
  let c0_i32_20 : BitVec 32 := 0#32
  let c1_i32_22 : BitVec 32 := 1#32
  let arg26 : BitVec 32 := Scf.iv c0_i32_20 c1_i32_22 k0_t2
  let c8_i32_27 : BitVec 32 := 8#32
  let v49 : BitVec 32 := Scalar.muli arg26 c8_i32_27
  let v50 : BitVec 32 := Scalar.addi v49 c0_i32_28
  let v51 : Index := Scalar.indexCast v50
  let c0_29 : Index := 0#32
  let c0_30 : Index := 0#32
  ![1, v51.toNat, 0, 0]
def k0_cond2 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_24 : BitVec 32 := 0#32
  let v43 : BitVec 1 := Scalar.cmpi .ne v42 c0_i32_24
  v43

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x64x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x3200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== StepRefIdeal.lean ====
abbrev S128x10240 : Shape := ⟨2, ![128, 10240]⟩
abbrev S128x128 : Shape := ⟨2, ![128, 128]⟩
abbrev S128x3200 : Shape := ⟨2, ![128, 3200]⟩
abbrev S128x16x64x64 : Shape := ⟨4, ![128, 16, 64, 64]⟩
abbrev S3200 : Shape := ⟨1, ![3200]⟩
abbrev S1024 : Shape := ⟨1, ![1024]⟩
abbrev S64x1024 : Shape := ⟨2, ![64, 1024]⟩
abbrev S16x64 : Shape := ⟨2, ![16, 64]⟩
abbrev S128x3072 : Shape := ⟨2, ![128, 3072]⟩
abbrev S1x3200 : Shape := ⟨2, ![1, 3200]⟩
abbrev S128x1024 : Shape := ⟨2, ![128, 1024]⟩
abbrev S128x64 : Shape := ⟨2, ![128, 64]⟩
abbrev S_ : Shape := ⟨0, ![]⟩
abbrev S1x1024 : Shape := ⟨2, ![1, 1024]⟩
abbrev S128x16x64 : Shape := ⟨3, ![128, 16, 64]⟩
abbrev S128x16 : Shape := ⟨2, ![128, 16]⟩
abbrev S128x16x1 : Shape := ⟨3, ![128, 16, 1]⟩
abbrev S128x16x1x64 : Shape := ⟨4, ![128, 16, 1, 64]⟩
abbrev S128x16x64x1 : Shape := ⟨4, ![128, 16, 64, 1]⟩
abbrev S16x64x64x128 : Shape := ⟨4, ![16, 64, 64, 128]⟩

abbrev nBuf : Space → Nat
  | .hbm => 113
  | .vmem => 0
  | .smem => 0
  | _ => 0

abbrev bufTy : (tb : Table) → Fin (tcTables nBuf tb) → BufTy
  | .hbm, ⟨0, _⟩ => ⟨S128x10240, .f32⟩
  | .hbm, ⟨1, _⟩ => ⟨S128x128, .f32⟩
  | .hbm, ⟨2, _⟩ => ⟨S128x3200, .f32⟩
  | .hbm, ⟨3, _⟩ => ⟨S128x16x64x64, .f32⟩
  | .hbm, ⟨4, _⟩ => ⟨S3200, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S128x3072, .f32⟩
  | .hbm, ⟨15, _⟩ => ⟨S128x3200, .f32⟩
  | .hbm, ⟨16, _⟩ => ⟨S128x3200, .f32⟩
  | .hbm, ⟨17, _⟩ => ⟨S1x3200, .f32⟩
  | .hbm, ⟨18, _⟩ => ⟨S128x3200, .f32⟩
  | .hbm, ⟨19, _⟩ => ⟨S128x3200, .f32⟩
  | .hbm, ⟨20, _⟩ => ⟨S128x3200, .f32⟩
  | .hbm, ⟨21, _⟩ => ⟨S128x1024, .f32⟩
  | .hbm, ⟨22, _⟩ => ⟨S128x1024, .f32⟩
  | .hbm, ⟨23, _⟩ => ⟨S128x64, .f32⟩
  | .hbm, ⟨24, _⟩ => ⟨S128x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x64, .f32⟩
  | .hbm, ⟨29, _⟩ => ⟨S128x1024, .f32⟩
  | .hbm, ⟨30, _⟩ => ⟨S1x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .i1⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S1x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S1x1024, .f32⟩
  | .hbm, ⟨67, _⟩ => ⟨S128x1024, .f32⟩
  | .hbm, ⟨68, _⟩ => ⟨S128x1024, .f32⟩
  | .hbm, ⟨69, _⟩ => ⟨S128x16x64, .f32⟩
  | .hbm, ⟨70, _⟩ => ⟨S128x16x64, .f32⟩
  | .hbm, ⟨71, _⟩ => ⟨S_, .f32⟩
  | .hbm, ⟨72, _⟩ => ⟨S128x16, .f32⟩
  | .hbm, ⟨73, _⟩ => ⟨S128x16x1, .f32⟩
  | .hbm, ⟨74, _⟩ => ⟨S_, .f32⟩
  | .hbm, ⟨75, _⟩ => ⟨S128x16x1, .f32⟩
  | .hbm, ⟨76, _⟩ => ⟨S128x16x1, .f32⟩
  | .hbm, ⟨77, _⟩ => ⟨S128x16x1, .f32⟩
  | .hbm, ⟨78, _⟩ => ⟨S128x16x64, .f32⟩
  | .hbm, ⟨79, _⟩ => ⟨S128x16x64, .f32⟩
  | .hbm, ⟨80, _⟩ => ⟨S_, .f32⟩
  | .hbm, ⟨81, _⟩ => ⟨S128x1024, .f32⟩
  | .hbm, ⟨82, _⟩ => ⟨S128x1024, .f32⟩
  | .hbm, ⟨83, _⟩ => ⟨S1x1024, .f32⟩
  | .hbm, ⟨84, _⟩ => ⟨S128x1024, .f32⟩
  | .hbm, ⟨85, _⟩ => ⟨S128x1024, .f32⟩
  | .hbm, ⟨86, _⟩ => ⟨S_, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S128x16x64, .f32⟩
  | .hbm, ⟨91, _⟩ => ⟨S128x16x64, .f32⟩
  | .hbm, ⟨92, _⟩ => ⟨S128x16x64, .f32⟩
  | .hbm, ⟨93, _⟩ => ⟨S128x16x64, .f32⟩
  | .hbm, ⟨94, _⟩ => ⟨S128x16x64, .f32⟩
  | .hbm, ⟨95, _⟩ => ⟨S128x16x64, .f32⟩
  | .hbm, ⟨96, _⟩ => ⟨S128x16x64, .f32⟩
  | .hbm, ⟨97, _⟩ => ⟨S128x16x1x64, .f32⟩
  | .hbm, ⟨98, _⟩ => ⟨S128x16x64x64, .f32⟩
  | .hbm, ⟨99, _⟩ => ⟨S128x16x64x64, .f32⟩
  | .hbm, ⟨100, _⟩ => ⟨S128x16x64x1, .f32⟩
  | .hbm, ⟨101, _⟩ => ⟨S128x16x1x64, .f32⟩
  | .hbm, ⟨102, _⟩ => ⟨S128x16x64x64, .f32⟩
  | .hbm, ⟨103, _⟩ => ⟨S128x16x64x64, .f32⟩
  | .hbm, ⟨104, _⟩ => ⟨S128x16x64x64, .f32⟩
  | .hbm, ⟨105, _⟩ => ⟨S128x16x64x64, .f32⟩
  | .hbm, ⟨106, _⟩ => ⟨S128x16x64x1, .f32⟩
  | .hbm, ⟨107, _⟩ => ⟨S128x16x1x64, .f32⟩
  | .hbm, ⟨108, _⟩ => ⟨S128x16x64x64, .f32⟩
  | .hbm, ⟨109, _⟩ => ⟨S128x16x64x64, .f32⟩
  | .hbm, ⟨110, _⟩ => ⟨S128x16x64x64, .f32⟩
  | .hbm, ⟨111, _⟩ => ⟨S128x16x64x64, .f32⟩
  | .hbm, ⟨112, _⟩ => ⟨S16x64x64x128, .f32⟩
  | _, _ => ⟨S128x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_0 : Ref sig .tc := ⟨.hbm, 60, rfl⟩
abbrev main_v32 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_2 : Ref sig .tc := ⟨.hbm, 71, rfl⟩
abbrev main_v41 : Ref sig .tc := ⟨.hbm, 72, rfl⟩
abbrev main_v42 : Ref sig .tc := ⟨.hbm, 73, rfl⟩
abbrev main_cst_3 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Lru.lean ====
abbrev S128x10240 : Shape := ⟨2, ![128, 10240]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S16x64x64 : Shape := ⟨3, ![16, 64, 64]⟩
abbrev S3x128x1024 : Shape := ⟨3, ![3, 128, 1024]⟩
abbrev S1x1024 : Shape := ⟨2, ![1, 1024]⟩
abbrev S8x1024 : Shape := ⟨2, ![8, 1024]⟩
abbrev S_ : Shape := ⟨0, ![]⟩
abbrev S8x64x64 : Shape := ⟨3, ![8, 64, 64]⟩
abbrev S8x2x64x64 : Shape := ⟨4, ![8, 2, 64, 64]⟩
abbrev S8x1x64x64 : Shape := ⟨4, ![8, 1, 64, 64]⟩
abbrev S8x64x256 : Shape := ⟨3, ![8, 64, 256]⟩
abbrev S8x128x256 : Shape := ⟨3, ![8, 128, 256]⟩
abbrev S1x128x1024 : Shape := ⟨3, ![1, 128, 1024]⟩
abbrev S128x128 : Shape := ⟨2, ![128, 128]⟩
abbrev S1x128x256 : Shape := ⟨3, ![1, 128, 256]⟩
abbrev S128x256 : Shape := ⟨2, ![128, 256]⟩

abbrev nBuf : Space → Nat
  | .hbm => 35
  | .vmem => 9
  | .smem => 0
  | _ => 0

abbrev bufTy : (tb : Table) → Fin (tcTables nBuf tb) → BufTy
  | .hbm, ⟨0, _⟩ => ⟨S128x10240, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S16x64x64, .f32⟩
  | .hbm, ⟨8, _⟩ => ⟨S1024, .f32⟩
  | .hbm, ⟨9, _⟩ => ⟨S1024, .f32⟩
  | .hbm, ⟨10, _⟩ => ⟨S3x128x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8x1024, .f32⟩
  | .hbm, ⟨16, _⟩ => ⟨S_, .f32⟩
  | .hbm, ⟨17, _⟩ => ⟨S8x64x64, .f32⟩
  | .hbm, ⟨18, _⟩ => ⟨S8x2x64x64, .f32⟩
  | .hbm, ⟨19, _⟩ => ⟨S8x2x64x64, .f32⟩
  | .hbm, ⟨20, _⟩ => ⟨S8x1x64x64, .f32⟩
  | .hbm, ⟨21, _⟩ => ⟨S8x64x64, .f32⟩
  | .hbm, ⟨22, _⟩ => ⟨S8x1x64x64, .f32⟩
  | .hbm, ⟨23, _⟩ => ⟨S8x64x64, .f32⟩
  | .hbm, ⟨24, _⟩ => ⟨S8x64x256, .f32⟩
  | .hbm, ⟨25, _⟩ => ⟨S8x1x64x64, .f32⟩
  | .hbm, ⟨26, _⟩ => ⟨S8x64x64, .f32⟩
  | .hbm, ⟨27, _⟩ => ⟨S8x1x64x64, .f32⟩
  | .hbm, ⟨28, _⟩ => ⟨S8x64x64, .f32⟩
  | .hbm, ⟨29, _⟩ => ⟨S8x64x256, .f32⟩
  | .hbm, ⟨30, _⟩ => ⟨S8x128x256, .f32⟩
  | .hbm, ⟨31, _⟩ => ⟨S8x128x256, .bf16⟩
  | .hbm, ⟨32, _⟩ => ⟨S128x1024, .bf16⟩
  | .hbm, ⟨33, _⟩ => ⟨S128x1024, .f32⟩
  | .hbm, ⟨34, _⟩ => ⟨S3x128x1024, .f32⟩
  | .local _ .vmem, ⟨0, _⟩ => ⟨S128x1024, .f32⟩
  | .local _ .vmem, ⟨1, _⟩ => ⟨S128x1024, .f32⟩
  | .local _ .vmem, ⟨2, _⟩ => ⟨S3x128x1024, .f32⟩
  | .local _ .vmem, ⟨3, _⟩ => ⟨S128x1024, .f32⟩
  | .local _ .vmem, ⟨4, _⟩ => ⟨S8x1024, .f32⟩
  | .local _ .vmem, ⟨5, _⟩ => ⟨S8x128x256, .bf16⟩
  | .local _ .vmem, ⟨6, _⟩ => ⟨S128x1024, .bf16⟩
  | .local _ .vmem, ⟨7, _⟩ => ⟨S128x1024, .f32⟩
  | .local _ .vmem, ⟨8, _⟩ => ⟨S3x128x1024, .f32⟩
  | _, _ => ⟨S128x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LruRefIdeal.lean ====
abbrev S128x10240 : Shape := ⟨2, ![128, 10240]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S16x64x64 : Shape := ⟨3, ![16, 64, 64]⟩
abbrev S128x1x1024 : Shape := ⟨3, ![128, 1, 1024]⟩
abbrev S128x4x1024 : Shape := ⟨3, ![128, 4, 1024]⟩
abbrev S1x1024 : Shape := ⟨2, ![1, 1024]⟩
abbrev S_ : Shape := ⟨0, ![]⟩
abbrev S128x16x64 : Shape := ⟨3, ![128, 16, 64]⟩
abbrev S16x64x128 : Shape := ⟨3, ![16, 64, 128]⟩
abbrev S3x128x1024 : Shape := ⟨3, ![3, 128, 1024]⟩

abbrev nBuf : Space → Nat
  | .hbm => 125
  | .vmem => 0
  | .smem => 0
  | _ => 0

abbrev bufTy : (tb : Table) → Fin (tcTables nBuf tb) → BufTy
  | .hbm, ⟨0, _⟩ => ⟨S128x10240, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S16x64x64, .f32⟩
  | .hbm, ⟨8, _⟩ => ⟨S1024, .f32⟩
  | .hbm, ⟨9, _⟩ => ⟨S1024, .f32⟩
  | .hbm, ⟨10, _⟩ => ⟨S128x1024, .f32⟩
  | .hbm, ⟨11, _⟩ => ⟨S128x1024, .f32⟩
  | .hbm, ⟨12, _⟩ => ⟨S128x1x1024, .f32⟩
  | .hbm, ⟨13, _⟩ => ⟨S128x4x1024, .f32⟩
  | .hbm, ⟨14, _⟩ => ⟨S1x1024, .f32⟩
  | .hbm, ⟨15, _⟩ => ⟨S1024, .f32⟩
  | .hbm, ⟨16, _⟩ => ⟨S128x1x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S1024, .f32⟩
  | .hbm, ⟨26, _⟩ => ⟨S128x1x1024, .f32⟩
  | .hbm, ⟨27, _⟩ => ⟨S128x1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S1x1024, .f32⟩
  | .hbm, ⟨33, _⟩ => ⟨S1024, .f32⟩
  | .hbm, ⟨34, _⟩ => ⟨S128x1x1024, .f32⟩
  | .hbm, ⟨35, _⟩ => ⟨S128x1024, .f32⟩
  | .hbm, ⟨36, _⟩ => ⟨S1x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S1x1024, .f32⟩
  | .hbm, ⟨41, _⟩ => ⟨S1024, .f32⟩
  | .hbm, ⟨42, _⟩ => ⟨S128x1x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S1x1024, .f32⟩
  | .hbm, ⟨49, _⟩ => ⟨S128x1024, .f32⟩
  | .hbm, ⟨50, _⟩ => ⟨S128x1024, .f32⟩
  | .hbm, ⟨51, _⟩ => ⟨S128x3x1024, .f32⟩
  | .hbm, ⟨52, _⟩ => ⟨S128x16x64, .f32⟩
  | .hbm, ⟨53, _⟩ => ⟨S16x64x128, .f32⟩
  | .hbm, ⟨54, _⟩ => ⟨S128x16x64, .f32⟩
  | .hbm, ⟨55, _⟩ => ⟨S128x1024, .f32⟩
  | .hbm, ⟨56, _⟩ => ⟨S1x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S_, .f32⟩
  | .hbm, ⟨65, _⟩ => ⟨S128x1024, .f32⟩
  | .hbm, ⟨66, _⟩ => ⟨S128x1024, .f32⟩
  | .hbm, ⟨67, _⟩ => ⟨S16x64x128, .f32⟩
  | .hbm, ⟨68, _⟩ => ⟨S128x16x64, .f32⟩
  | .hbm, ⟨69, _⟩ => ⟨S128x1024, .f32⟩
  | .hbm, ⟨70, _⟩ => ⟨S1x1024, .f32⟩
  | .hbm, ⟨71, _⟩ => ⟨S128x1024, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S_, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .i1⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1x1024, .f32⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S_, .f32⟩
  | .hbm, ⟨104, _⟩ => ⟨S128x1024, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S128x1024, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S_, .f32⟩
  | .hbm, ⟨119, _⟩ => ⟨S128x1024, .f32⟩
  | .hbm, ⟨120, _⟩ => ⟨S128x1024, .f32⟩
  | .hbm, ⟨121, _⟩ => ⟨S128x1024, .f32⟩
  | .hbm, ⟨122, _⟩ => ⟨S128x1024, .f32⟩
  | .hbm, ⟨123, _⟩ => ⟨S128x1024, .bf16⟩
  | .hbm, ⟨124, _⟩ => ⟨S3x128x1024, .f32⟩
  | _, _ => ⟨S128x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_cst_1 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Inproj.lean ====
abbrev S8192x2048 : Shape := ⟨2, ![8192, 2048]⟩
abbrev S1x2048 : Shape := ⟨2, ![1, 2048]⟩
abbrev S2048x10240 : Shape := ⟨2, ![2048, 10240]⟩
abbrev S2048x128 : Shape := ⟨2, ![2048, 128]⟩
abbrev S8192x10240 : Shape := ⟨2, ![8192, 10240]⟩
abbrev S8192x128 : Shape := ⟨2, ![8192, 128]⟩
abbrev S1024x2048 : Shape := ⟨2, ![1024, 2048]⟩
abbrev S2048x2048 : Shape := ⟨2, ![2048, 2048]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x10240, .bf16⟩
  | .hbm, ⟨3, _⟩ => ⟨S2048x128, .bf16⟩
  | .hbm, ⟨4, _⟩ => ⟨S8192x10240, .f32⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1024x2048, .f32⟩
  | .local _ .vmem, ⟨7, _⟩ => ⟨S1024x2048, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S8192x2048 : Shape := ⟨2, ![8192, 2048]⟩
abbrev S1x2048 : Shape := ⟨2, ![1, 2048]⟩
abbrev S2048x10240 : Shape := ⟨2, ![2048, 10240]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S8192x10240 : Shape := ⟨2, ![8192, 10240]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x10240, .bf16⟩
  | .hbm, ⟨3, _⟩ => ⟨S2048x128, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x10240, .f32⟩
  | .hbm, ⟨20, _⟩ => ⟨S8192x10240, .f32⟩
  | .hbm, ⟨21, _⟩ => ⟨S2048x128, .f32⟩
  | .hbm, ⟨22, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Head.lean ====
abbrev S128x2048 : Shape := ⟨2, ![128, 2048]⟩
abbrev S1x2048 : Shape := ⟨2, ![1, 2048]⟩
abbrev S1x2048x10368 : Shape := ⟨3, ![1, 2048, 10368]⟩
abbrev S1x1024x2048 : Shape := ⟨3, ![1, 1024, 2048]⟩
abbrev S1x2048x2048 : Shape := ⟨3, ![1, 2048, 2048]⟩
abbrev S2048x10240 : Shape := ⟨2, ![2048, 10240]⟩
abbrev S2048x128 : Shape := ⟨2, ![2048, 128]⟩
abbrev S128x10240 : Shape := ⟨2, ![128, 10240]⟩
abbrev S128x128 : Shape := ⟨2, ![128, 128]⟩
abbrev S1024x2048 : Shape := ⟨2, ![1024, 2048]⟩
abbrev S2048x2048 : Shape := ⟨2, ![2048, 2048]⟩
abbrev S1x2048x1024 : Shape := ⟨3, ![1, 2048, 1024]⟩
abbrev S1x2048x128 : Shape := ⟨3, ![1, 2048, 128]⟩
abbrev S1x128x2048 : Shape := ⟨3, ![1, 128, 2048]⟩
abbrev S1x256x2048 : Shape := ⟨3, ![1, 256, 2048]⟩
abbrev S2048x1024 : Shape := ⟨2, ![2048, 1024]⟩
abbrev S128x1024 : Shape := ⟨2, ![128, 1024]⟩
abbrev S256x2048 : Shape := ⟨2, ![256, 2048]⟩
abbrev S128 : Shape := ⟨1, ![128]⟩
abbrev S128x1 : Shape := ⟨2, ![128, 1]⟩
abbrev S1x2048x896 : Shape := ⟨3, ![1, 2048, 896]⟩
abbrev S2048x896 : Shape := ⟨2, ![2048, 896]⟩

abbrev nBuf : Space → Nat
  | .hbm => 13
  | .vmem => 26
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x10368, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S2048x10240, .bf16⟩
  | .hbm, ⟨7, _⟩ => ⟨S2048x128, .bf16⟩
  | .hbm, ⟨8, _⟩ => ⟨S128x10240, .f32⟩
  | .hbm, ⟨9, _⟩ => ⟨S128x128, .f32⟩
  | .hbm, ⟨10, _⟩ => ⟨S1024x2048, .bf16⟩
  | .hbm, ⟨11, _⟩ => ⟨S1024x2048, .bf16⟩
  | .hbm, ⟨12, _⟩ => ⟨S2048x2048, .bf16⟩
  | .local _ .vmem, ⟨0, _⟩ => ⟨S128x2048, .f32⟩
  | .local _ .vmem, ⟨1, _⟩ => ⟨S1x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x256x2048, .f32⟩
  | .local _ .vmem, ⟨12, _⟩ => ⟨S1x256x2048, .f32⟩
  | .local _ .vmem, ⟨13, _⟩ => ⟨S2048x1024, .bf16⟩
  | .local _ .vmem, ⟨14, _⟩ => ⟨S2048x1024, .bf16⟩
  | .local _ .vmem, ⟨15, _⟩ => ⟨S2048x128, .bf16⟩
  | .local _ .vmem, ⟨16, _⟩ => ⟨S128x1024, .f32⟩
  | .local _ .vmem, ⟨17, _⟩ => ⟨S128x1024, .f32⟩
  | .local _ .vmem, ⟨18, _⟩ => ⟨S128x128, .f32⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S256x2048, .bf16⟩
  | .local _ .vmem, ⟨24, _⟩ => ⟨S256x2048, .bf16⟩
  | .local _ .vmem, ⟨25, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32_2 : BitVec 32 := 3#32
  let v6 : BitVec 1 := Scalar.cmpi .sge arg0 c3_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c8_i32 : BitVec 32 := 8#32
  let v14 : BitVec 1 := Scalar.cmpi .slt arg0 c8_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c24_i32 : BitVec 32 := 24#32
  let c0_i32_1 : BitVec 32 := 0#32
  ![c0_i32.toNat, c0_i32_0.toNat, c24_i32.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== HeadRefIdeal.lean ====
abbrev S128x2048 : Shape := ⟨2, ![128, 2048]⟩
abbrev S1x2048 : Shape := ⟨2, ![1, 2048]⟩
abbrev S1x2048x10368 : Shape := ⟨3, ![1, 2048, 10368]⟩
abbrev S1x1024x2048 : Shape := ⟨3, ![1, 1024, 2048]⟩
abbrev S1x2048x2048 : Shape := ⟨3, ![1, 2048, 2048]⟩
abbrev S2048x10368 : Shape := ⟨2, ![2048, 10368]⟩
abbrev S_ : Shape := ⟨0, ![]⟩
abbrev S128 : Shape := ⟨1, ![128]⟩
abbrev S128x1 : Shape := ⟨2, ![128, 1]⟩
abbrev S128x10368 : Shape := ⟨2, ![128, 10368]⟩
abbrev S2048x3072 : Shape := ⟨2, ![2048, 3072]⟩
abbrev S2048x7168 : Shape := ⟨2, ![2048, 7168]⟩
abbrev S2048x10240 : Shape := ⟨2, ![2048, 10240]⟩
abbrev S2048x128 : Shape := ⟨2, ![2048, 128]⟩
abbrev S128x3072 : Shape := ⟨2, ![128, 3072]⟩
abbrev S128x7168 : Shape := ⟨2, ![128, 7168]⟩
abbrev S128x10240 : Shape := ⟨2, ![128, 10240]⟩
abbrev S128x128 : Shape := ⟨2, ![128, 128]⟩
abbrev S1024x2048 : Shape := ⟨2, ![1024, 2048]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x10368, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S2048x10368, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x10368, .f32⟩
  | .hbm, ⟨23, _⟩ => ⟨S2048x3072, .f32⟩
  | .hbm, ⟨24, _⟩ => ⟨S2048x7168, .f32⟩
  | .hbm, ⟨25, _⟩ => ⟨S2048x10240, .f32⟩
  | .hbm, ⟨26, _⟩ => ⟨S2048x10240, .bf16⟩
  | .hbm, ⟨27, _⟩ => ⟨S2048x128, .f32⟩
  | .hbm, ⟨28, _⟩ => ⟨S2048x128, .bf16⟩
  | .hbm, ⟨29, _⟩ => ⟨S128x3072, .f32⟩
  | .hbm, ⟨30, _⟩ => ⟨S128x7168, .f32⟩
  | .hbm, ⟨31, _⟩ => ⟨S128x10240, .f32⟩
  | .hbm, ⟨32, _⟩ => ⟨S128x128, .f32⟩
  | .hbm, ⟨33, _⟩ => ⟨S1024x2048, .f32⟩
  | .hbm, ⟨34, _⟩ => ⟨S1024x2048, .bf16⟩
  | .hbm, ⟨35, _⟩ => ⟨S1024x2048, .f32⟩
  | .hbm, ⟨36, _⟩ => ⟨S1024x2048, .bf16⟩
  | .hbm, ⟨37, _⟩ => ⟨S2048x2048, .f32⟩
  | .hbm, ⟨38, _⟩ => ⟨S2048x2048, .bf16⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.InprojBody.lean ====
/- The body of the in-projection call over its ideal program, with what it leaves named. -/
module

public import proofs.«01_k».proof.Proof.Gen.InprojIdeal.Frame
public import proofs.«01_k».proof.Proof.Gen.InprojIdeal.Skeleton
public import Idealize.ShloMosaic.Lib.Pipeline.ValueKit
public import Idealize.ShloMosaic.Lib.Claim
public import Idealize.ShloMosaic.Lib.Pipeline.TableIdle

@[expose] public section

set_option maxRecDepth 16384

noncomputable section

namespace Cert.InprojIdeal.Hand

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column step is the first of its row step. -/
abbrev first (i : grid0.Coords) : Prop := k0_cond1 i = 1#1

/-- The column step is the first exactly at the points divisible by 5. -/
theorem first_iff : ∀ t : Fin cfg0.N, first (grid0.coords t) ↔ t.val % 5 = 0 :=
  (fun t => by
    have ht : t.val < 40 := Nat.lt_of_lt_of_eq t.isLt N_0
    have e1 : (grid0.coords t 1).val = t.val / 1 % 5 := Pipeline.Grid.coords_val t 1 (by decide) rfl
    simp only [first, k0_cond1, e1]
    word_cmp
   : ∀ t : Fin grid0.N, first (grid0.coords t) ↔ t.val % 5 = 0)

/-- The normalised rows of one row step, written 128 rows at a time. -/
def hrows (x0 : Vec F S1024x2048 .f32) (x1 : Vec F S1x2048 .f32) : Vec F S1024x2048 .bf16 :=
  View.canon [⟨(Rect.unit (s := S1024x2048) ![896, 0] S128x2048.size inb_S1024x2048_S128x2048_896_0), k0_pay2 (View.ld x0 (Rect.unit (s := S1024x2048) ![896, 0] S128x2048.size inb_S1024x2048_S128x2048_896_0)) (View.ld x1 (Rect.unit (s := S1x2048) ![0, 0] S1x2048.size inb_S1x2048_S1x2048_0_0))⟩,
    ⟨(Rect.unit (s := S1024x2048) ![768, 0] S128x2048.size inb_S1024x2048_S128x2048_768_0), k0_pay1 (View.ld x0 (Rect.unit (s := S1024x2048) ![768, 0] S128x2048.size inb_S1024x2048_S128x2048_768_0)) (View.ld x1 (Rect.unit (s := S1x2048) ![0, 0] S1x2048.size inb_S1x2048_S1x2048_0_0)) (k0_pay12 (View.ld x0 (Rect.unit (s := S1024x2048) ![768, 0] S128x2048.size inb_S1024x2048_S128x2048_768_0))) k0_pay13⟩,
    ⟨(Rect.unit (s := S1024x2048) ![640, 0] S128x2048.size inb_S1024x2048_S128x2048_640_0), k0_pay11 (View.ld x0 (Rect.unit (s := S1024x2048) ![640, 0] S128x2048.size inb_S1024x2048_S128x2048_640_0)) (View.ld x1 (Rect.unit (s := S1x2048) ![0, 0] S1x2048.size inb_S1x2048_S1x2048_0_0))⟩,
    ⟨(Rect.unit (s := S1024x2048) ![512, 0] S128x2048.size inb_S1024x2048_S128x2048_512_0), k0_pay10 (View.ld x0 (Rect.unit (s := S1024x2048) ![512, 0] S128x2048.size inb_S1024x2048_S128x2048_512_0)) (View.ld x1 (Rect.unit (s := S1x2048) ![0, 0] S1x2048.size inb_S1x2048_S1x2048_0_0)) (k0_pay9 (View.ld x0 (Rect.unit (s := S1024x2048) ![512, 0] S128x2048.size inb_S1024x2048_S128x2048_512_0)))⟩,
    ⟨(Rect.unit (s := S1024x2048) ![384, 0] S128x2048.size inb_S1024x2048_S128x2048_384_0), k0_pay8 (View.ld x0 (Rect.unit (s := S1024x2048) ![384, 0] S128x2048.size inb_S1024x2048_S128x2048_384_0)) (View.ld x1 (Rect.unit (s := S1x2048) ![0, 0] S1x2048.size inb_S1x2048_S1x2048_0_0))⟩,
    ⟨(Rect.unit (s := S1024x2048) ![256, 0] S128x2048.size inb_S1024x2048_S128x2048_256_0), k0_pay7 (View.ld x0 (Rect.unit (s := S1024x2048) ![256, 0] S128x2048.size inb_S1024x2048_S128x2048_256_0)) (View.ld x1 (Rect.unit (s := S1x2048) ![0, 0] S1x2048.size inb_S1x2048_S1x2048_0_0))⟩,
    ⟨(Rect.unit (s := S1024x2048) ![128, 0] S128x2048.size inb_S1024x2048_S128x2048_128_0), k0_pay6 (View.ld x0 (Rect.unit (s := S1024x2048) ![128, 0] S128x2048.size inb_S1024x2048_S128x2048_128_0)) (View.ld x1 (Rect.unit (s := S1x2048) ![0, 0] S1x2048.size inb_S1x2048_S1x2048_0_0))⟩,
    ⟨(Rect.unit (s := S1024x2048) ![0, 0] S128x2048.size inb_S1024x2048_S128x2048_0_0), k0_pay5 (View.ld x0 (Rect.unit (s := S1024x2048) ![0, 0] S128x2048.size inb_S1024x2048_S128x2048_0_0)) (View.ld x1 (Rect.unit (s := S1x2048) ![0, 0] S1x2048.size inb_S1x2048_S1x2048_0_0))⟩]

/-- Its eight pieces tile the block. -/
theorem cover_h (p0 p1 p2 p3 p4 p5 p6 p7 : Vec F S128x2048 .bf16) (y : S1024x2048.Idx) :
    ∃ pc ∈ ([⟨(Rect.unit (s := S1024x2048) ![896, 0] S128x2048.size inb_S1024x2048_S128x2048_896_0), p0⟩,
    ⟨(Rect.unit (s := S1024x2048) ![768, 0] S128x2048.size inb_S1024x2048_S128x2048_768_0), p1⟩,
    ⟨(Rect.unit (s := S1024x2048) ![640, 0] S128x2048.size inb_S1024x2048_S128x2048_640_0), p2⟩,
    ⟨(Rect.unit (s := S1024x2048) ![512, 0] S128x2048.size inb_S1024x2048_S128x2048_512_0), p3⟩,
    ⟨(Rect.unit (s := S1024x2048) ![384, 0] S128x2048.size inb_S1024x2048_S128x2048_384_0), p4⟩,
    ⟨(Rect.unit (s := S1024x2048) ![256, 0] S128x2048.size inb_S1024x2048_S128x2048_256_0), p5⟩,
    ⟨(Rect.unit (s := S1024x2048) ![128, 0] S128x2048.size inb_S1024x2048_S128x2048_128_0), p6⟩,
    ⟨(Rect.unit (s := S1024x2048) ![0, 0] S128x2048.size inb_S1024x2048_S128x2048_0_0), p7⟩] : List (View.Piece (Elt F) S1024x2048 .bf16)), y ∈ pc.1.set :=
  View.cover_of_tiled [⟨(Rect.unit (s := S1024x2048) ![896, 0] S128x2048.size inb_S1024x2048_S128x2048_896_0), p0⟩,
    ⟨(Rect.unit (s := S1024x2048) ![768, 0] S128x2048.size inb_S1024x2048_S128x2048_768_0), p1⟩,
    ⟨(Rect.unit (s := S1024x2048) ![640, 0] S128x2048.size inb_S1024x2048_S128x2048_640_0), p2⟩,
    ⟨(Rect.unit (s := S1024x2048) ![512, 0] S128x2048.size inb_S1024x2048_S128x2048_512_0), p3⟩,
    ⟨(Rect.unit (s := S1024x2048) ![384, 0] S128x2048.size inb_S1024x2048_S128x2048_384_0), p4⟩,
    ⟨(Rect.unit (s := S1024x2048) ![256, 0] S128x2048.size inb_S1024x2048_S128x2048_256_0), p5⟩,
    ⟨(Rect.unit (s := S1024x2048) ![128, 0] S128x2048.size inb_S1024x2048_S128x2048_128_0), p6⟩,
    ⟨(Rect.unit (s := S1024x2048) ![0, 0] S128x2048.size inb_S1024x2048_S128x2048_0_0), p7⟩] S128x2048.size (by rfl) y

theorem cover_z (p : Vec F S1024x2048 .f32) (y : S1024x2048.Idx) :
    ∃ pc ∈ ([⟨Rect.unit (s := S1024x2048) ![0, 0] S1024x2048.size inb_S1024x2048_S1024x2048_0_0, p⟩] : List (View.Piece (Elt F) S1024x2048 .f32)), y ∈ pc.1.set :=
  View.cover_of_tiled [_] S1024x2048.size (by rfl) y

theorem cover_zl (p : Vec F S1024x128 .f32) (y : S1024x128.Idx) :
    ∃ pc ∈ ([⟨Rect.unit (s := S1024x128) ![0, 0] S1024x128.size inb_S1024x128_S1024x128_0_0, p⟩] : List (View.Piece (Elt F) S1024x128 .f32)), y ∈ pc.1.set :=
  View.cover_of_tiled [_] S1024x128.size (by rfl) y

/-- A whole load back of the eight stored pieces is the rows they make. -/
theorem load_h (v : View sig .tc .vmem S1024x2048 .bf16) (x0 : Vec F S1024x2048 .f32) (x1 : Vec F S1x2048 .f32) :
    View.readCov v [⟨(Rect.unit (s := S1024x2048) ![896, 0] S128x2048.size inb_S1024x2048_S128x2048_896_0), k0_pay2 (View.ld x0 (Rect.unit (s := S1024x2048) ![896, 0] S128x2048.size inb_S1024x2048_S128x2048_896_0)) (View.ld x1 (Rect.unit (s := S1x2048) ![0, 0] S1x2048.size inb_S1x2048_S1x2048_0_0))⟩,
    ⟨(Rect.unit (s := S1024x2048) ![768, 0] S128x2048.size inb_S1024x2048_S128x2048_768_0), k0_pay1 (View.ld x0 (Rect.unit (s := S1024x2048) ![768, 0] S128x2048.size inb_S1024x2048_S128x2048_768_0)) (View.ld x1 (Rect.unit (s := S1x2048) ![0, 0] S1x2048.size inb_S1x2048_S1x2048_0_0)) (k0_pay12 (View.ld x0 (Rect.unit (s := S1024x2048) ![768, 0] S128x2048.size inb_S1024x2048_S128x2048_768_0))) k0_pay13⟩,
    ⟨(Rect.unit (s := S1024x2048) ![640, 0] S128x2048.size inb_S1024x2048_S128x2048_640_0), k0_pay11 (View.ld x0 (Rect.unit (s := S1024x2048) ![640, 0] S128x2048.size inb_S1024x2048_S128x2048_640_0)) (View.ld x1 (Rect.unit (s := S1x2048) ![0, 0] S1x2048.size inb_S1x2048_S1x2048_0_0))⟩,
    ⟨(Rect.unit (s := S1024x2048) ![512, 0] S128x2048.size inb_S1024x2048_S128x2048_512_0), k0_pay10 (View.ld x0 (Rect.unit (s := S1024x2048) ![512, 0] S128x2048.size inb_S1024x2048_S128x2048_512_0)) (View.ld x1 (Rect.unit (s := S1x2048) ![0, 0] S1x2048.size inb_S1x2048_S1x2048_0_0)) (k0_pay9 (View.ld x0 (Rect.unit (s := S1024x2048) ![512, 0] S128x2048.size inb_S1024x2048_S128x2048_512_0)))⟩,
    ⟨(Rect.unit (s := S1024x2048) ![384, 0] S128x2048.size inb_S1024x2048_S128x2048_384_0), k0_pay8 (View.ld x0 (Rect.unit (s := S1024x2048) ![384, 0] S128x2048.size inb_S1024x2048_S128x2048_384_0)) (View.ld x1 (Rect.unit (s := S1x2048) ![0, 0] S1x2048.size inb_S1x2048_S1x2048_0_0))⟩,
    ⟨(Rect.unit (s := S1024x2048) ![256, 0] S128x2048.size inb_S1024x2048_S128x2048_256_0), k0_pay7 (View.ld x0 (Rect.unit (s := S1024x2048) ![256, 0] S128x2048.size inb_S1024x2048_S128x2048_256_0)) (View.ld x1 (Rect.unit (s := S1x2048) ![0, 0] S1x2048.size inb_S1x2048_S1x2048_0_0))⟩,
    ⟨(Rect.unit (s := S1024x2048) ![128, 0] S128x2048.size inb_S1024x2048_S128x2048_128_0), k0_pay6 (View.ld x0 (Rect.unit (s := S1024x2048) ![128, 0] S128x2048.size inb_S1024x2048_S128x2048_128_0)) (View.ld x1 (Rect.unit (s := S1x2048) ![0, 0] S1x2048.size inb_S1x2048_S1x2048_0_0))⟩,
    ⟨(Rect.unit (s := S1024x2048) ![0, 0] S128x2048.size inb_S1024x2048_S128x2048_0_0), k0_pay5 (View.ld x0 (Rect.unit (s := S1024x2048) ![0, 0] S128x2048.size inb_S1024x2048_S128x2048_0_0)) (View.ld x1 (Rect.unit (s := S1x2048) ![0, 0] S1x2048.size inb_S1x2048_S1x2048_0_0))⟩] (Rect.unit (s := S1024x2048) ![0, 0] S1024x2048.size inb_S1024x2048_S1024x2048_0_0).toLoadRect = hrows x0 x1 := by
  rw [View.readCov_eq_canon_ld _ _ _ (cover_h _ _ _ _ _ _ _ _)]
  exact View.ld_unit_lit _ _ (by decide)

set_option maxHeartbeats 1000000 in
/-- The body at a first column step: it makes the normalised rows, both products from them, and keeps the rows. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x2048 .bf16) (harg8 : arg8.IsWhole) (hc0 : first i)
    (x0 : Vec F S1024x2048 .f32) (x1 : Vec F S1x2048 .f32) (x2 : Vec F S2048x2048 .bf16) (x3 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (hrows x0 x1) x2) ∗ owns (c : Thread nD τ) arg7 fullShare (k0_pay3 (hrows x0 x1) x3) ∗ owns (c : Thread nD τ) arg8 fullShare (hrows x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
    simp only [cc0_inproj_eq_skeleton]; unfold cc0_inproj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    subst hf0 hf1 hf2 hf3
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (cover_z _)).trans ?_
      refine (View.canon_cons_unit_lit _ _ _ (by decide)).trans ?_
      exact congrArg₂ k0_pay4 (load_h _ _ _) (View.ld_unit_lit _ _ (by decide))
    isplitl [H5]
    · iexists _; isplitr
      swap; · iexact H5
      ipureintro
      refine (View.read_writes_eq_canon _ _ _ (cover_zl _)).trans ?_
      refine (View.canon_cons_unit_lit _ _ _ (by decide)).trans ?_
      exact congrArg₂ k0_pay3 (load_h _ _ _) (View.ld_unit_lit _ _ (by decide))
    iexists _; isplitr
    swap; · iexact HS0
    ipureintro
    exact (View.read_writes_eq_canon _ _ _ (cover_h _ _ _ _ _ _ _ _)).trans rfl

set_option maxHeartbeats 1000000 in
/-- The body at any other column step: the large product from the rows it finds. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1024x2048 .f32) (harg6 : arg6.IsWhole) (arg7 : Memref sig .tc .vmem S1024x128 .f32) (harg7 : arg7.IsWhole) (arg8 : Memref sig .tc .vmem S1024x2048 .bf16) (harg8 : arg8.IsWhole) (hc0 : ¬ first i)
    (x0 : Vec F S1024x2048 .f32) (x1 : Vec F S1x2048 .f32) (x2 : Vec F S2048x2048 .bf16) (x3 : Vec F S2048x128 .bf16) (y : Vec F S1024x128 .f32) (h : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 h x2) ∗ owns (c : Thread nD τ) arg7 fullShare y ∗ owns (c : Thread nD τ) arg8 fullShare h) -∗ K ⟨⟩))
      ⊢ wp frame (wpE (defs₀ (F := F)) Variants.none c none) E (cc0_inproj i arg2 harg2 arg3 harg3 arg4 harg4 arg5 harg5 arg6 harg6 arg7 harg7 arg8 harg8) K := by
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    subst hf0 hf1 hf2 hf3 hf5 hfs0
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (cover_z _)).trans ?_
      refine (View.canon_cons_unit_lit _ _ _ (by decide)).trans ?_
      exact congrArg₂ k0_pay4 (View.ld_unit_lit _ _ (by decide)) (View.ld_unit_lit _ _ (by decide))
    isplitl [H5]
    · iexists f5; isplitr; · ipureintro; rfl
      iexact H5
    iexists fs0; isplitr; · ipureintro; rfl
    iexact HS0

/-! ## The proof data -/

variable (m : (ℓ : Loc nD τ sig) → Buf (Elt F) ℓ) (ρ : Dev nD → PrngReg)

/-- The first point of the row step that point `n` belongs to. -/
def rowPt (n : ℕ) (h : n < cfg0.N) : Fin cfg0.N := ⟨5 * (n / 5), by have := Nat.mul_div_le n 5; omega⟩

theorem rowPt_first (t : Fin cfg0.N) (h : t.val % 5 = 0) : rowPt t.val t.isLt = t := by
  apply Fin.ext; show 5 * (t.val / 5) = t.val; omega

/-- Within a row step the first point stays. -/
theorem rowPt_pred (t : Fin cfg0.N) (h : ¬ t.val % 5 = 0) (h' : t.val - 1 < cfg0.N) : rowPt (t.val - 1) h' = rowPt t.val t.isLt := by
  apply Fin.ext; show 5 * ((t.val - 1) / 5) = 5 * (t.val / 5); omega

/-- The normalised rows of the row step that starts at point `s`. -/
def hAt (c : Dev nD) (s : Fin cfg0.N) : Vec F S1024x2048 .bf16 := hrows (iblk m c 0 s) (iblk m c 1 s)

/-- The scratch operand. -/
abbrev scM : Memref sig .tc .vmem S1024x2048 .bf16 := Memref.whole cc0_scratch0

/-- What the scratch holds before point `n`: at a row step's start anything, later the row step's normalised rows. -/
def scr (c : Dev nD) (n : ℕ) (h : n ≤ cfg0.N) : sProp 𝕄 :=
  if hn : n % 5 = 0 then iprop(∃ d, owns (c : Thread nD τ) scM fullShare d)
  else owns (c : Thread nD τ) scM fullShare (hAt m c (rowPt (n - 1) (by omega)))

theorem scr_any (c : Dev nD) (n : ℕ) (h : n ≤ cfg0.N) : scr m c n h ⊢ iprop(∃ d, owns (c : Thread nD τ) scM fullShare d) := by
  unfold scr
  split
  · exact .rfl
  · iintro H; iexists _; iexact H

theorem scr_of (c : Dev nD) (t : Fin cfg0.N) : owns (c : Thread nD τ) scM fullShare (hAt m c (rowPt t.val t.isLt)) ⊢ scr m c (t.val + 1) t.isLt := by
  unfold scr
  split
  · iintro H; iexists _; iexact H
  · exact .rfl

/-- The proof data: each input's buffer at its block, the wide product from the row step's rows and the point's
    columns of the weight, the narrow one from the row step's rows, and the scratch as `scr` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (hAt m c (rowPt t.val t.isLt)) (iblk m c 2 t)
    | ⟨5, _⟩ => k0_pay3 (hAt m c (rowPt t.val t.isLt)) (iblk m c 3 (rowPt t.val t.isLt))
  Φ n := iprop(scr m c n.val (Nat.le_of_lt_succ n.isLt) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (hAt m c (rowPt t.val t.isLt)) (iblk m c 2 t) := by dsimp only [dats]
theorem after_5 (c : Dev nD) (t : Fin cfg0.N) : (dats m 0 c).after 5 t = k0_pay3 (hAt m c (rowPt t.val t.isLt)) (iblk m c 3 (rowPt t.val t.isLt)) := by dsimp only [dats]

theorem live_5 (t : Fin cfg0.N) (h : t.val % 5 = 0) : cfg0.idle 5 (grid0.coords t) = false := by
  show (!(k0_cond1 (grid0.coords t) == 1#1)) = false
  rw [show k0_cond1 (grid0.coords t) = 1#1 from (first_iff t).mpr h]; rfl

theorem idle_5 (t : Fin cfg0.N) (h : ¬ t.val % 5 = 0) : cfg0.idle 5 (grid0.coords t) = true := by
  show (!(k0_cond1 (grid0.coords t) == 1#1)) = true
  rw [beq_eq_false_iff_ne.mpr (fun e => h ((first_iff t).mp e))]; rfl

theorem fresh_5 : ∀ t : Fin cfg0.N, cfg0.fresh 5 t.val = true ↔ t.val % 5 = 0 := by decide +kernel

/-- The narrow product does not change within a row step. -/
theorem after_5_pred (c : Dev nD) (t : Fin cfg0.N) (h : ¬ t.val % 5 = 0) (h' : t.val - 1 < cfg0.N) :
    (dats m 0 c).after 5 t = (dats m 0 c).after 5 ⟨t.val - 1, h'⟩ := by
  rw [after_5, after_5, rowPt_pred t h]

/-- At a later column step the narrow product is still in its buffer. -/
theorem before_5 (c : Dev nD) (t : Fin cfg0.N) (h : ¬ t.val % 5 = 0) (d) :
    (dats m 0 c).before 5 t d = (dats m 0 c).after 5 t := by
  have hf : ¬ cfg0.fresh 5 t.val = true := fun e => h ((fresh_5 t).mp e)
  rw [(dats m 0 c).before_out_traj 5 rfl (fun _ _ => rfl) (fun s _ _ hs => after_5_pred m c s (fun e => by
      rw [(fresh_5 s).mpr e] at hs; exact absurd hs (by decide)) _) t.val t rfl d, if_neg hf, after_5_pred m c t h]

/-- The narrow product in its buffer is what the obligation asks of the point, written back there or not. -/
theorem leaves_5 (c : Dev nD) (t : Fin cfg0.N) :
    owns (c : Thread nD τ) (st0_5 t) fullShare ((dats m 0 c).after 5 t) ⊢ (dats m 0 c).leavesExact 5 t := by
  by_cases h0 : t.val % 5 = 0
  · unfold Dat.leavesExact; rw [live_5 t h0]
  · cases hf : (cfg0.win 5).flush t
    · rw [(dats m 0 c).leavesExact_idle 5 t (idle_5 t h0) hf]
      iintro H; iexists default; rw [before_5 m c t h0]; iexact H
    · unfold Dat.leavesExact; rw [idle_5 t h0, hf]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (dats m 0 c).leavesExact 5 t)

set_option maxHeartbeats 800000 in
/-- The body at any point takes the proof data one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).owesAt () t.succ = (dats m 0 c).owesAt () t.castSucc from rfl,
    show (dats m 0 c).Φ t.castSucc = iprop(scr m c t.val t.isLt.le ∗ (∃ r, prngReg c r)) from rfl,
    show (dats m 0 c).Φ t.succ = iprop(scr m c (t.val + 1) t.isLt ∗ (∃ r, prngReg c r)) from rfl,
    after_0, after_1, after_2, after_3, after_4]
  by_cases h0 : t.val % 5 = 0
  · rw [rowPt_first t h0]
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iapply (scr_any m c t.val t.isLt.le); iexact HS
    iintro ⟨H0, H1, H2, H3, H4, H5, HS⟩
    isplitl [HS Hg]
    · isplitl [HS]
      · iapply (scr_of m c t); rw [rowPt_first t h0]; iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t); rw [after_5, rowPt_first t h0]; iexact H5
  · simp only [before_5 m c t h0]
    rw [show scr m c t.val t.isLt.le = owns (c : Thread nD τ) scM fullShare (hAt m c (rowPt t.val t.isLt)) from by
      unfold scr; rw [dif_neg h0, rowPt_pred t h0]]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((first_iff t).mp h)) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iapply (scr_of m c t); iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t); iexact H5

/-- The body table's row at point `t`. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's own invariant: the scratch at some contents and the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem enters (c : Dev nD) : Pipeline.ΦA spec0 c ⊢ (dats m 0 c).Φ 0 := by
  rw [PhiA_eq, show (dats m 0 c).Φ 0 = iprop(scr m c 0 (Nat.zero_le _) ∗ (∃ r, prngReg c r)) from rfl]
  unfold scr; rw [dif_pos rfl]

theorem leaves (c : Dev nD) : (dats m 0 c).Φ (Fin.last cfg0.N) ⊢ Pipeline.ΦA spec0 c := by
  rw [PhiA_eq, show (dats m 0 c).Φ (Fin.last cfg0.N) = iprop(scr m c cfg0.N le_rfl ∗ (∃ r, prngReg c r)) from rfl]
  iintro ⟨HS, Hg⟩
  isplitl [HS]; · iapply (scr_any m c _ _); iexact HS
  iexact Hg

set_option backward.isDefEq.respectTransparency.types false in
/-- Every run of the call ends with each array at what the proof data say, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.InprojIdeal.Hand

end
-- ==== Proof.InprojValue.lean ====
/- The values of the in-projection call: each result array is the reference's term. -/
module

public import proofs.«01_k».proof.Proof.InprojBody
public import proofs.«01_k».proof.Proof.Gen.InprojRefIdeal.Run
public import Idealize.ShloMosaic.Lib.Pointwise

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)

/-- The reference's normalised rows. -/
def refRows (X : FVec Ideal S8192x2048 .f32) (G : FVec Ideal S1x2048 .f32) : FVec Ideal S8192x2048 .f32 :=
  mulf (mulf X (broadcastInDim Cert.InprojRefIdeal.S8192x2048 ![0, 1] Cert.InprojRefIdeal.Gen.bcast_S8192x1_S8192x2048_0_1 (Host.rsqrt (addf (Host.divf (broadcastInDim Cert.InprojRefIdeal.S8192x1 ![0] Cert.InprojRefIdeal.Gen.bcast_S8192_S8192x1_0 (Host.reduceAdd (mulf X X) (constant Cert.InprojRefIdeal.S_ .f32 0x00000000#32) Cert.InprojRefIdeal.Gen.reducesTo_S8192x2048_S8192_d1 Cert.InprojRefIdeal.Gen.h_S_)) (broadcastInDim Cert.InprojRefIdeal.S8192x1 ![] Cert.InprojRefIdeal.Gen.bcast_S_S8192x1 (constant Cert.InprojRefIdeal.S_ .f32 0x45000000#32))) (broadcastInDim Cert.InprojRefIdeal.S8192x1 ![] Cert.InprojRefIdeal.Gen.bcast_S_S8192x1 (constant Cert.InprojRefIdeal.S_ .f32 0x358637BD#32)))))) (broadcastInDim Cert.InprojRefIdeal.S8192x2048 ![0, 1] Cert.InprojRefIdeal.Gen.bcast_S1x2048_S8192x2048_0_1 G)

/-- The reference's wide product. -/
def refZ (X : FVec Ideal S8192x2048 .f32) (G : FVec Ideal S1x2048 .f32) (W : FVec Ideal S2048x10240 .bf16) : FVec Ideal S8192x10240 .f32 :=
  Host.dotGeneral Cert.InprojRefIdeal.dot_S8192x2048_S2048x10240_S8192x10240_1_0_0_1_n_n none (refRows X G) (extf .f32 W Cert.InprojRefIdeal.Gen.bitsLt_bf16_f32)

/-- The reference's narrow product. -/
def refZl (X : FVec Ideal S8192x2048 .f32) (G : FVec Ideal S1x2048 .f32) (W : FVec Ideal S2048x128 .bf16) : FVec Ideal S8192x128 .f32 :=
  Host.dotGeneral Cert.InprojRefIdeal.dot_S8192x2048_S2048x128_S8192x128_1_0_0_1_n_n none (refRows X G) (extf .f32 W Cert.InprojRefIdeal.Gen.bitsLt_bf16_f32)

/-- A row's entry, normalised: what each of the eight pieces stores. -/
def rms {n : ℕ} (x : FVec Ideal ⟨2, ![n, 2048]⟩ .f32) (g : FVec Ideal S1x2048 .f32) (r : Fin n) (k : Fin 2048) : EReal :=
  x (ix2 r k) * Ideal.rsqrt (Ideal.div (∑ l, x (ix2 r l) * x (ix2 r l)) (Ideal.ofBits .f32 0x45000000#32) + Ideal.ofBits .f32 0x358637BD#32) * g (ix2 0 k)

theorem refRows_at (X : FVec Ideal S8192x2048 .f32) (G : FVec Ideal S1x2048 .f32) (r : Fin 8192) (k : Fin 2048) :
    refRows X G (ix2 r k) = rms X G r k := by
  pointwise [refRows, rms]

/-- The whole block of normalised rows, entry by entry. -/
theorem hrows_at (x : FVec Ideal S1024x2048 .f32) (g : FVec Ideal S1x2048 .f32) (y : S1024x2048.Idx) :
    hrows (F := Ideal) x g y = rms x g (y 0) (y 1) := by
  unfold hrows
  canon_tiles u h
  all_goals
    pointwise [k0_pay1, k0_pay2, k0_pay5, k0_pay6, k0_pay7, k0_pay8, k0_pay9, k0_pay10, k0_pay11, k0_pay12, k0_pay13, rms]
    blk_point

variable (m : (ℓ : Loc nD τ sig) → Buf (Elt Ideal) ℓ)

/-- The windows' index maps at every point. -/
theorem idx_val : ∀ t : Fin cfg0.N, win0_0.index t = ![t.val / 5, 0] ∧ win0_1.index t = ![0, 0] ∧ win0_2.index t = ![0, t.val % 5]
    ∧ win0_3.index t = ![0, 0] ∧ win0_4.index t = ![t.val / 5, t.val % 5] ∧ win0_5.index t = ![t.val / 5, 0] :=
  (by decide +kernel : ∀ t : Fin grid0.N, _)

/-- The row step's normalised rows are the reference's. -/
theorem hAt_at (c : Dev nD) (s : Fin cfg0.N) (r : Fin 1024) (k : Fin 2048) (R : Fin 8192) (hR : (R : ℕ) = s.val / 5 * 1024 + r) :
    hAt m c s (ix2 r k) = refRows (m ((c : Thread nD τ).loc main_arg0)) (m ((c : Thread nD τ).loc main_arg1)) (ix2 R k) := by
  rw [refRows_at]
  refine (hrows_at _ _ _).trans ?_
  unfold rms
  blk_point [iblk, V, idx_val s]

/-- The wide product's array. -/
theorem final4 (c : Dev nD) : (dats m 0 c).arrAt 4 (cfgs 0).N
    = refZ (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  pointwise [k0_pay4, refZ]
  refine Fin.sum_fin_congr fun k => Ideal.mul_congr ?_ ?_
  · refine hAt_at m c (rowPt t.val t.isLt) (y 0) k _ ?_
    blk_simp [idx_val t]
    show _ = 5 * (t.val / 5) / 5 * 1024 + _
    omega
  · blk_ext [iblk, V, idx_val t]

/-- The narrow product's array. -/
theorem final5 (c : Dev nD) : (dats m 0 c).arrAt 5 (cfgs 0).N
    = refZl (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after_5]
  pointwise [k0_pay3, refZl]
  refine Fin.sum_fin_congr fun k => Ideal.mul_congr ?_ ?_
  · refine hAt_at m c (rowPt t.val t.isLt) (y 0) k _ ?_
    blk_simp [idx_val t]
    show _ = 5 * (t.val / 5) / 5 * 1024 + _
    omega
  · blk_ext [iblk, V, idx_val (rowPt t.val t.isLt), idx_val t]

/-- Every run of the call ends with both arrays at the reference's terms, the arguments as they began, every counter at zero. -/
theorem run_values (ρ : Dev nD → PrngReg) : θ_run defs (onTc (τ := τ) (main (F := Ideal))) ⟨m, fun _ => 0, ρ⟩ (fun r =>
    Pipeline.FramePost cfgs (dats m) 0 (V m) r) :=
  (θ_run defs _ _).mono (fun _ h => h.1) (run_main_quiescent m ρ)

end Cert.InprojIdeal.Hand

end
-- ==== Proof.InprojClaim.lean ====
/- The claims about the in-projection call. -/
module

public import proofs.«01_k».proof.Defs
public import proofs.«01_k».proof.Proof.InprojValue
public import proofs.«01_k».proof.Proof.InprojBits

@[expose] public section

set_option maxRecDepth 16384

noncomputable section

namespace Cert.Proof

open Idealize.ShloMosaic Idealize.SL.Sem

theorem inproj_frame : Cert.quiescent_Inproj := by
  intro m g _
  exact Cert.Inproj.Hand.frame m g

theorem inproj_ideal_frame : Cert.quiescent_InprojIdeal := by
  intro m g _
  exact Cert.InprojIdeal.Hand.frame m g

theorem inproj_ref_frame : Cert.quiescent_InprojRefIdeal := fun m g _ =>
  (θ_run Cert.InprojRefIdeal.defs _ _).mono (fun r h => ⟨fun c => (h c).2.2, sem_eq_zero_of_no_sems (by decide) r.2⟩)
    (Cert.InprojRefIdeal.Value.run (F := Ideal) m g)

theorem inproj_preserves : Cert.preserves_Inproj_InprojIdeal := trivial

theorem inproj_algebraic : Cert.algebraic_InprojIdeal_InprojRefIdeal := by
  pair_intro
  · run_from Cert.InprojIdeal.Hand.run_values m g
  · run_from Cert.InprojRefIdeal.Value.run m' g'
    · exact (Cert.InprojIdeal.Hand.final4 m c).symm
    · exact (Cert.InprojIdeal.Hand.final5 m c).symm

end Cert.Proof

end
-- ==== Proof.HeadBody.lean ====
/- The body of the in-projection of the samples over its ideal program, with what it leaves named. -/
module

public import proofs.«01_k».proof.Proof.Gen.HeadIdeal.Frame
public import proofs.«01_k».proof.Proof.Gen.HeadIdeal.Skeleton
public import Idealize.ShloMosaic.Lib.Pipeline.ValueKit
public import Idealize.ShloMosaic.Lib.Claim
public import Idealize.ShloMosaic.Lib.Pipeline.TableIdle

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coords_val : ∀ t : Fin cfg0.N, ((grid0.coords t) 0).val = t.val := by decide +kernel
theorem first_iff : ∀ t : Fin cfg0.N, k0_cond1 (grid0.coords t) = 1#1 ↔ t.val = 0 := by decide +kernel
theorem plain_iff : ∀ t : Fin cfg0.N, k0_cond2 (grid0.coords t) = 1#1 ↔ t.val < 3 := by decide +kernel
theorem shifted_iff : ∀ t : Fin cfg0.N, k0_cond3 (grid0.coords t) = 1#1 ↔ ¬ t.val < 3 := by decide +kernel
theorem copies_iff : ∀ t : Fin cfg0.N, k0_cond4 (grid0.coords t) = 1#1 ↔ t.val < 8 := by decide +kernel

/-- A column step's narrowed weight columns past the low-rank ones: its own columns from 128 on, then the next 128. -/
def wShift (x2 : Vec F S1x2048x1024 .f32) (x3 : Vec F S1x2048x128 .f32) : Vec F S2048x1024 .bf16 :=
  View.canon [⟨Rect.unit (s := S2048x1024) ![0, 896] S2048x128.size inb_S2048x1024_S2048x128_0_896, k0_pay6 x3⟩, ⟨Rect.unit (s := S2048x1024) ![0, 0] S2048x896.size inb_S2048x1024_S2048x896_0_0, k0_pay5 (View.ld x2 (Rect.unit (s := S1x2048x1024) ![0, 0, 128] S1x2048x896.size inb_S1x2048x1024_S1x2048x896_0_0_128))⟩]

/-- A column step's narrowed weight columns. -/
def wCols (i : grid0.Coords) (x2 : Vec F S1x2048x1024 .f32) (x3 : Vec F S1x2048x128 .f32) : Vec F S2048x1024 .bf16 :=
  if k0_cond2 i = 1#1 then k0_pay4 x2 else wShift x2 x3

theorem cover_w (p0 : Vec F S2048x896 .bf16) (p1 : Vec F S2048x128 .bf16) (y : S2048x1024.Idx) :
    ∃ pc ∈ ([⟨Rect.unit (s := S2048x1024) ![0, 896] S2048x128.size inb_S2048x1024_S2048x128_0_896, p1⟩, ⟨Rect.unit (s := S2048x1024) ![0, 0] S2048x896.size inb_S2048x1024_S2048x896_0_0, p0⟩] : List (View.Piece (Elt F) S2048x1024 .bf16)), y ∈ pc.1.set := by
  have h0 : (y 0).val < 2048 := (y 0).isLt
  have h1 : (y 1).val < 1024 := (y 1).isLt
  by_cases e1 : (y 1).val < 896
  · refine ⟨_, .tail _ (.head _), (Rect.mem_set_unit (inb := inb_S2048x1024_S2048x896_0_0)).mpr fun q => ?_⟩
    fin_cases q
    · exact ⟨Nat.zero_le _, by show (y 0).val < 0 + 2048; omega⟩
    · exact ⟨Nat.zero_le _, by show (y 1).val < 0 + 896; omega⟩
  · refine ⟨_, .head _, (Rect.mem_set_unit (inb := inb_S2048x1024_S2048x128_0_896)).mpr fun q => ?_⟩
    fin_cases q
    · exact ⟨Nat.zero_le _, by show (y 0).val < 0 + 2048; omega⟩
    · exact ⟨by show 896 ≤ (y 1).val; omega, by show (y 1).val < 896 + 128; omega⟩

theorem cover_S128x2048 (p : Vec F S128x2048 .bf16) (y : S128x2048.Idx) : ∃ pc ∈ ([⟨Rect.unit (s := S128x2048) ![0, 0] S128x2048.size inb_S128x2048_S128x2048_0_0, p⟩] : List (View.Piece (Elt F) S128x2048 .bf16)), y ∈ pc.1.set :=
  View.cover_of_tiled [_] S128x2048.size (by rfl) y
theorem got_S128x2048 (v : View sig .tc .vmem S128x2048 .bf16) (p : Vec F S128x2048 .bf16) (f : v.ty.Contents (Elt F)) : View.read (Elt F) v (View.writes v (Elt F) f [⟨Rect.unit (s := S128x2048) ![0, 0] S128x2048.size inb_S128x2048_S128x2048_0_0, p⟩]) = p :=
  (View.read_writes_eq_canon _ _ _ (cover_S128x2048 _)).trans (View.canon_cons_unit_lit _ _ _ (by decide))
theorem load_S128x2048 (v : View sig .tc .vmem S128x2048 .bf16) (p : Vec F S128x2048 .bf16) : View.readCov v [⟨Rect.unit (s := S128x2048) ![0, 0] S128x2048.size inb_S128x2048_S128x2048_0_0, p⟩] (Rect.unit (s := S128x2048) ![0, 0] S128x2048.size inb_S128x2048_S128x2048_0_0).toLoadRect = p := by
  rw [View.readCov_eq_canon_ld _ _ _ (cover_S128x2048 _)]
  exact (View.ld_unit_lit _ _ (by decide)).trans (View.canon_cons_unit_lit _ _ _ (by decide))
theorem cover_S2048x128 (p : Vec F S2048x128 .bf16) (y : S2048x128.Idx) : ∃ pc ∈ ([⟨Rect.unit (s := S2048x128) ![0, 0] S2048x128.size inb_S2048x128_S2048x128_0_0, p⟩] : List (View.Piece (Elt F) S2048x128 .bf16)), y ∈ pc.1.set :=
  View.cover_of_tiled [_] S2048x128.size (by rfl) y
theorem got_S2048x128 (v : View sig .tc .vmem S2048x128 .bf16) (p : Vec F S2048x128 .bf16) (f : v.ty.Contents (Elt F)) : View.read (Elt F) v (View.writes v (Elt F) f [⟨Rect.unit (s := S2048x128) ![0, 0] S2048x128.size inb_S2048x128_S2048x128_0_0, p⟩]) = p :=
  (View.read_writes_eq_canon _ _ _ (cover_S2048x128 _)).trans (View.canon_cons_unit_lit _ _ _ (by decide))
theorem load_S2048x128 (v : View sig .tc .vmem S2048x128 .bf16) (p : Vec F S2048x128 .bf16) : View.readCov v [⟨Rect.unit (s := S2048x128) ![0, 0] S2048x128.size inb_S2048x128_S2048x128_0_0, p⟩] (Rect.unit (s := S2048x128) ![0, 0] S2048x128.size inb_S2048x128_S2048x128_0_0).toLoadRect = p := by
  rw [View.readCov_eq_canon_ld _ _ _ (cover_S2048x128 _)]
  exact (View.ld_unit_lit _ _ (by decide)).trans (View.canon_cons_unit_lit _ _ _ (by decide))
theorem cover_S128x128 (p : Vec F S128x128 .f32) (y : S128x128.Idx) : ∃ pc ∈ ([⟨Rect.unit (s := S128x128) ![0, 0] S128x128.size inb_S128x128_S128x128_0_0, p⟩] : List (View.Piece (Elt F) S128x128 .f32)), y ∈ pc.1.set :=
  View.cover_of_tiled [_] S128x128.size (by rfl) y
theorem got_S128x128 (v : View sig .tc .vmem S128x128 .f32) (p : Vec F S128x128 .f32) (f : v.ty.Contents (Elt F)) : View.read (Elt F) v (View.writes v (Elt F) f [⟨Rect.unit (s := S128x128) ![0, 0] S128x128.size inb_S128x128_S128x128_0_0, p⟩]) = p :=
  (View.read_writes_eq_canon _ _ _ (cover_S128x128 _)).trans (View.canon_cons_unit_lit _ _ _ (by decide))
theorem load_S128x128 (v : View sig .tc .vmem S128x128 .f32) (p : Vec F S128x128 .f32) : View.readCov v [⟨Rect.unit (s := S128x128) ![0, 0] S128x128.size inb_S128x128_S128x128_0_0, p⟩] (Rect.unit (s := S128x128) ![0, 0] S128x128.size inb_S128x128_S128x128_0_0).toLoadRect = p := by
  rw [View.readCov_eq_canon_ld _ _ _ (cover_S128x128 _)]
  exact (View.ld_unit_lit _ _ (by decide)).trans (View.canon_cons_unit_lit _ _ _ (by decide))
theorem cover_S2048x1024 (p : Vec F S2048x1024 .bf16) (y : S2048x1024.Idx) : ∃ pc ∈ ([⟨Rect.unit (s := S2048x1024) ![0, 0] S2048x1024.size inb_S2048x1024_S2048x1024_0_0, p⟩] : List (View.Piece (Elt F) S2048x1024 .bf16)), y ∈ pc.1.set :=
  View.cover_of_tiled [_] S2048x1024.size (by rfl) y
theorem got_S2048x1024 (v : View sig .tc .vmem S2048x1024 .bf16) (p : Vec F S2048x1024 .bf16) (f : v.ty.Contents (Elt F)) : View.read (Elt F) v (View.writes v (Elt F) f [⟨Rect.unit (s := S2048x1024) ![0, 0] S2048x1024.size inb_S2048x1024_S2048x1024_0_0, p⟩]) = p :=
  (View.read_writes_eq_canon _ _ _ (cover_S2048x1024 _)).trans (View.canon_cons_unit_lit _ _ _ (by decide))
theorem load_S2048x1024 (v : View sig .tc .vmem S2048x1024 .bf16) (p : Vec F S2048x1024 .bf16) : View.readCov v [⟨Rect.unit (s := S2048x1024) ![0, 0] S2048x1024.size inb_S2048x1024_S2048x1024_0_0, p⟩] (Rect.unit (s := S2048x1024) ![0, 0] S2048x1024.size inb_S2048x1024_S2048x1024_0_0).toLoadRect = p := by
  rw [View.readCov_eq_canon_ld _ _ _ (cover_S2048x1024 _)]
  exact (View.ld_unit_lit _ _ (by decide)).trans (View.canon_cons_unit_lit _ _ _ (by decide))
theorem cover_S128x1024 (p : Vec F S128x1024 .f32) (y : S128x1024.Idx) : ∃ pc ∈ ([⟨Rect.unit (s := S128x1024) ![0, 0] S128x1024.size inb_S128x1024_S128x1024_0_0, p⟩] : List (View.Piece (Elt F) S128x1024 .f32)), y ∈ pc.1.set :=
  View.cover_of_tiled [_] S128x1024.size (by rfl) y
theorem got_S128x1024 (v : View sig .tc .vmem S128x1024 .f32) (p : Vec F S128x1024 .f32) (f : v.ty.Contents (Elt F)) : View.read (Elt F) v (View.writes v (Elt F) f [⟨Rect.unit (s := S128x1024) ![0, 0] S128x1024.size inb_S128x1024_S128x1024_0_0, p⟩]) = p :=
  (View.read_writes_eq_canon _ _ _ (cover_S128x1024 _)).trans (View.canon_cons_unit_lit _ _ _ (by decide))
theorem load_S128x1024 (v : View sig .tc .vmem S128x1024 .f32) (p : Vec F S128x1024 .f32) : View.readCov v [⟨Rect.unit (s := S128x1024) ![0, 0] S128x1024.size inb_S128x1024_S128x1024_0_0, p⟩] (Rect.unit (s := S128x1024) ![0, 0] S128x1024.size inb_S128x1024_S128x1024_0_0).toLoadRect = p := by
  rw [View.readCov_eq_canon_ld _ _ _ (cover_S128x1024 _)]
  exact (View.ld_unit_lit _ _ (by decide)).trans (View.canon_cons_unit_lit _ _ _ (by decide))
theorem cover_S256x2048 (p : Vec F S256x2048 .bf16) (y : S256x2048.Idx) : ∃ pc ∈ ([⟨Rect.unit (s := S256x2048) ![0, 0] S256x2048.size inb_S256x2048_S256x2048_0_0, p⟩] : List (View.Piece (Elt F) S256x2048 .bf16)), y ∈ pc.1.set :=
  View.cover_of_tiled [_] S256x2048.size (by rfl) y
theorem got_S256x2048 (v : View sig .tc .vmem S256x2048 .bf16) (p : Vec F S256x2048 .bf16) (f : v.ty.Contents (Elt F)) : View.read (Elt F) v (View.writes v (Elt F) f [⟨Rect.unit (s := S256x2048) ![0, 0] S256x2048.size inb_S256x2048_S256x2048_0_0, p⟩]) = p :=
  (View.read_writes_eq_canon _ _ _ (cover_S256x2048 _)).trans (View.canon_cons_unit_lit _ _ _ (by decide))
theorem load_S256x2048 (v : View sig .tc .vmem S256x2048 .bf16) (p : Vec F S256x2048 .bf16) : View.readCov v [⟨Rect.unit (s := S256x2048) ![0, 0] S256x2048.size inb_S256x2048_S256x2048_0_0, p⟩] (Rect.unit (s := S256x2048) ![0, 0] S256x2048.size inb_S256x2048_S256x2048_0_0).toLoadRect = p := by
  rw [View.readCov_eq_canon_ld _ _ _ (cover_S256x2048 _)]
  exact (View.ld_unit_lit _ _ (by decide)).trans (View.canon_cons_unit_lit _ _ _ (by decide))
theorem load_w (v : View sig .tc .vmem S2048x1024 .bf16) (p0 : Vec F S2048x896 .bf16) (p1 : Vec F S2048x128 .bf16) :
    View.readCov v [⟨Rect.unit (s := S2048x1024) ![0, 896] S2048x128.size inb_S2048x1024_S2048x128_0_896, p1⟩, ⟨Rect.unit (s := S2048x1024) ![0, 0] S2048x896.size inb_S2048x1024_S2048x896_0_0, p0⟩] (Rect.unit (s := S2048x1024) ![0, 0] S2048x1024.size inb_S2048x1024_S2048x1024_0_0).toLoadRect = View.canon [⟨Rect.unit (s := S2048x1024) ![0, 896] S2048x128.size inb_S2048x1024_S2048x128_0_896, p1⟩, ⟨Rect.unit (s := S2048x1024) ![0, 0] S2048x896.size inb_S2048x1024_S2048x896_0_0, p0⟩] := by
  rw [View.readCov_eq_canon_ld _ _ _ (cover_w _ _)]
  exact View.ld_unit_lit _ _ (by decide)

theorem wShift_eq (x2 : Vec F S1x2048x1024 .f32) (x3 : Vec F S1x2048x128 .f32) :
    View.canon [⟨Rect.unit (s := S2048x1024) ![0, 896] S2048x128.size inb_S2048x1024_S2048x128_0_896, k0_pay6 (View.ld x3 (Rect.unit (s := S1x2048x128) ![0, 0, 0] S1x2048x128.size inb_S1x2048x128_S1x2048x128_0_0_0))⟩, ⟨Rect.unit (s := S2048x1024) ![0, 0] S2048x896.size inb_S2048x1024_S2048x896_0_0, k0_pay5 (View.ld x2 (Rect.unit (s := S1x2048x1024) ![0, 0, 128] S1x2048x896.size inb_S1x2048x1024_S1x2048x896_0_0_128))⟩] = wShift x2 x3 := by
  rw [View.ld_unit_lit _ x3 (by decide)]; rfl

set_option maxHeartbeats 8000000 in
/-- The body at the first column step: the normalised rows, the narrow product, and all that the later steps do. -/
theorem run_first (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S1x2048x1024 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x256x2048 .f32) (harg8 : arg8.IsWhole) (arg9 : Memref sig .tc .vmem S2048x1024 .bf16) (harg9 : arg9.IsWhole) (arg10 : Memref sig .tc .vmem S2048x128 .bf16) (harg10 : arg10.IsWhole) (arg11 : Memref sig .tc .vmem S128x1024 .f32) (harg11 : arg11.IsWhole) (arg12 : Memref sig .tc .vmem S128x128 .f32) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S128x2048 .bf16) (harg16 : arg16.IsWhole) (hc1 : k0_cond1 i = 1#1) (hc2 : k0_cond2 i = 1#1) (hc3 : ¬ k0_cond3 i = 1#1) (hc4 : k0_cond4 i = 1#1)
    (x0 : Vec F S128x2048 .f32) (x1 : Vec F S1x2048 .f32) (x2 : Vec F S1x2048x1024 .f32) (x3 : Vec F S1x2048x128 .f32) (x4 : Vec F S1x2048x128 .f32) (x5 : Vec F S1x128x2048 .f32) (x6 : Vec F S1x128x2048 .f32) (x7 : Vec F S1x256x2048 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (wCols i x2 x3) ∗ owns (c : Thread nD τ) arg10 fullShare (k0_pay2 x4) ∗ owns (c : Thread nD τ) arg11 fullShare (k0_pay7 (k0_pay1 x0 x1) (wCols i x2 x3)) ∗ owns (c : Thread nD τ) arg12 fullShare (k0_pay3 (k0_pay1 x0 x1) (k0_pay2 x4)) ∗ owns (c : Thread nD τ) arg13 fullShare (k0_pay8 x5) ∗ owns (c : Thread nD τ) arg14 fullShare (k0_pay9 x6) ∗ owns (c : Thread nD τ) arg15 fullShare (k0_pay10 x7) ∗ owns (c : Thread nD τ) arg16 fullShare (k0_pay1 x0 x1)) -∗ K ⟨⟩))
      ⊢ wp frame (wpE (defs₀ (F := F)) Variants.none c none) E (cc0_inproj_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_inproj_head_eq_skeleton]; unfold cc0_inproj_head_skel
    rw [show wCols i x2 x3 = k0_pay4 x2 from if_pos hc2]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    subst hf0 hf1 hf2 hf3 hf4 hf5 hf6 hf7
    sl_exec (disch := first | sl_exact hc1 | sl_exact hc2 | sl_exact hc3 | sl_exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      refine (got_S2048x1024 _ _ _).trans ?_
      exact congrArg k0_pay4 (View.ld_unit_lit _ _ (by decide))
    isplitl [H9]
    · iexists _; isplitr
      swap; · iexact H9
      ipureintro
      refine (got_S2048x128 _ _ _).trans ?_
      exact congrArg k0_pay2 (View.ld_unit_lit _ _ (by decide))
    isplitl [H10]
    · iexists _; isplitr
      swap; · iexact H10
      ipureintro
      refine (got_S128x1024 _ _ _).trans ?_
      refine congrArg₂ k0_pay7 ((load_S128x2048 _ _).trans ?_) ((load_S2048x1024 _ _).trans ?_)
      · exact congrArg₂ k0_pay1 (View.ld_unit_lit _ _ (by decide)) (View.ld_unit_lit _ _ (by decide))
      · exact congrArg k0_pay4 (View.ld_unit_lit _ _ (by decide))
    isplitl [H11]
    · iexists _; isplitr
      swap; · iexact H11
      ipureintro
      refine (got_S128x128 _ _ _).trans ?_
      refine congrArg₂ k0_pay3 ((load_S128x2048 _ _).trans ?_) ((load_S2048x128 _ _).trans ?_)
      · exact congrArg₂ k0_pay1 (View.ld_unit_lit _ _ (by decide)) (View.ld_unit_lit _ _ (by decide))
      · exact congrArg k0_pay2 (View.ld_unit_lit _ _ (by decide))
    isplitl [H12]
    · iexists _; isplitr
      swap; · iexact H12
      ipureintro
      refine (got_S128x2048 _ _ _).trans ?_
      exact congrArg k0_pay8 (View.ld_unit_lit _ _ (by decide))
    isplitl [H13]
    · iexists _; isplitr
      swap; · iexact H13
      ipureintro
      refine (got_S128x2048 _ _ _).trans ?_
      exact congrArg k0_pay9 (View.ld_unit_lit _ _ (by decide))
    isplitl [H14]
    · iexists _; isplitr
      swap; · iexact H14
      ipureintro
      refine (got_S256x2048 _ _ _).trans ?_
      exact congrArg k0_pay10 (View.ld_unit_lit _ _ (by decide))
    iexists _; isplitr
    swap; · iexact H15
    ipureintro
    refine (got_S128x2048 _ _ _).trans ?_
    exact congrArg₂ k0_pay1 (View.ld_unit_lit _ _ (by decide)) (View.ld_unit_lit _ _ (by decide))

set_option maxHeartbeats 8000000 in
/-- The body at any later column step: the step's weight columns, the wide product from the rows it finds, and, at the
    first eight steps, the copies. -/
theorem run_later (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S1x2048x1024 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x256x2048 .f32) (harg8 : arg8.IsWhole) (arg9 : Memref sig .tc .vmem S2048x1024 .bf16) (harg9 : arg9.IsWhole) (arg10 : Memref sig .tc .vmem S2048x128 .bf16) (harg10 : arg10.IsWhole) (arg11 : Memref sig .tc .vmem S128x1024 .f32) (harg11 : arg11.IsWhole) (arg12 : Memref sig .tc .vmem S128x128 .f32) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S128x2048 .bf16) (harg16 : arg16.IsWhole) (hc1 : ¬ k0_cond1 i = 1#1) (hc23 : k0_cond2 i = 1#1 ↔ ¬ k0_cond3 i = 1#1)
    (x0 : Vec F S128x2048 .f32) (x1 : Vec F S1x2048 .f32) (x2 : Vec F S1x2048x1024 .f32) (x3 : Vec F S1x2048x128 .f32) (x4 : Vec F S1x2048x128 .f32) (x5 : Vec F S1x128x2048 .f32) (x6 : Vec F S1x128x2048 .f32) (x7 : Vec F S1x256x2048 .f32) (y9 : Vec F S2048x128 .bf16) (y11 : Vec F S128x128 .f32) (y12 y13 z12 z13 : Vec F S128x2048 .bf16) (y14 z14 : Vec F S256x2048 .bf16) (h : Vec F S128x2048 .bf16)
    (hy12 : ¬ k0_cond4 i = 1#1 → y12 = z12) (hy13 : ¬ k0_cond4 i = 1#1 → y13 = z13) (hy14 : ¬ k0_cond4 i = 1#1 → y14 = z14)
    (hz12 : k0_cond4 i = 1#1 → k0_pay8 x5 = z12) (hz13 : k0_cond4 i = 1#1 → k0_pay9 x6 = z13) (hz14 : k0_cond4 i = 1#1 → k0_pay10 x7 = z14) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare y9 ∗ (∃ d, owns (c : Thread nD τ) arg11 fullShare d) ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare h
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (wCols i x2 x3) ∗ owns (c : Thread nD τ) arg10 fullShare y9 ∗ owns (c : Thread nD τ) arg11 fullShare (k0_pay7 h (wCols i x2 x3)) ∗ owns (c : Thread nD τ) arg12 fullShare y11 ∗ owns (c : Thread nD τ) arg13 fullShare z12 ∗ owns (c : Thread nD τ) arg14 fullShare z13 ∗ owns (c : Thread nD τ) arg15 fullShare z14 ∗ owns (c : Thread nD τ) arg16 fullShare h) -∗ K ⟨⟩))
      ⊢ wp frame (wpE (defs₀ (F := F)) Variants.none c none) E (cc0_inproj_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_inproj_head_eq_skeleton]; unfold cc0_inproj_head_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
    subst hf0 hf1 hf2 hf3 hf4 hf5 hf6 hf7 hf9 hf11 hf12 hf13 hf14 hf15
    by_cases hc2 : k0_cond2 i = 1#1
    case' pos => have hc3 := hc23.mp hc2; rw [show wCols i _ _ = k0_pay4 _ from if_pos hc2]
    case' neg => have hc3 : k0_cond3 i = 1#1 := not_not.mp fun e => hc2 (hc23.mpr e); rw [show wCols i _ _ = wShift _ _ from if_neg hc2]
    all_goals
      by_cases hc4 : k0_cond4 i = 1#1
    all_goals
      sl_exec (disch := first | sl_exact hc1 | sl_exact hc2 | sl_exact hc3 | sl_exact hc4)
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists _; isplitr
        swap; · iexact H8
        ipureintro
        first | (have _e : k0_cond2 i = 1#1 := hc2; refine (got_S2048x1024 _ _ _).trans ?_; exact congrArg k0_pay4 (View.ld_unit_lit _ _ (by decide))) | (refine (View.read_writes_eq_canon _ _ _ (cover_w _ _)).trans ?_; exact wShift_eq _ _)
      isplitl [H9]
      · iexists f9; isplitr; · ipureintro; rfl
        iexact H9
      isplitl [H10]
      · iexists _; isplitr
        swap; · iexact H10
        ipureintro
        refine (got_S128x1024 _ _ _).trans ?_
        refine congrArg₂ k0_pay7 (View.ld_unit_lit _ _ (by decide)) ?_
        first | (have _e : k0_cond2 i = 1#1 := hc2; refine (load_S2048x1024 _ _).trans ?_; exact congrArg k0_pay4 (View.ld_unit_lit _ _ (by decide))) | (refine (load_w _ _ _).trans ?_; exact wShift_eq _ _)
      isplitl [H11]
      · iexists f11; isplitr; · ipureintro; rfl
        iexact H11
      isplitl [H12]
      · iexists _; isplitr
        swap; · iexact H12
        ipureintro
        first | (have _e : ¬ k0_cond4 i = 1#1 := hc4; exact hy12 _e) | (refine (got_S128x2048 _ _ _).trans ?_; refine Eq.trans ?_ (hz12 hc4); exact congrArg k0_pay8 (View.ld_unit_lit _ _ (by decide)))
      isplitl [H13]
      · iexists _; isplitr
        swap; · iexact H13
        ipureintro
        first | (have _e : ¬ k0_cond4 i = 1#1 := hc4; exact hy13 _e) | (refine (got_S128x2048 _ _ _).trans ?_; refine Eq.trans ?_ (hz13 hc4); exact congrArg k0_pay9 (View.ld_unit_lit _ _ (by decide)))
      isplitl [H14]
      · iexists _; isplitr
        swap; · iexact H14
        ipureintro
        first | (have _e : ¬ k0_cond4 i = 1#1 := hc4; exact hy14 _e) | (refine (got_S256x2048 _ _ _).trans ?_; refine Eq.trans ?_ (hz14 hc4); exact congrArg k0_pay10 (View.ld_unit_lit _ _ (by decide)))
      iexists f15; isplitr; · ipureintro; rfl
      iexact H15

/-! ## The proof data -/

variable (m : (ℓ : Loc nD τ sig) → Buf (Elt F) ℓ) (ρ : Dev nD → PrngReg)

/-- The first point. -/
def t0 : Fin cfg0.N := ⟨0, by decide⟩

theorem iblk_at_0 (c : Dev nD) (t : Fin cfg0.N) : iblk m c 0 t = iblk m c 0 t0 := rfl
theorem iblk_at_1 (c : Dev nD) (t : Fin cfg0.N) : iblk m c 1 t = iblk m c 1 t0 := rfl
theorem iblk_at_4 (c : Dev nD) (t : Fin cfg0.N) : iblk m c 4 t = iblk m c 4 t0 := rfl

/-- The point whose copies the three copy buffers hold at `t`: `t` itself for the first eight, then the eighth. -/
def cl (t : Fin cfg0.N) : Fin cfg0.N := if t.val < 8 then t else ⟨7, by decide⟩

theorem cl_lt (t : Fin cfg0.N) (h : t.val < 8) : cl t = t := if_pos h

theorem cl_pred (t : Fin cfg0.N) (h : ¬ t.val < 8) (h' : t.val - 1 < cfg0.N) : cl t = cl ⟨t.val - 1, h'⟩ := by
  unfold cl; rw [if_neg h]
  by_cases e : t.val - 1 < 8
  · rw [if_pos e]; exact Fin.ext (by show 7 = t.val - 1; omega)
  · rw [if_neg e]

/-- The samples' normalised rows. -/
def rows (c : Dev nD) : Vec F S128x2048 .bf16 := k0_pay1 (iblk m c 0 t0) (iblk m c 1 t0)

/-- The scratch operand. -/
abbrev scM : Memref sig .tc .vmem S128x2048 .bf16 := Memref.whole cc0_scratch0

/-- What the scratch holds before point `n`: at the start anything, later the normalised rows. -/
def scr (c : Dev nD) (n : ℕ) : sProp 𝕄 :=
  if n = 0 then iprop(∃ d, owns (c : Thread nD τ) scM fullShare d) else owns (c : Thread nD τ) scM fullShare (rows m c)

/-- The proof data: each input's buffer at its block, the narrowed weights, both products from the normalised rows, and
    the three copies. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => wCols (grid0.coords t) (X0_2 m c t) (iblk m c 3 t)
    | ⟨9, _⟩ => k0_pay2 (iblk m c 4 t0)
    | ⟨10, _⟩ => k0_pay7 (rows m c) (wCols (grid0.coords t) (X0_2 m c t) (iblk m c 3 t))
    | ⟨11, _⟩ => k0_pay3 (rows m c) (k0_pay2 (iblk m c 4 t0))
    | ⟨12, _⟩ => k0_pay8 (iblk m c 5 (cl t))
    | ⟨13, _⟩ => k0_pay9 (iblk m c 6 (cl t))
    | ⟨14, _⟩ => k0_pay10 (iblk m c 7 (cl t))
  Φ n := iprop(scr m c n.val ∗ (∃ r, prngReg c r))
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = wCols (grid0.coords t) (X0_2 m c t) (iblk m c 3 t) := by dsimp only [dats]
theorem after_9 (c : Dev nD) (t : Fin cfg0.N) : (dats m 0 c).after 9 t = k0_pay2 (iblk m c 4 t0) := by dsimp only [dats]
theorem after_10 (c : Dev nD) (t : Fin cfg0.N) : (dats m 0 c).after 10 t = k0_pay7 (rows m c) (wCols (grid0.coords t) (X0_2 m c t) (iblk m c 3 t)) := by dsimp only [dats]
theorem after_11 (c : Dev nD) (t : Fin cfg0.N) : (dats m 0 c).after 11 t = k0_pay3 (rows m c) (k0_pay2 (iblk m c 4 t0)) := by dsimp only [dats]
theorem after_12 (c : Dev nD) (t : Fin cfg0.N) : (dats m 0 c).after 12 t = k0_pay8 (iblk m c 5 (cl t)) := by dsimp only [dats]
theorem after_13 (c : Dev nD) (t : Fin cfg0.N) : (dats m 0 c).after 13 t = k0_pay9 (iblk m c 6 (cl t)) := by dsimp only [dats]
theorem after_14 (c : Dev nD) (t : Fin cfg0.N) : (dats m 0 c).after 14 t = k0_pay10 (iblk m c 7 (cl t)) := by dsimp only [dats]

theorem live_8 : ∀ t : Fin cfg0.N, cfg0.idle 8 (grid0.coords t) = false := by decide +kernel

/-- The weight columns in their buffer are what the obligation asks of the point. -/
theorem leaves_8 (c : Dev nD) (t : Fin cfg0.N) :
    owns (c : Thread nD τ) (st0_8 t) fullShare ((dats m 0 c).after 8 t) ⊢ (dats m 0 c).leavesExact 8 t := by
  unfold Dat.leavesExact; rw [live_8 t]

/-- An output whose buffer keeps what its block's first point stored, as the obligation asks of every point: written back
    there or not. -/
theorem leaves_of (c : Dev nD) (w : Fin cfg0.W) (t : Fin cfg0.N)
    (hb : cfg0.idle w (grid0.coords t) = true → ∀ d, (dats m 0 c).before w t d = (dats m 0 c).after w t) :
    owns (c : Thread nD τ) ((cfg0.win w).stage (cfg0.slots t w)) fullShare ((dats m 0 c).after w t) ⊢ (dats m 0 c).leavesExact w t := by
  cases hi : cfg0.idle w (grid0.coords t)
  · unfold Dat.leavesExact; rw [hi]
  · cases hf : (cfg0.win w).flush t
    · rw [(dats m 0 c).leavesExact_idle w t hi hf]
      iintro H; iexists default; rw [hb hi]; iexact H
    · unfold Dat.leavesExact; rw [hi, hf]

theorem idle_9 : ∀ t : Fin cfg0.N, cfg0.idle 9 (grid0.coords t) = true → ¬ t.val = 0 := by decide +kernel
theorem fresh_9 : ∀ t : Fin cfg0.N, cfg0.fresh 9 t.val = true ↔ t.val = 0 := by decide +kernel
theorem before_9 (c : Dev nD) (t : Fin cfg0.N) (h : ¬ t.val = 0) (d) : (dats m 0 c).before 9 t d = (dats m 0 c).after 9 t := by
  have hf : ¬ cfg0.fresh 9 t.val = true := fun e => h ((fresh_9 t).mp e)
  rw [(dats m 0 c).before_out_traj 9 rfl (fun _ _ => rfl) (fun s _ _ hs => by rw [after_9, after_9]) t.val t rfl d, if_neg hf, after_9, after_9]

theorem idle_11 : ∀ t : Fin cfg0.N, cfg0.idle 11 (grid0.coords t) = true → ¬ t.val = 0 := by decide +kernel
theorem fresh_11 : ∀ t : Fin cfg0.N, cfg0.fresh 11 t.val = true ↔ t.val = 0 := by decide +kernel
theorem before_11 (c : Dev nD) (t : Fin cfg0.N) (h : ¬ t.val = 0) (d) : (dats m 0 c).before 11 t d = (dats m 0 c).after 11 t := by
  have hf : ¬ cfg0.fresh 11 t.val = true := fun e => h ((fresh_11 t).mp e)
  rw [(dats m 0 c).before_out_traj 11 rfl (fun _ _ => rfl) (fun s _ _ hs => by rw [after_11, after_11]) t.val t rfl d, if_neg hf, after_11, after_11]

theorem idle_12 : ∀ t : Fin cfg0.N, cfg0.idle 12 (grid0.coords t) = true → ¬ t.val < 8 := by decide +kernel
theorem fresh_12 : ∀ t : Fin cfg0.N, cfg0.fresh 12 t.val = true ↔ t.val < 8 := by decide +kernel
theorem before_12 (c : Dev nD) (t : Fin cfg0.N) (h : ¬ t.val < 8) (d) : (dats m 0 c).before 12 t d = (dats m 0 c).after 12 t := by
  have hf : ¬ cfg0.fresh 12 t.val = true := fun e => h ((fresh_12 t).mp e)
  rw [(dats m 0 c).before_out_traj 12 rfl (fun _ _ => rfl) (fun s _ _ hs => by
      rw [after_12, after_12, cl_pred s (fun e => by rw [(fresh_12 s).mpr e] at hs; exact absurd hs (by decide)) (by omega)]) t.val t rfl d, if_neg hf,
    after_12, after_12, cl_pred t h (by omega)]

theorem idle_13 : ∀ t : Fin cfg0.N, cfg0.idle 13 (grid0.coords t) = true → ¬ t.val < 8 := by decide +kernel
theorem fresh_13 : ∀ t : Fin cfg0.N, cfg0.fresh 13 t.val = true ↔ t.val < 8 := by decide +kernel
theorem before_13 (c : Dev nD) (t : Fin cfg0.N) (h : ¬ t.val < 8) (d) : (dats m 0 c).before 13 t d = (dats m 0 c).after 13 t := by
  have hf : ¬ cfg0.fresh 13 t.val = true := fun e => h ((fresh_13 t).mp e)
  rw [(dats m 0 c).before_out_traj 13 rfl (fun _ _ => rfl) (fun s _ _ hs => by
      rw [after_13, after_13, cl_pred s (fun e => by rw [(fresh_13 s).mpr e] at hs; exact absurd hs (by decide)) (by omega)]) t.val t rfl d, if_neg hf,
    after_13, after_13, cl_pred t h (by omega)]

theorem idle_14 : ∀ t : Fin cfg0.N, cfg0.idle 14 (grid0.coords t) = true → ¬ t.val < 8 := by decide +kernel
theorem fresh_14 : ∀ t : Fin cfg0.N, cfg0.fresh 14 t.val = true ↔ t.val < 8 := by decide +kernel
theorem before_14 (c : Dev nD) (t : Fin cfg0.N) (h : ¬ t.val < 8) (d) : (dats m 0 c).before 14 t d = (dats m 0 c).after 14 t := by
  have hf : ¬ cfg0.fresh 14 t.val = true := fun e => h ((fresh_14 t).mp e)
  rw [(dats m 0 c).before_out_traj 14 rfl (fun _ _ => rfl) (fun s _ _ hs => by
      rw [after_14, after_14, cl_pred s (fun e => by rw [(fresh_14 s).mpr e] at hs; exact absurd hs (by decide)) (by omega)]) t.val t rfl d, if_neg hf,
    after_14, after_14, cl_pred t h (by omega)]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (dats m 0 c).leavesExact 8 t ∗ (dats m 0 c).leavesExact 9 t ∗ owns (c : Thread nD τ) (st0_10 t) fullShare ((dats m 0 c).after 10 t) ∗ (dats m 0 c).leavesExact 11 t ∗ (dats m 0 c).leavesExact 12 t ∗ (dats m 0 c).leavesExact 13 t ∗ (dats m 0 c).leavesExact 14 t)

set_option maxHeartbeats 800000 in
/-- The body at any point takes the proof data one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c)]
  rw [show (dats m 0 c).owesAt () t.succ = (dats m 0 c).owesAt () t.castSucc from rfl,
    show (dats m 0 c).Φ t.castSucc = iprop(scr m c t.val ∗ (∃ r, prngReg c r)) from rfl,
    show (dats m 0 c).Φ t.succ = iprop(scr m c (t.val + 1) ∗ (∃ r, prngReg c r)) from rfl,
    show scr m c (t.val + 1) = owns (c : Thread nD τ) scM fullShare (rows m c) from if_neg (Nat.succ_ne_zero _),
    after_0, after_1, after_2, after_3, after_4, after_5, after_6, after_7, after_10]
  simp only [iblk_at_0 m c t, iblk_at_1 m c t, iblk_at_4 m c t]
  have h23 : k0_cond2 (grid0.coords t) = 1#1 ↔ ¬ k0_cond3 (grid0.coords t) = 1#1 := by rw [plain_iff, shifted_iff]; exact not_not.symm
  by_cases h0 : t.val = 0
  · rw [show scr m c t.val = iprop(∃ d, owns (c : Thread nD τ) scM fullShare d) from if_pos h0]
    have h2 := (plain_iff t).mpr (by omega)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ ((first_iff t).mpr h0) h2 (h23.mp h2) ((copies_iff t).mpr (by omega)) (iblk m c 0 t0) (iblk m c 1 t0) (X0_2 m c t) (iblk m c 3 t) (iblk m c 4 t0) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves_8 m c t); rw [after_8]; iexact H8
    isplitl [H9]; · iapply (leaves_of m c 9 t fun hi => before_9 m c t (idle_9 t hi)); rw [after_9]; iexact H9
    isplitl [H10]; · iexact H10
    isplitl [H11]; · iapply (leaves_of m c 11 t fun hi => before_11 m c t (idle_11 t hi)); rw [after_11]; iexact H11
    isplitl [H12]; · iapply (leaves_of m c 12 t fun hi => before_12 m c t (idle_12 t hi)); rw [after_12, cl_lt t (by omega)]; iexact H12
    isplitl [H13]; · iapply (leaves_of m c 13 t fun hi => before_13 m c t (idle_13 t hi)); rw [after_13, cl_lt t (by omega)]; iexact H13
    iapply (leaves_of m c 14 t fun hi => before_14 m c t (idle_14 t hi)); rw [after_14, cl_lt t (by omega)]; iexact H14
  · rw [show scr m c t.val = owns (c : Thread nD τ) scM fullShare (rows m c) from if_neg h0]
    simp only [before_9 m c t h0, before_11 m c t h0, after_9, after_11]
    have h8 : ¬ k0_cond4 (grid0.coords t) = 1#1 → ¬ t.val < 8 := fun e h => e ((copies_iff t).mpr h)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_later c (grid0.coords t) _ _ _ _ _ _ _ _ _ _ _ _ _ _ _ _ _ _ _ _ _ _ _ _ _ _ _ _ _ _ _ _ (fun e => h0 ((first_iff t).mp e)) h23 (iblk m c 0 t0) (iblk m c 1 t0) (X0_2 m c t) (iblk m c 3 t) (iblk m c 4 t0) (iblk m c 5 t) (iblk m c 6 t) (iblk m c 7 t) _ _ ((dats m 0 c).before 12 t d12) ((dats m 0 c).before 13 t d13) (k0_pay8 (iblk m c 5 (cl t))) (k0_pay9 (iblk m c 6 (cl t))) ((dats m 0 c).before 14 t d14) (k0_pay10 (iblk m c 7 (cl t))) (rows m c)
      (fun e => (before_12 m c t (h8 e) d12).trans (after_12 m c t)) (fun e => (before_13 m c t (h8 e) d13).trans (after_13 m c t)) (fun e => (before_14 m c t (h8 e) d14).trans (after_14 m c t))
      (fun e => by rw [cl_lt t ((copies_iff t).mp e)]) (fun e => by rw [cl_lt t ((copies_iff t).mp e)]) (fun e => by rw [cl_lt t ((copies_iff t).mp e)]) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [H11]; · iexact H11
    isplitl [H12]; · iexact H12
    isplitl [H13]; · iexact H13
    isplitl [H14]; · iexact H14
    isplitl [HS]; · iexact HS
    iintro ⟨H0, H1, H2, H3, H4, H5, H6, H7, H8, H9, H10, H11, H12, H13, H14, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves_8 m c t); rw [after_8]; iexact H8
    isplitl [H9]; · iapply (leaves_of m c 9 t fun hi => before_9 m c t (idle_9 t hi)); rw [after_9]; iexact H9
    isplitl [H10]; · iexact H10
    isplitl [H11]; · iapply (leaves_of m c 11 t fun hi => before_11 m c t (idle_11 t hi)); rw [after_11]; iexact H11
    isplitl [H12]; · iapply (leaves_of m c 12 t fun hi => before_12 m c t (idle_12 t hi)); rw [after_12]; iexact H12
    isplitl [H13]; · iapply (leaves_of m c 13 t fun hi => before_13 m c t (idle_13 t hi)); rw [after_13]; iexact H13
    iapply (leaves_of m c 14 t fun hi => before_14 m c t (idle_14 t hi)); rw [after_14]; iexact H14

/-- The body table's row at point `t`. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's own invariant: the scratch at some contents and the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem enters (c : Dev nD) : Pipeline.ΦA spec0 c ⊢ (dats m 0 c).Φ 0 := by
  rw [PhiA_eq, show (dats m 0 c).Φ 0 = iprop(scr m c 0 ∗ (∃ r, prngReg c r)) from rfl]
  unfold scr; rw [if_pos rfl]

theorem leaves (c : Dev nD) : (dats m 0 c).Φ (Fin.last cfg0.N) ⊢ Pipeline.ΦA spec0 c := by
  rw [PhiA_eq, show (dats m 0 c).Φ (Fin.last cfg0.N) = iprop(scr m c cfg0.N ∗ (∃ r, prngReg c r)) from rfl,
    show scr m c cfg0.N = owns (c : Thread nD τ) scM fullShare (rows m c) from if_neg (by decide)]
  iintro ⟨HS, Hg⟩
  isplitl [HS]; · iexists _; iexact HS
  iexact Hg

theorem q_eq (c : Dev nD) (w : Fin cfg0.W) (h : (spec0 w).isOut = false) : (dats m 0 c).q w = Pipeline.shareOf spec0 w := by
  dsimp only [dats]; rw [h]; rfl

set_option backward.isDefEq.respectTransparency.types false in
/-- Every run of the call ends with each array at what the proof data say, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := q_eq m)
    (howed := fun _ _ => rfl) (V := V m) (hmain := hmain m Variants.none) (hA := A_eq m) (hin := enters m) (hout := leaves m)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.HeadIdeal.Hand

end
-- ==== Proof.HeadRef.lean ====
/- What the plain in-projection of the samples computes, entry by entry. -/
module

public import proofs.«01_k».proof.Proof.Gen.HeadIdeal.Frame
public import proofs.«01_k».proof.Proof.Gen.HeadRefIdeal.Run
public import Idealize.ShloMosaic.Lib.Pointwise
public import Idealize.ShloMosaic.Lib.Pipeline.ValueKit

@[expose] public section

set_option maxRecDepth 16384

noncomputable section

namespace Cert.HeadIdeal.Hand

open Cert.HeadIdeal Cert.HeadIdeal.Gen Idealize.ShloMosaic Idealize.ShloMosaic.TcCoe Idealize.SL.Sem
open Idealize.ShloMosaic.Pipeline (Dat)

/-- The reference's normalised rows. -/
def refRows (X : FVec Ideal S128x2048 .f32) (G : FVec Ideal S1x2048 .f32) : FVec Ideal S128x2048 .f32 :=
  mulf (mulf X (broadcastInDim Cert.HeadRefIdeal.S128x2048 ![0, 1] Cert.HeadRefIdeal.Gen.bcast_S128x1_S128x2048_0_1 (Host.rsqrt (addf (Host.divf (broadcastInDim Cert.HeadRefIdeal.S128x1 ![0] Cert.HeadRefIdeal.Gen.bcast_S128_S128x1_0 (Host.reduceAdd (mulf X X) (constant Cert.HeadRefIdeal.S_ .f32 0x00000000#32) Cert.HeadRefIdeal.Gen.reducesTo_S128x2048_S128_d1 Cert.HeadRefIdeal.Gen.h_S_)) (broadcastInDim Cert.HeadRefIdeal.S128x1 ![] Cert.HeadRefIdeal.Gen.bcast_S_S128x1 (constant Cert.HeadRefIdeal.S_ .f32 0x45000000#32))) (broadcastInDim Cert.HeadRefIdeal.S128x1 ![] Cert.HeadRefIdeal.Gen.bcast_S_S128x1 (constant Cert.HeadRefIdeal.S_ .f32 0x358637BD#32)))))) (broadcastInDim Cert.HeadRefIdeal.S128x2048 ![0, 1] Cert.HeadRefIdeal.Gen.bcast_S1x2048_S128x2048_0_1 G)

/-- The reference's whole product. -/
def refAll (X : FVec Ideal S128x2048 .f32) (G : FVec Ideal S1x2048 .f32) (W : FVec Ideal S1x2048x10368 .f32) : FVec Ideal Cert.HeadRefIdeal.S128x10368 .f32 :=
  Host.dotGeneral Cert.HeadRefIdeal.dot_S128x2048_S2048x10368_S128x10368_1_0_0_1_n_n none (refRows X G) (shapeCast _ W Cert.HeadRefIdeal.Gen.shapeCasts_S1x2048x10368_S2048x10368)

/-- The reference's wide weights, -/
def refWb (W : FVec Ideal S1x2048x10368 .f32) : FVec Ideal S2048x10240 .bf16 :=
  truncf .bf16 (concatenate Cert.HeadRefIdeal.S2048x10240 1 [⟨Cert.HeadRefIdeal.S2048x3072, (extractStridedSlice Cert.HeadRefIdeal.S2048x3072 ![0, 0] (shapeCast _ W Cert.HeadRefIdeal.Gen.shapeCasts_S1x2048x10368_S2048x10368) Cert.HeadRefIdeal.Gen.slices_S2048x10368_S2048x3072_0_0)⟩, ⟨Cert.HeadRefIdeal.S2048x7168, (extractStridedSlice Cert.HeadRefIdeal.S2048x7168 ![0, 3200] (shapeCast _ W Cert.HeadRefIdeal.Gen.shapeCasts_S1x2048x10368_S2048x10368) Cert.HeadRefIdeal.Gen.slices_S2048x10368_S2048x7168_0_3200)⟩] Cert.HeadRefIdeal.Gen.concatenates_S2048x3072_S2048x7168_S2048x10240_d1) Cert.HeadRefIdeal.Gen.bitsLt_bf16_f32

/-- its low-rank weights, -/
def refWl (W : FVec Ideal S1x2048x10368 .f32) : FVec Ideal S2048x128 .bf16 :=
  truncf .bf16 (extractStridedSlice Cert.HeadRefIdeal.S2048x128 ![0, 3072] (shapeCast _ W Cert.HeadRefIdeal.Gen.shapeCasts_S1x2048x10368_S2048x10368) Cert.HeadRefIdeal.Gen.slices_S2048x10368_S2048x128_0_3072) Cert.HeadRefIdeal.Gen.bitsLt_bf16_f32

/-- its wide product, -/
def refZ (X : FVec Ideal S128x2048 .f32) (G : FVec Ideal S1x2048 .f32) (W : FVec Ideal S1x2048x10368 .f32) : FVec Ideal S128x10240 .f32 :=
  concatenate Cert.HeadRefIdeal.S128x10240 1 [⟨Cert.HeadRefIdeal.S128x3072, (extractStridedSlice Cert.HeadRefIdeal.S128x3072 ![0, 0] (refAll X G W) Cert.HeadRefIdeal.Gen.slices_S128x10368_S128x3072_0_0)⟩, ⟨Cert.HeadRefIdeal.S128x7168, (extractStridedSlice Cert.HeadRefIdeal.S128x7168 ![0, 3200] (refAll X G W) Cert.HeadRefIdeal.Gen.slices_S128x10368_S128x7168_0_3200)⟩] Cert.HeadRefIdeal.Gen.concatenates_S128x3072_S128x7168_S128x10240_d1

/-- its narrow product, -/
def refZl (X : FVec Ideal S128x2048 .f32) (G : FVec Ideal S1x2048 .f32) (W : FVec Ideal S1x2048x10368 .f32) : FVec Ideal S128x128 .f32 :=
  extractStridedSlice Cert.HeadRefIdeal.S128x128 ![0, 3072] (refAll X G W) Cert.HeadRefIdeal.Gen.slices_S128x10368_S128x128_0_3072

/-- a short out weight, -/
def refOut (W : FVec Ideal S1x1024x2048 .f32) : FVec Ideal S1024x2048 .bf16 :=
  truncf .bf16 (shapeCast _ W Cert.HeadRefIdeal.Gen.shapeCasts_S1x1024x2048_S1024x2048) Cert.HeadRefIdeal.Gen.bitsLt_bf16_f32

/-- and the long one. -/
def refOut2 (W : FVec Ideal S1x2048x2048 .f32) : FVec Ideal S2048x2048 .bf16 :=
  truncf .bf16 (shapeCast _ W Cert.HeadRefIdeal.Gen.shapeCasts_S1x2048x2048_S2048x2048) Cert.HeadRefIdeal.Gen.bitsLt_bf16_f32

/-- A row's entry, normalised. -/
def rms (x : FVec Ideal S128x2048 .f32) (g : FVec Ideal S1x2048 .f32) (r : Fin 128) (k : Fin 2048) : EReal :=
  x (ix2 r k) * Ideal.rsqrt (Ideal.div (∑ l, x (ix2 r l) * x (ix2 r l)) (Ideal.ofBits .f32 0x45000000#32) + Ideal.ofBits .f32 0x358637BD#32) * g (ix2 0 k)

theorem refRows_at (X : FVec Ideal S128x2048 .f32) (G : FVec Ideal S1x2048 .f32) (r : Fin 128) (k : Fin 2048) :
    refRows X G (ix2 r k) = rms X G r k := by
  pointwise [refRows, rms]

theorem refAll_at (X : FVec Ideal S128x2048 .f32) (G : FVec Ideal S1x2048 .f32) (W : FVec Ideal S1x2048x10368 .f32) (r : Fin 128) (j : Fin 10368) :
    refAll X G W (ix2 r j) = ∑ k, rms X G r k * W (ix3 0 k j) := by
  pointwise [refAll]
  refine Fin.sum_fin_congr fun k => Ideal.mul_congr (refRows_at X G r k) ?_
  blk_ext

/-- The column of the whole weight that a wide column is. -/
def wideCol (j : Fin 10240) : Fin 10368 := if j.val < 3072 then ⟨j.val, by omega⟩ else ⟨j.val + 128, by omega⟩

theorem refWb_at (W : FVec Ideal S1x2048x10368 .f32) (k : Fin 2048) (j : Fin 10240) : refWb W (ix2 k j) = W (ix3 0 k (wideCol j)) := by
  unfold wideCol
  pointwise [refWb]
  split <;> blk_ext

theorem refZ_at (X : FVec Ideal S128x2048 .f32) (G : FVec Ideal S1x2048 .f32) (W : FVec Ideal S1x2048x10368 .f32) (r : Fin 128) (j : Fin 10240) :
    refZ X G W (ix2 r j) = ∑ k, rms X G r k * W (ix3 0 k (wideCol j)) := by
  rw [← refAll_at]
  unfold wideCol
  pointwise [refZ]
  split <;> blk_ext

end Cert.HeadIdeal.Hand

end
-- ==== Proof.HeadValue.lean ====
/- The values of the in-projection of the samples: each result array is the reference's term. -/
module

public import proofs.«01_k».proof.Proof.HeadBody
public import proofs.«01_k».proof.Proof.HeadRef
public import Idealize.ShloMosaic.Lib.Pointwise

@[expose] public section

set_option maxRecDepth 16384

noncomputable section

namespace Cert.HeadIdeal.Hand

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

/-- The windows' index maps at every point. -/
theorem idx_val : ∀ t : Fin cfg0.N, win0_0.index t = ![0, 0] ∧ win0_1.index t = ![0, 0] ∧ win0_2.index t = ![0, 0, t.val]
    ∧ win0_3.index t = ![0, 0, (t.val + 1) * 8] ∧ win0_4.index t = ![0, 0, 24] ∧ win0_5.index t = ![0, min t.val 7, 0]
    ∧ win0_6.index t = ![0, min t.val 7, 0] ∧ win0_7.index t = ![0, min t.val 7, 0] ∧ win0_8.index t = ![0, t.val] ∧ win0_9.index t = ![0, 0]
    ∧ win0_10.index t = ![0, t.val] ∧ win0_11.index t = ![0, 0] ∧ win0_12.index t = ![min t.val 7, 0] ∧ win0_13.index t = ![min t.val 7, 0]
    ∧ win0_14.index t = ![min t.val 7, 0] :=
  (by decide +kernel : ∀ t : Fin grid0.N, _)

theorem cl_val (t : Fin cfg0.N) : (cl t).val = min t.val 7 := by
  unfold cl; split
  · omega
  · show 7 = _; omega

/-- The samples' normalised rows are the reference's. -/
theorem rows_at (c : Dev nD) (r : Fin 128) (k : Fin 2048) :
    rows m c (ix2 r k) = rms (m ((c : Thread nD τ).loc main_arg0)) (m ((c : Thread nD τ).loc main_arg1)) r k := by
  unfold rows rms
  pointwise [k0_pay1]
  blk_point [iblk, V, idx_val t0]

/-- A column step's own weight columns. -/
theorem own_at (c : Dev nD) (t : Fin cfg0.N) (k : Fin 2048) (j : Fin 1024) (J : Fin 10368) (hJ : J.val = t.val * 1024 + j.val) :
    X0_2 m c t (ix3 0 k j) = m ((c : Thread nD τ).loc main_arg2) (ix3 0 k J) := by
  unfold X0_2 Pipeline.Window.fill
  rw [dif_pos (moved0_2 t _)]
  blk_ext [iblk, V, idx_val t]

/-- The 128 weight columns after a column step's own. -/
theorem next_at (c : Dev nD) (t : Fin cfg0.N) (k : Fin 2048) (j : Fin 128) (J : Fin 10368) (hJ : J.val = (t.val + 1) * 1024 + j.val) :
    iblk m c 3 t (ix3 0 k j) = m ((c : Thread nD τ).loc main_arg2) (ix3 0 k J) := by
  blk_ext [iblk, V, idx_val t]

/-- A shifted step's weights, column by column. -/
theorem wShift_at (x2 : Vec Ideal S1x2048x1024 .f32) (x3 : Vec Ideal S1x2048x128 .f32) (k : Fin 2048) (j : Fin 1024) :
    wShift x2 x3 (ix2 k j) = if hj : j.val < 896 then x2 (ix3 0 k ⟨j.val + 128, by omega⟩) else x3 (ix3 0 k ⟨j.val - 896, by omega⟩) := by
  refine congrFun (?_ : wShift x2 x3 = fun y : S2048x1024.Idx => if hj : (y 1).val < 896 then x2 (ix3 0 (y 0) ⟨(y 1).val + 128, by omega⟩) else x3 (ix3 0 (y 0) ⟨(y 1).val - 896, by have : (y 1).val < 1024 := (y 1).isLt; omega⟩)) (ix2 k j)
  funext y
  unfold wShift
  canon_tiles u h using cover_w _ _ y
  · rw [dif_neg (by omega)]
    pointwise [k0_pay6]
    blk_ext
  · rw [dif_pos (by omega)]
    pointwise [k0_pay5]
    blk_ext

/-- Every step's weights are the wide columns of its block. -/
theorem wCols_at (c : Dev nD) (t : Fin cfg0.N) (k : Fin 2048) (j : Fin 1024) (J : Fin 10240) (hJ : J.val = t.val * 1024 + j.val) :
    wCols (grid0.coords t) (X0_2 m c t) (iblk m c 3 t) (ix2 k j) = m ((c : Thread nD τ).loc main_arg2) (ix3 0 k (wideCol J)) := by
  have ht : t.val < 10 := t.isLt
  have hj : j.val < 1024 := j.isLt
  unfold wCols
  by_cases h : t.val < 3
  · rw [if_pos ((plain_iff t).mpr h)]
    have e : wideCol J = ⟨t.val * 1024 + j.val, by omega⟩ := by
      unfold wideCol; rw [if_pos (by omega)]; exact Fin.ext hJ
    rw [e, ← own_at m c t k j _ rfl]
    pointwise [k0_pay4]
  · rw [if_neg fun q => h ((plain_iff t).mp q), wShift_at]
    have e : wideCol J = ⟨t.val * 1024 + j.val + 128, by have := J.isLt; omega⟩ := by
      unfold wideCol; rw [if_neg (by omega)]; exact Fin.ext (by show J.val + 128 = t.val * 1024 + j.val + 128; omega)
    by_cases h' : j.val < 896
    · rw [dif_pos h', e]; exact own_at m c t k _ _ (by show t.val * 1024 + j.val + 128 = t.val * 1024 + (j.val + 128); omega)
    · rw [dif_neg h', e]; exact next_at m c t k _ _ (by show t.val * 1024 + j.val + 128 = (t.val + 1) * 1024 + (j.val - 896); omega)

/-- The wide weights' array. -/
theorem final8 (c : Dev nD) : (dats m 0 c).arrAt 8 (cfgs 0).N = refWb (m ((c : Thread nD τ).loc main_arg2)) := by
  refine (dats m 0 c).arrAt_eq_of_covers 8 _ (by decide +kernel) fun t _ y => ?_
  idx_vars y
  blk_simp
  rw [after_8]
  have hj : t.val * 1024 + y1.val < 10240 := by have : t.val < 10 := t.isLt; have := y1.isLt; omega
  refine (wCols_at m c t _ _ ⟨t.val * 1024 + y1.val, hj⟩ rfl).trans ((refWb_at _ _ _).symm.trans ?_)
  blk_ext [idx_val t]

/-- The low-rank weights' array. -/
theorem final9 (c : Dev nD) : (dats m 0 c).arrAt 9 (cfgs 0).N = refWl (m ((c : Thread nD τ).loc main_arg2)) := by
  refine (dats m 0 c).arrAt_eq_of_covers 9 _ (by decide +kernel) fun t _ y => ?_
  blk_simp
  rw [after_9]
  pointwise [k0_pay2, refWl]
  blk_ext [iblk, V, idx_val t0, idx_val t]

/-- The wide product's array. -/
theorem final10 (c : Dev nD) : (dats m 0 c).arrAt 10 (cfgs 0).N
    = refZ (m ((c : Thread nD τ).loc main_arg0)) (m ((c : Thread nD τ).loc main_arg1)) (m ((c : Thread nD τ).loc main_arg2)) := by
  refine (dats m 0 c).arrAt_eq_of_covers 10 _ (by decide +kernel) fun t _ y => ?_
  idx_vars y
  blk_simp
  rw [after_10]
  have e := refZ_at (m ((c : Thread nD τ).loc main_arg0)) (m ((c : Thread nD τ).loc main_arg1)) (m ((c : Thread nD τ).loc main_arg2)) y0
    ⟨t.val * 1024 + y1.val, by have : t.val < 10 := t.isLt; have := y1.isLt; omega⟩
  refine Eq.trans ?_ (e.symm.trans ?_)
  · pointwise [k0_pay7]
    refine Fin.sum_fin_congr fun k => Ideal.mul_congr (rows_at m c _ k) (wCols_at m c t k _ _ rfl)
  · blk_ext [idx_val t]

/-- The narrow product's array. -/
theorem final11 (c : Dev nD) : (dats m 0 c).arrAt 11 (cfgs 0).N
    = refZl (m ((c : Thread nD τ).loc main_arg0)) (m ((c : Thread nD τ).loc main_arg1)) (m ((c : Thread nD τ).loc main_arg2)) := by
  refine (dats m 0 c).arrAt_eq_of_covers 11 _ (by decide +kernel) fun t _ y => ?_
  idx_vars y
  blk_simp
  rw [after_11]
  have e := refAll_at (m ((c : Thread nD τ).loc main_arg0)) (m ((c : Thread nD τ).loc main_arg1)) (m ((c : Thread nD τ).loc main_arg2)) y0
    ⟨3072 + y1.val, by have := y1.isLt; omega⟩
  refine Eq.trans ?_ (e.symm.trans ?_)
  · pointwise [k0_pay3, k0_pay2]
    refine Fin.sum_fin_congr fun k => Ideal.mul_congr (rows_at m c _ k) ?_
    blk_ext [iblk, V, idx_val t0]
  · unfold refZl
    pointwise
    blk_ext [idx_val t]

/-- The first short out weight's array. -/
theorem final12 (c : Dev nD) : (dats m 0 c).arrAt 12 (cfgs 0).N = refOut (m ((c : Thread nD τ).loc main_arg3)) := by
  refine (dats m 0 c).arrAt_eq_of_covers 12 _ (by decide +kernel) fun t _ y => ?_
  blk_simp
  rw [after_12]
  pointwise [k0_pay8, refOut]
  blk_ext [iblk, V, idx_val (cl t), idx_val t, cl_val t]

/-- The second short out weight's array. -/
theorem final13 (c : Dev nD) : (dats m 0 c).arrAt 13 (cfgs 0).N = refOut (m ((c : Thread nD τ).loc main_arg4)) := by
  refine (dats m 0 c).arrAt_eq_of_covers 13 _ (by decide +kernel) fun t _ y => ?_
  blk_simp
  rw [after_13]
  pointwise [k0_pay9, refOut]
  blk_ext [iblk, V, idx_val (cl t), idx_val t, cl_val t]

/-- The long out weight's array. -/
theorem final14 (c : Dev nD) : (dats m 0 c).arrAt 14 (cfgs 0).N = refOut2 (m ((c : Thread nD τ).loc main_arg5)) := by
  refine (dats m 0 c).arrAt_eq_of_covers 14 _ (by decide +kernel) fun t _ y => ?_
  blk_simp
  rw [after_14]
  pointwise [k0_pay10, refOut2]
  blk_ext [iblk, V, idx_val (cl t), idx_val t, cl_val t]

/-- Every run of the call ends with each result array at the reference's term, the arguments as they began. -/
theorem run_values (ρ : Dev nD → PrngReg) : θ_run defs (onTc (τ := τ) (main (F := Ideal))) ⟨m, fun _ => 0, ρ⟩ (fun r => ∀ c : Dev nD,
    r.2.mem ((c : Thread nD τ).loc main_v0_0) = refWb (m ((c : Thread nD τ).loc main_arg2))
    ∧ r.2.mem ((c : Thread nD τ).loc main_v0_1) = refWl (m ((c : Thread nD τ).loc main_arg2))
    ∧ r.2.mem ((c : Thread nD τ).loc main_v0_2) = refZ (m ((c : Thread nD τ).loc main_arg0)) (m ((c : Thread nD τ).loc main_arg1)) (m ((c : Thread nD τ).loc main_arg2))
    ∧ r.2.mem ((c : Thread nD τ).loc main_v0_3) = refZl (m ((c : Thread nD τ).loc main_arg0)) (m ((c : Thread nD τ).loc main_arg1)) (m ((c : Thread nD τ).loc main_arg2))
    ∧ r.2.mem ((c : Thread nD τ).loc main_v0_4) = refOut (m ((c : Thread nD τ).loc main_arg3))
    ∧ r.2.mem ((c : Thread nD τ).loc main_v0_5) = refOut (m ((c : Thread nD τ).loc main_arg4))
    ∧ r.2.mem ((c : Thread nD τ).loc main_v0_6) = refOut2 (m ((c : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2.1 c⟩)
    (θ_run_and ((θ_run defs _ _).mono (fun _ h => h.1) (run_main_quiescent m ρ)) (frame m ρ))

end Cert.HeadIdeal.Hand

end
-- ==== Proof.HeadClaim.lean ====
/- The claims about the in-projection of the samples. -/
module

public import proofs.«01_k».proof.Defs
public import proofs.«01_k».proof.Proof.HeadValue
public import proofs.«01_k».proof.Proof.HeadBits

@[expose] public section

set_option maxRecDepth 16384

noncomputable section

namespace Cert.Proof

open Idealize.ShloMosaic Idealize.SL.Sem

theorem head_frame : Cert.quiescent_Head := by
  intro m g _
  exact Cert.Head.Hand.frame m g

theorem head_ideal_frame : Cert.quiescent_HeadIdeal := by
  intro m g _
  exact Cert.HeadIdeal.Hand.frame m g

theorem head_ref_frame : Cert.quiescent_HeadRefIdeal := fun m g _ =>
  (θ_run Cert.HeadRefIdeal.defs _ _).mono (fun r h => ⟨fun c => (h c).2.2.2.2.2.2.2, sem_eq_zero_of_no_sems (by decide) r.2⟩)
    (Cert.HeadRefIdeal.Value.run (F := Ideal) m g)

theorem head_preserves : Cert.preserves_Head_HeadIdeal := trivial

set_option maxHeartbeats 2000000 in
theorem head_algebraic : Cert.algebraic_HeadIdeal_HeadRefIdeal := by
  pair_intro
  · run_from Cert.HeadIdeal.Hand.run_values m g
  · run_from Cert.HeadRefIdeal.Value.run m' g'
    · rw [← (hagree c).2.2.1]; rfl
    · rfl
    · rw [← (hagree c).1, ← (hagree c).2.1, ← (hagree c).2.2.1]; rfl
    all_goals rfl

end Cert.Proof

end
-- ==== Proof.LruRef.lean ====
/- The reference of the RG-LRU decode call, entry by entry. -/
module

public import proofs.«01_k».proof.Proof.Gen.LruRefIdeal.Run
public import Idealize.ShloMosaic.Lib.Pointwise

@[expose] public section

set_option maxRecDepth 16384

noncomputable section

namespace Cert.LruRefIdeal.Hand

open Cert.LruRefIdeal Cert.LruRefIdeal.Gen Idealize.ShloMosaic Idealize.ShloMosaic.TcCoe Idealize.SL.Sem

abbrev TZ := FVec Ideal S128x10240 .f32
abbrev TCB := FVec Ideal S128x3x1024 .f32
abbrev TH := FVec Ideal S128x1024 .f32
abbrev TCW := FVec Ideal S4x1024 .f32
abbrev TV := FVec Ideal S1024 .f32
abbrev TW := FVec Ideal S16x64x64 .f32

/-- The causal convolution's output. -/
def refXc (Z : TZ) (CB : TCB) (CW : TCW) (Cb : TV) : FVec Ideal S128x1024 .f32 :=
  addf (addf (addf (addf (addf (broadcastInDim S128x1024 ![] bcast_S_S128x1024 (constant S_ .f32 0x00000000#32)) (mulf (broadcastInDim S128x1024 ![0, 1] bcast_S1x1024_S128x1024_0_1 (broadcastInDim S1x1024 ![1] bcast_S1024_S1x1024_1 (shapeCast _ (extractStridedSlice S1x1024 ![0, 0] CW slices_S4x1024_S1x1024_0_0) shapeCasts_S1x1024_S1024))) (shapeCast _ (extractStridedSlice S128x1x1024 ![0, 0, 0] (concatenate S128x4x1024 1 [⟨S128x3x1024, CB⟩, ⟨S128x1x1024, (broadcastInDim S128x1x1024 ![0, 2] bcast_S128x1024_S128x1x1024_0_2 (extractStridedSlice S128x1024 ![0, 4096] Z slices_S128x10240_S128x1024_0_4096))⟩] concatenates_S128x3x1024_S128x1x1024_S128x4x1024_d1) slices_S128x4x1024_S128x1x1024_0_0_0) shapeCasts_S128x1x1024_S128x1024))) (mulf (broadcastInDim S128x1024 ![0, 1] bcast_S1x1024_S128x1024_0_1 (broadcastInDim S1x1024 ![1] bcast_S1024_S1x1024_1 (shapeCast _ (extractStridedSlice S1x1024 ![1, 0] CW slices_S4x1024_S1x1024_1_0) shapeCasts_S1x1024_S1024))) (shapeCast _ (extractStridedSlice S128x1x1024 ![0, 1, 0] (concatenate S128x4x1024 1 [⟨S128x3x1024, CB⟩, ⟨S128x1x1024, (broadcastInDim S128x1x1024 ![0, 2] bcast_S128x1024_S128x1x1024_0_2 (extractStridedSlice S128x1024 ![0, 4096] Z slices_S128x10240_S128x1024_0_4096))⟩] concatenates_S128x3x1024_S128x1x1024_S128x4x1024_d1) slices_S128x4x1024_S128x1x1024_0_1_0) shapeCasts_S128x1x1024_S128x1024))) (mulf (broadcastInDim S128x1024 ![0, 1] bcast_S1x1024_S128x1024_0_1 (broadcastInDim S1x1024 ![1] bcast_S1024_S1x1024_1 (shapeCast _ (extractStridedSlice S1x1024 ![2, 0] CW slices_S4x1024_S1x1024_2_0) shapeCasts_S1x1024_S1024))) (shapeCast _ (extractStridedSlice S128x1x1024 ![0, 2, 0] (concatenate S128x4x1024 1 [⟨S128x3x1024, CB⟩, ⟨S128x1x1024, (broadcastInDim S128x1x1024 ![0, 2] bcast_S128x1024_S128x1x1024_0_2 (extractStridedSlice S128x1024 ![0, 4096] Z slices_S128x10240_S128x1024_0_4096))⟩] concatenates_S128x3x1024_S128x1x1024_S128x4x1024_d1) slices_S128x4x1024_S128x1x1024_0_2_0) shapeCasts_S128x1x1024_S128x1024))) (mulf (broadcastInDim S128x1024 ![0, 1] bcast_S1x1024_S128x1024_0_1 (broadcastInDim S1x1024 ![1] bcast_S1024_S1x1024_1 (shapeCast _ (extractStridedSlice S1x1024 ![3, 0] CW slices_S4x1024_S1x1024_3_0) shapeCasts_S1x1024_S1024))) (shapeCast _ (extractStridedSlice S128x1x1024 ![0, 3, 0] (concatenate S128x4x1024 1 [⟨S128x3x1024, CB⟩, ⟨S128x1x1024, (broadcastInDim S128x1x1024 ![0, 2] bcast_S128x1024_S128x1x1024_0_2 (extractStridedSlice S128x1024 ![0, 4096] Z slices_S128x10240_S128x1024_0_4096))⟩] concatenates_S128x3x1024_S128x1x1024_S128x4x1024_d1) slices_S128x4x1024_S128x1x1024_0_3_0) shapeCasts_S128x1x1024_S128x1024))) (broadcastInDim S128x1024 ![0, 1] bcast_S1x1024_S128x1024_0_1 (broadcastInDim S1x1024 ![1] bcast_S1024_S1x1024_1 Cb))

/-- A gate: the sigmoid of a block-diagonal product and its bias. -/
def refGate (Z : TZ) (CB : TCB) (CW : TCW) (Cb : TV) (W : TW) (B : TV) : FVec Ideal S128x1024 .f32 :=
  Host.divf (broadcastInDim S128x1024 ![] bcast_S_S128x1024 (constant S_ .f32 0x3F800000#32)) (addf (broadcastInDim S128x1024 ![] bcast_S_S128x1024 (constant S_ .f32 0x3F800000#32)) (Host.exp (Host.negf (addf (shapeCast _ (transpose S128x16x64 [2, 0, 1] (Host.dotGeneral dot_S16x64x64_S128x16x64_S16x64x128_1_2_2_0_0_1 none W (shapeCast _ (refXc Z CB CW Cb) shapeCasts_S128x1024_S128x16x64)) transposes_S16x64x128_S128x16x64_2_0_1) shapeCasts_S128x16x64_S128x1024) (broadcastInDim S128x1024 ![0, 1] bcast_S1x1024_S128x1024_0_1 (broadcastInDim S1x1024 ![1] bcast_S1024_S1x1024_1 B))))))

/-- The softplus of the decay parameter's negative. -/
def refSp (LAM : TV) : FVec Ideal S1024 .f32 :=
  select (cmpf .une (subf (Host.negf LAM) (broadcastInDim S1024 ![] bcast_S_S1024 (constant S_ .f32 0x00000000#32))) (subf (Host.negf LAM) (broadcastInDim S1024 ![] bcast_S_S1024 (constant S_ .f32 0x00000000#32)))) (addf (Host.negf LAM) (broadcastInDim S1024 ![] bcast_S_S1024 (constant S_ .f32 0x00000000#32))) (addf (maximumf (Host.negf LAM) (broadcastInDim S1024 ![] bcast_S_S1024 (constant S_ .f32 0x00000000#32))) (Host.log1p (Host.exp (Host.negf (Host.absf (subf (Host.negf LAM) (broadcastInDim S1024 ![] bcast_S_S1024 (constant S_ .f32 0x00000000#32))))))))

/-- The new recurrent state. -/
def refH (Z : TZ) (CB : TCB) (H : TH) (CW : TCW) (Cb : TV) (GXW : TW) (GXB : TV) (GAW : TW) (GAB LAM : TV) : FVec Ideal S128x1024 .f32 :=
  addf (mulf (mulf (Host.sqrt (Host.negf (Host.expm1 (mulf (broadcastInDim S128x1024 ![] bcast_S_S128x1024 (constant S_ .f32 0x40000000#32)) (mulf (mulf (broadcastInDim S128x1024 ![] bcast_S_S128x1024 (constant S_ .f32 0xC1000000#32)) (refGate Z CB CW Cb GAW GAB)) (broadcastInDim S128x1024 ![0, 1] bcast_S1x1024_S128x1024_0_1 (broadcastInDim S1x1024 ![1] bcast_S1024_S1x1024_1 (refSp LAM)))))))) (refGate Z CB CW Cb GXW GXB)) (refXc Z CB CW Cb)) (mulf (Host.exp (mulf (mulf (broadcastInDim S128x1024 ![] bcast_S_S128x1024 (constant S_ .f32 0xC1000000#32)) (refGate Z CB CW Cb GAW GAB)) (broadcastInDim S128x1024 ![0, 1] bcast_S1x1024_S128x1024_0_1 (broadcastInDim S1x1024 ![1] bcast_S1024_S1x1024_1 (refSp LAM))))) H)

/-- The sigmoid, as both programs spell it. -/
def sgm (x : EReal) : EReal := Ideal.div 1 (1 + Ideal.exp (-x))

/-- The softplus. -/
def sp (x : EReal) : EReal := max x 0 + Ideal.log1p (Ideal.exp (-(max x (-x))))

/-- An entry of the convolution. -/
def xcE (Z : TZ) (CB : TCB) (CW : TCW) (Cb : TV) (r : Fin 128) (c : Fin 1024) : EReal :=
  CW (ix2 0 c) * CB (ix3 r 0 c) + CW (ix2 1 c) * CB (ix3 r 1 c) + CW (ix2 2 c) * CB (ix3 r 2 c)
    + CW (ix2 3 c) * Z (ix2 r ⟨4096 + c, by omega⟩) + Cb (ix1 c)

/-- A block-diagonal product's entry: column `c` lies in block `c / 64`. -/
def preE (Z : TZ) (CB : TCB) (CW : TCW) (Cb : TV) (W : TW) (r : Fin 128) (c : Fin 1024) : EReal :=
  ∑ i : Fin 64, W (ix3 ⟨c / 64, by omega⟩ i ⟨c % 64, by omega⟩) * xcE Z CB CW Cb r ⟨c / 64 * 64 + i, by omega⟩

/-- A gate's entry. -/
def gateE (Z : TZ) (CB : TCB) (CW : TCW) (Cb : TV) (W : TW) (B : TV) (r : Fin 128) (c : Fin 1024) : EReal :=
  sgm (preE Z CB CW Cb W r c + B (ix1 c))

theorem refXc_at (Z : TZ) (CB : TCB) (CW : TCW) (Cb : TV) (r : Fin 128) (c : Fin 1024) :
    refXc Z CB CW Cb (ix2 r c) = xcE Z CB CW Cb r c := by
  pointwise [refXc, xcE]
  done

theorem refGate_at (Z : TZ) (CB : TCB) (CW : TCW) (Cb : TV) (W : TW) (B : TV) (r : Fin 128) (c : Fin 1024) :
    refGate Z CB CW Cb W B (ix2 r c) = gateE Z CB CW Cb W B r c := by
  pointwise [refGate, gateE, preE, sgm]
  simp only [refXc_at]

theorem refSp_at (LAM : TV) (c : Fin 1024) : refSp LAM (ix1 c) = sp (-LAM (ix1 c)) := by
  pointwise [refSp, sp]
  rw [if_neg (fun h => h rfl)]
  rfl

/-- The recurrence's decay factor, from its gate. -/
def decE (ga lam : EReal) : EReal := Ideal.exp (Ideal.ofBits .f32 0xC1000000#32 * ga * sp (-lam))

/-- An entry of the new state. -/
def hE (xc gx ga lam h0 : EReal) : EReal :=
  decE ga lam * h0 + Ideal.sqrt ((1 - decE ga lam) * (1 + decE ga lam)) * gx * xc

theorem two_f32 : Ideal.ofBits .f32 0x40000000#32 = ((2 : ℝ) : EReal) := by
  simp [Ideal.ofBits, Ideal.ieee, -EReal.coe_mul]; norm_num

/-- `-(e^(2x) - 1) = (1 - e^x) (1 + e^x)` at every extended real. -/
theorem expm1_sq (x : EReal) :
    -(Ideal.exp (((2 : ℝ) : EReal) * x) - 1) = (1 - Ideal.exp x) * (1 + Ideal.exp x) := by
  induction x with
  | bot =>
    rw [EReal.coe_mul_bot_of_pos (by norm_num)]
    simp
  | top =>
    rw [EReal.coe_mul_top_of_pos (by norm_num)]
    simp
    rfl
  | coe x =>
    rw [← EReal.coe_mul, Ideal.exp_coe, Ideal.exp_coe, ← EReal.coe_one, ← EReal.coe_sub, ← EReal.coe_sub, ← EReal.coe_add, ← EReal.coe_mul,
      ← EReal.coe_neg, EReal.coe_eq_coe_iff, two_mul, Real.exp_add]
    ring

theorem refH_at (Z : TZ) (CB : TCB) (H : TH) (CW : TCW) (Cb : TV) (GXW : TW) (GXB : TV) (GAW : TW) (GAB LAM : TV) (r : Fin 128) (c : Fin 1024) :
    refH Z CB H CW Cb GXW GXB GAW GAB LAM (ix2 r c)
      = hE (xcE Z CB CW Cb r c) (gateE Z CB CW Cb GXW GXB r c) (gateE Z CB CW Cb GAW GAB r c) (LAM (ix1 c)) (H (ix2 r c)) := by
  pointwise [refH, hE, decE]
  simp only [refXc_at, refGate_at, refSp_at, two_f32, expm1_sq]
  exact add_comm _ _

/-- The gated output. -/
def refO (Z : TZ) (CB : TCB) (H : TH) (CW : TCW) (Cb : TV) (GXW : TW) (GXB : TV) (GAW : TW) (GAB LAM : TV) : FVec Ideal S128x1024 .bf16 :=
  truncf .bf16 (mulf (refH Z CB H CW Cb GXW GXB GAW GAB LAM) (mulf (extractStridedSlice S128x1024 ![0, 5120] Z slices_S128x10240_S128x1024_0_5120) (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 5120] Z slices_S128x10240_S128x1024_0_5120))))))) bitsLt_bf16_f32

theorem refO_at (Z : TZ) (CB : TCB) (H : TH) (CW : TCW) (Cb : TV) (GXW : TW) (GXB : TV) (GAW : TW) (GAB LAM : TV) (r : Fin 128) (c : Fin 1024) :
    refO Z CB H CW Cb GXW GXB GAW GAB LAM (ix2 r c)
      = hE (xcE Z CB CW Cb r c) (gateE Z CB CW Cb GXW GXB r c) (gateE Z CB CW Cb GAW GAB r c) (LAM (ix1 c)) (H (ix2 r c))
        * (Z (ix2 r ⟨5120 + c, by omega⟩) * sgm (Z (ix2 r ⟨5120 + c, by omega⟩))) := by
  rw [← refH_at]
  pointwise [refO, sgm]

/-- The convolution's new state. -/
def refCv (Z : TZ) (CB : TCB) : FVec Ideal S3x128x1024 .f32 :=
  transpose S3x128x1024 [1, 0, 2] (extractStridedSlice S128x3x1024 ![0, 1, 0] (concatenate S128x4x1024 1 [⟨S128x3x1024, CB⟩, ⟨S128x1x1024, (broadcastInDim S128x1x1024 ![0, 2] bcast_S128x1024_S128x1x1024_0_2 (extractStridedSlice S128x1024 ![0, 4096] Z slices_S128x10240_S128x1024_0_4096))⟩] concatenates_S128x3x1024_S128x1x1024_S128x4x1024_d1) slices_S128x4x1024_S128x3x1024_0_1_0) transposes_S128x3x1024_S3x128x1024_1_0_2

end Cert.LruRefIdeal.Hand

end
-- ==== Proof.LruPay.lean ====
/- The RG-LRU decode call's blocks and payloads, entry by entry. -/
module

public import proofs.«01_k».proof.Proof.LruRef
public import proofs.«01_k».proof.Proof.Gen.LruIdeal.Value
public import Idealize.ShloMosaic.Lib.Pipeline.ValueKit
public import Idealize.ShloMosaic.Lib.Claim

@[expose] public section

set_option maxRecDepth 16384

noncomputable section

namespace Cert.LruIdeal.Hand

open Cert.LruIdeal Cert.LruIdeal.Gen Idealize.ShloMosaic Idealize.ShloMosaic.TcCoe Idealize.SL.Sem
open Idealize.ShloMosaic.Pipeline (Dat)
open Cert.LruRefIdeal.Hand (sgm sp xcE preE gateE hE decE TZ TCB TH TCW TV TW)

variable (m : (ℓ : Loc nD τ sig) → Buf (Elt Ideal) ℓ) (c : Dev nD) (t : Fin cfg0.N)

theorem idx_val : ∀ t : Fin cfg0.N, win0_0.index t = ![0, 4] ∧ win0_1.index t = ![0, 5] ∧ win0_2.index t = ![0, 0, 0] ∧ win0_3.index t = ![0, 0]
    ∧ win0_4.index t = ![0, 0] ∧ win0_5.index t = ![0, 0, 0] ∧ win0_6.index t = ![0, 0] ∧ win0_7.index t = ![0, 0] ∧ win0_8.index t = ![0, 0, 0] :=
  (by decide +kernel : ∀ t : Fin grid0.N, _)

abbrev aZ : TZ := m ((c : Thread nD τ).loc main_arg0)
abbrev aCB : TCB := m ((c : Thread nD τ).loc main_arg1)
abbrev aH : TH := m ((c : Thread nD τ).loc main_arg2)
abbrev aCW : TCW := m ((c : Thread nD τ).loc main_arg3)
abbrev aCb : TV := m ((c : Thread nD τ).loc main_arg4)
abbrev aGXW : TW := m ((c : Thread nD τ).loc main_arg5)
abbrev aGXB : TV := m ((c : Thread nD τ).loc main_arg6)
abbrev aGAW : TW := m ((c : Thread nD τ).loc main_arg7)
abbrev aGAB : TV := m ((c : Thread nD τ).loc main_arg8)
abbrev aLAM : TV := m ((c : Thread nD τ).loc main_arg9)

theorem zx_at (r : Fin 128) (k : Fin 1024) : iblk m c 0 t (ix2 r k) = aZ m c (ix2 r ⟨4096 + k, by omega⟩) := by
  blk_ext [iblk, V_main_arg0, idx_val t]

theorem zg_at (r : Fin 128) (k : Fin 1024) : iblk m c 1 t (ix2 r k) = aZ m c (ix2 r ⟨5120 + k, by omega⟩) := by
  blk_ext [iblk, V_main_arg0, idx_val t]

theorem h0_at (r : Fin 128) (k : Fin 1024) : iblk m c 3 t (ix2 r k) = aH m c (ix2 r k) := by
  blk_ext [iblk, V_main_arg2, idx_val t]

theorem conv_at (j : Fin 3) (r : Fin 128) (k : Fin 1024) : iblk m c 2 t (ix3 j r k) = aCB m c (ix3 r j k) := by
  blk_simp [iblk, idx_val t]
  entry_read
  pointwise
  blk_ext [idx_val t]

/-- The packed vectors, as the host line makes them. -/
def hostLp (CW : TCW) (Cb GXB GAB LAM : TV) : FVec Ideal S8x1024 .f32 :=
  concatenate S8x1024 0 [⟨S4x1024, CW⟩, ⟨S1x1024, shapeCast S1x1024 Cb shapeCasts_S1024_S1x1024⟩, ⟨S1x1024, shapeCast S1x1024 GXB shapeCasts_S1024_S1x1024⟩,
    ⟨S1x1024, shapeCast S1x1024 GAB shapeCasts_S1024_S1x1024⟩, ⟨S1x1024, shapeCast S1x1024 LAM shapeCasts_S1024_S1x1024⟩] concatenates_S4x1024_S1x1024_S1x1024_S1x1024_S1x1024_S8x1024_d0

theorem V_lp : V m c main_v5 = hostLp (aCW m c) (aCb m c) (aGXB m c) (aGAB m c) (aLAM m c) := by
  rfl

theorem hostLp_cw (CW : TCW) (Cb GXB GAB LAM : TV) (j : Fin 4) (k : Fin 1024) :
    hostLp CW Cb GXB GAB LAM (ix2 ⟨j, by omega⟩ k) = CW (ix2 j k) := by
  pointwise [hostLp]

theorem hostLp_row (CW : TCW) (Cb GXB GAB LAM : TV) (k : Fin 1024) :
    hostLp CW Cb GXB GAB LAM (ix2 4 k) = Cb (ix1 k) ∧ hostLp CW Cb GXB GAB LAM (ix2 5 k) = GXB (ix1 k)
    ∧ hostLp CW Cb GXB GAB LAM (ix2 6 k) = GAB (ix1 k) ∧ hostLp CW Cb GXB GAB LAM (ix2 7 k) = LAM (ix1 k) := by
  refine ⟨?_, ?_, ?_, ?_⟩ <;> pointwise [hostLp]

/-- The packed gate matrices, as the host line makes them. -/
def hostWg (GX GA : TW) : FVec Ideal S8x128x256 .bf16 :=
  have z : FVec Ideal S8x64x64 .f32 := broadcastInDim S8x64x64 ![] bcast_S_S8x64x64 (constant S_ .f32 0x00000000#32)
  have gx := shapeCast S8x2x64x64 GX shapeCasts_S16x64x64_S8x2x64x64
  have ga := shapeCast S8x2x64x64 GA shapeCasts_S16x64x64_S8x2x64x64
  truncf .bf16 (concatenate S8x128x256 1
    [⟨S8x64x256, concatenate S8x64x256 2 [⟨S8x64x64, shapeCast S8x64x64 (extractStridedSlice S8x1x64x64 ![0, 0, 0, 0] gx slices_S8x2x64x64_S8x1x64x64_0_0_0_0) shapeCasts_S8x1x64x64_S8x64x64⟩, ⟨S8x64x64, z⟩,
      ⟨S8x64x64, shapeCast S8x64x64 (extractStridedSlice S8x1x64x64 ![0, 0, 0, 0] ga slices_S8x2x64x64_S8x1x64x64_0_0_0_0) shapeCasts_S8x1x64x64_S8x64x64⟩, ⟨S8x64x64, z⟩] concatenates_S8x64x64_S8x64x64_S8x64x64_S8x64x64_S8x64x256_d2⟩,
     ⟨S8x64x256, concatenate S8x64x256 2 [⟨S8x64x64, z⟩, ⟨S8x64x64, shapeCast S8x64x64 (extractStridedSlice S8x1x64x64 ![0, 1, 0, 0] gx slices_S8x2x64x64_S8x1x64x64_0_1_0_0) shapeCasts_S8x1x64x64_S8x64x64⟩,
      ⟨S8x64x64, z⟩, ⟨S8x64x64, shapeCast S8x64x64 (extractStridedSlice S8x1x64x64 ![0, 1, 0, 0] ga slices_S8x2x64x64_S8x1x64x64_0_1_0_0) shapeCasts_S8x1x64x64_S8x64x64⟩] concatenates_S8x64x64_S8x64x64_S8x64x64_S8x64x64_S8x64x256_d2⟩]
    concatenates_S8x64x256_S8x64x256_S8x128x256_d1) bitsLt_bf16_f32

theorem V_wg : V m c main_v20 = hostWg (aGXW m c) (aGAW m c) := by
  unfold V
  after_results
  rfl

/-- Rows `64 u + i`, columns `128 q + 64 v + j`: the gate `q`'s matrix of head `2 g + u` where `u = v`, zero elsewhere. -/
theorem hostWg_at (GX GA : TW) (g : Fin 8) (q u v : Fin 2) (i j : Fin 64) :
    hostWg GX GA (ix3 g ⟨64 * u + i, by omega⟩ ⟨128 * q + 64 * v + j, by omega⟩)
      = if u = v then (if q = 0 then GX else GA) (ix3 ⟨g * 2 + u, by omega⟩ i j) else 0 := by
  fin_cases q <;> fin_cases u <;> fin_cases v <;> pointwise [hostWg]
  all_goals split_ifs <;> first | rfl | omega | (congr 3 <;> omega)

theorem lp_cw (j : Fin 4) (k : Fin 1024) : iblk m c 4 t (ix2 ⟨j, by omega⟩ k) = aCW m c (ix2 j k) := by
  rw [← hostLp_cw (aCW m c) (aCb m c) (aGXB m c) (aGAB m c) (aLAM m c), ← V_lp]
  blk_ext [iblk, idx_val t]

theorem lp_at (j : Fin 8) (k : Fin 1024) : iblk m c 4 t (ix2 j k) = hostLp (aCW m c) (aCb m c) (aGXB m c) (aGAB m c) (aLAM m c) (ix2 j k) := by
  rw [← V_lp]
  blk_ext [iblk, idx_val t]

theorem lp_row (k : Fin 1024) : iblk m c 4 t (ix2 4 k) = aCb m c (ix1 k) ∧ iblk m c 4 t (ix2 5 k) = aGXB m c (ix1 k)
    ∧ iblk m c 4 t (ix2 6 k) = aGAB m c (ix1 k) ∧ iblk m c 4 t (ix2 7 k) = aLAM m c (ix1 k) := by
  simp only [lp_at]
  exact hostLp_row _ _ _ _ _ k

theorem wg_at (g : Fin 8) (q u v : Fin 2) (i j : Fin 64) :
    iblk m c 5 t (ix3 g ⟨64 * u + i, by omega⟩ ⟨128 * q + 64 * v + j, by omega⟩)
      = if u = v then (if q = 0 then aGXW m c else aGAW m c) (ix3 ⟨g * 2 + u, by omega⟩ i j) else 0 := by
  rw [← hostWg_at (aGXW m c) (aGAW m c) g q u v i j, ← V_wg]
  blk_ext [iblk, idx_val t]

/-- The convolution's entry, as the kernel sums it. -/
def kxc (x0 : Vec Ideal S128x1024 .f32) (x2 : Vec Ideal S3x128x1024 .f32) (x4 : Vec Ideal S8x1024 .f32) (r : Fin 128) (k : Fin 1024) : EReal :=
  x4 (ix2 3 k) * x0 (ix2 r k) + x4 (ix2 4 k) + x4 (ix2 0 k) * x2 (ix3 0 r k) + x4 (ix2 1 k) * x2 (ix3 1 r k) + x4 (ix2 2 k) * x2 (ix3 2 r k)

/-- A gate's product, as the kernel sums it: over the 128 columns of a pair of heads. -/
def kpre (x0 : Vec Ideal S128x1024 .f32) (x2 : Vec Ideal S3x128x1024 .f32) (x4 : Vec Ideal S8x1024 .f32) (x5 : Vec Ideal S8x128x256 .bf16) (q : Fin 2)
    (r : Fin 128) (g : Fin 8) (l : Fin 128) : EReal :=
  ∑ k : Fin 128, kxc x0 x2 x4 r ⟨g * 128 + k, by omega⟩ * x5 (ix3 g k ⟨q * 128 + l, by omega⟩)

variable (x0 x1 : Vec Ideal S128x1024 .f32) (x2 : Vec Ideal S3x128x1024 .f32) (x3 : Vec Ideal S128x1024 .f32) (x4 : Vec Ideal S8x1024 .f32) (x5 : Vec Ideal S8x128x256 .bf16)

theorem pay21_at (r : Fin 128) (k : Fin 1024) : k0_pay21 x0 x1 x2 x3 x4 x5 (ix2 r k) = kxc x0 x2 x4 r k := by
  pointwise [k0_pay21, k0_pay6, k0_pay20, k0_pay5, kxc]

set_option maxHeartbeats 2000000 in
theorem pay28_at (r : Fin 128) (g : Fin 8) (l : Fin 128) :
    k0_pay28 x0 x1 x2 x3 x4 x5 (ix2 r ⟨g * 128 + l, by omega⟩) = kpre x0 x2 x4 x5 1 r g l := by
  fin_cases g
  all_goals
    pointwise [k0_pay28, k0_pay17, k0_pay22, k0_pay23, k0_pay24, k0_pay25, k0_pay26, k0_pay27, k0_pay7, k0_pay8, k0_pay9, k0_pay10, k0_pay11, k0_pay12, k0_pay13, k0_pay14, k0_pay15, k0_pay16, kpre]
    try split_ifs
    all_goals first
      | omega
      | exact Finset.sum_congr rfl fun x _ => Ideal.mul_congr (pay21_at x0 x1 x2 x3 x4 x5 _ _) (congrArg (fun j => x5 (ix3 _ x j)) (Fin.ext (by first | rfl | (dsimp only; omega))))

set_option maxHeartbeats 2000000 in
theorem pay29_at (r : Fin 128) (g : Fin 8) (l : Fin 128) :
    k0_pay29 x0 x1 x2 x3 x4 x5 (ix2 r ⟨g * 128 + l, by omega⟩)
      = 1 + Ideal.exp (0 - (kpre x0 x2 x4 x5 0 r g l + x4 (ix2 5 ⟨g * 128 + l, by omega⟩))) := by
  fin_cases g
  all_goals
    pointwise [k0_pay29, k0_pay18, k0_pay22, k0_pay23, k0_pay24, k0_pay25, k0_pay26, k0_pay27, k0_pay7, k0_pay8, k0_pay9, k0_pay10, k0_pay11, k0_pay12, k0_pay13, k0_pay14, k0_pay15, k0_pay16, kpre]
    refine congrArg (fun z => 1 + Ideal.exp (0 - (z + _))) ?_
    try split_ifs
    all_goals first
      | omega
      | exact Finset.sum_congr rfl fun x _ => Ideal.mul_congr (pay21_at x0 x1 x2 x3 x4 x5 _ _) (congrArg (fun j => x5 (ix3 _ x j)) (Fin.ext (by first | rfl | (dsimp only; omega))))

end Cert.LruIdeal.Hand

end
-- ==== Proof.LruValue.lean ====
/- The values of the RG-LRU decode call: each result array is the reference's term. -/
module

public import proofs.«01_k».proof.Proof.LruPay

@[expose] public section

set_option maxRecDepth 16384

noncomputable section

namespace Cert.LruIdeal.Hand

open Cert.LruIdeal Cert.LruIdeal.Gen Idealize.ShloMosaic Idealize.ShloMosaic.TcCoe Idealize.SL.Sem
open Idealize.ShloMosaic.Pipeline (Dat)
open Cert.LruRefIdeal.Hand (sgm sp xcE preE gateE hE decE TZ TCB TH TCW TV TW)

variable (m : (ℓ : Loc nD τ sig) → Buf (Elt Ideal) ℓ) (c : Dev nD) (t : Fin cfg0.N)

/-- The convolution's entries are the reference's. -/
theorem kxc_eq (r : Fin 128) (k : Fin 1024) :
    kxc (iblk m c 0 t) (iblk m c 2 t) (iblk m c 4 t) r k = xcE (aZ m c) (aCB m c) (aCW m c) (aCb m c) r k := by
  have h0 : iblk m c 4 t (ix2 0 k) = aCW m c (ix2 0 k) := lp_cw m c t 0 k
  have h1 : iblk m c 4 t (ix2 1 k) = aCW m c (ix2 1 k) := lp_cw m c t 1 k
  have h2 : iblk m c 4 t (ix2 2 k) = aCW m c (ix2 2 k) := lp_cw m c t 2 k
  have h3 : iblk m c 4 t (ix2 3 k) = aCW m c (ix2 3 k) := lp_cw m c t 3 k
  unfold kxc xcE
  rw [conv_at m c t 0 r k, conv_at m c t 1 r k, conv_at m c t 2 r k, zx_at m c t r k, h0, h1, h2, h3, (lp_row m c t k).1]
  generalize aCW m c (ix2 0 k) * _ = a; generalize aCW m c (ix2 1 k) * _ = b; generalize aCW m c (ix2 2 k) * _ = d; generalize aCW m c (ix2 3 k) * _ = e
  generalize aCb m c (ix1 k) = f
  show (e + f + a + b + d : EReal) = a + b + d + e + f
  abel

theorem preE_split (Z : TZ) (CB : TCB) (CW : TCW) (Cb : TV) (W : TW) (r : Fin 128) (g : Fin 8) (v : Fin 2) (j : Fin 64) :
    preE Z CB CW Cb W r ⟨g * 128 + (64 * v + j), by omega⟩
      = ∑ i : Fin 64, W (ix3 ⟨g * 2 + v, by omega⟩ i j) * xcE Z CB CW Cb r ⟨g * 128 + (64 * v + i), by omega⟩ := by
  refine Finset.sum_congr rfl fun i _ => Ideal.mul_congr ?_ ?_
  · exact congrArg₂ (fun a b => W (ix3 a i b)) (Fin.ext (by dsimp only; omega)) (Fin.ext (by dsimp only; omega))
  · exact congrArg (xcE Z CB CW Cb r) (Fin.ext (by dsimp only; omega))

/-- The gates' products are the reference's: the other head's half of each pair is zero. -/
theorem kpre_eq (q : Fin 2) (r : Fin 128) (g : Fin 8) (v : Fin 2) (j : Fin 64) :
    kpre (iblk m c 0 t) (iblk m c 2 t) (iblk m c 4 t) (iblk m c 5 t) q r g ⟨64 * v + j, by omega⟩
      = preE (aZ m c) (aCB m c) (aCW m c) (aCb m c) (if q = 0 then aGXW m c else aGAW m c) r ⟨g * 128 + (64 * v + j), by omega⟩ := by
  rw [preE_split]
  unfold kpre
  simp only [kxc_eq]
  rw [Fin.sum_univ_two_halves 64 64 rfl]
  have hw : ∀ (u : Fin 2) (i : Fin 64) (a : Fin 128) (b : Fin 256), (a : ℕ) = 64 * u + i → (b : ℕ) = q * 128 + (64 * v + j) →
      iblk m c 5 t (ix3 g a b) = if u = v then (if q = 0 then aGXW m c else aGAW m c) (ix3 ⟨g * 2 + u, by omega⟩ i j) else 0 := by
    intro u i a b ha hb
    rw [← wg_at m c t g q u v i j]
    exact congrArg₂ (fun a b => iblk m c 5 t (ix3 g a b)) (Fin.ext (by dsimp only; omega)) (Fin.ext (by dsimp only; omega))
  have hz : ∀ x : EReal, x * 0 = 0 := mul_zero
  obtain rfl | rfl : v = 0 ∨ v = 1 := by omega
  · refine (congrArg₂ (fun a b : EReal => a + b) (Finset.sum_congr rfl fun i _ => ?_) (Finset.sum_eq_zero fun k _ => ?_)).trans (add_zero _)
    · rw [hw 0 i _ _ (by simp) rfl, if_pos rfl]
      exact (mul_comm (G := EReal) _ _).trans (Ideal.mul_congr rfl (congrArg (xcE _ _ _ _ r) (Fin.ext (by simp))))
    · rw [hw 1 k _ _ rfl rfl, if_neg (by decide)]
      exact hz _
  · refine (congrArg₂ (fun a b : EReal => a + b) (Finset.sum_eq_zero fun k _ => ?_) (Finset.sum_congr rfl fun i _ => ?_)).trans (zero_add _)
    · rw [hw 0 k _ _ (by simp) rfl, if_neg (by decide)]
      exact hz _
    · rw [hw 1 i _ _ (by simp) rfl, if_pos rfl]
      exact (mul_comm (G := EReal) _ _).trans (Ideal.mul_congr rfl (congrArg (xcE _ _ _ _ r) (Fin.ext (by simp))))

variable (x0 x1 : Vec Ideal S128x1024 .f32) (x2 : Vec Ideal S3x128x1024 .f32) (x3 : Vec Ideal S128x1024 .f32) (x4 : Vec Ideal S8x1024 .f32) (x5 : Vec Ideal S8x128x256 .bf16)

/-- The new state's payload at an entry. -/
theorem pay19_at (xc pa px : FVec Ideal S128x1024 .f32) (b l : Vec Ideal S1x1024 .f32) (h : Vec Ideal S128x1024 .f32) (r : Fin 128) (k : Fin 1024) :
    k0_pay19 xc pa px (Scalar.ofBits .f32 0x3F800000#32) b l h (ix2 r k)
      = hE (xc (ix2 r k)) (Ideal.div 1 (px (ix2 r k))) (sgm (pa (ix2 r k) + b (ix2 0 k))) (l (ix2 0 k)) (h (ix2 r k)) := by
  have ha : ∀ x : EReal, FloatOps.absf (F := Ideal) (φ := .f32) x = max x (-x) := fun _ => rfl
  pointwise [k0_pay19, hE, decE, sgm, sp]
  simp only [zero_sub, ha]

theorem pay1_at (h : FVec Ideal S128x1024 .f32) (z : Vec Ideal S128x1024 .f32) (r : Fin 128) (k : Fin 1024) :
    k0_pay1 h z (ix2 r k) = h (ix2 r k) * (z (ix2 r k) * sgm (z (ix2 r k))) := by
  pointwise [k0_pay1, sgm]
  simp only [zero_sub]

theorem h_at (xc pa px : FVec Ideal S128x1024 .f32) (hx : xc = k0_pay21 (iblk m c 0 t) (iblk m c 1 t) (iblk m c 2 t) (iblk m c 3 t) (iblk m c 4 t) (iblk m c 5 t))
    (ha : pa = k0_pay28 (iblk m c 0 t) (iblk m c 1 t) (iblk m c 2 t) (iblk m c 3 t) (iblk m c 4 t) (iblk m c 5 t))
    (hp : px = k0_pay29 (iblk m c 0 t) (iblk m c 1 t) (iblk m c 2 t) (iblk m c 3 t) (iblk m c 4 t) (iblk m c 5 t)) (r : Fin 128) (k : Fin 1024) :
    hE (xc (ix2 r k)) (Ideal.div 1 (px (ix2 r k))) (sgm (pa (ix2 r k) + iblk m c 4 t (ix2 6 k))) (iblk m c 4 t (ix2 7 k)) (iblk m c 3 t (ix2 r k))
      = Cert.LruRefIdeal.Hand.refH (aZ m c) (aCB m c) (aH m c) (aCW m c) (aCb m c) (aGXW m c) (aGXB m c) (aGAW m c) (aGAB m c) (aLAM m c) (ix2 r k) := by
  obtain ⟨g, v, j, hk⟩ : ∃ (g : Fin 8) (v : Fin 2) (j : Fin 64), (k : ℕ) = g * 128 + (64 * v + j) :=
    ⟨⟨k / 128, by omega⟩, ⟨k % 128 / 64, by omega⟩, ⟨k % 64, by omega⟩, by dsimp only; omega⟩
  rw [show k = ⟨g * 128 + (64 * v + j), by omega⟩ from Fin.ext hk]
  have e28 := pay28_at (iblk m c 0 t) (iblk m c 1 t) (iblk m c 2 t) (iblk m c 3 t) (iblk m c 4 t) (iblk m c 5 t) r g ⟨64 * v + j, by omega⟩
  have e29 := pay29_at (iblk m c 0 t) (iblk m c 1 t) (iblk m c 2 t) (iblk m c 3 t) (iblk m c 4 t) (iblk m c 5 t) r g ⟨64 * v + j, by omega⟩
  rw [kpre_eq, if_neg (by decide)] at e28
  rw [kpre_eq, if_pos rfl, zero_sub, (lp_row m c t _).2.1] at e29
  rw [Cert.LruRefIdeal.Hand.refH_at, hx, ha, hp, pay21_at, kxc_eq, (lp_row m c t _).2.2.1, (lp_row m c t _).2.2.2, h0_at]
  exact congrArg₂ (fun a b => hE _ a b _ _) (congrArg (Ideal.div 1) e29) (congrArg (fun a => sgm (a + _)) e28)

theorem ld18_at (k : Fin 1024) : View.ld x4 r0_18 (ix2 0 k) = x4 (ix2 6 k) := by pointwise
theorem ld19_at (k : Fin 1024) : View.ld x4 r0_19 (ix2 0 k) = x4 (ix2 7 k) := by pointwise
theorem ld0_at (r : Fin 128) (k : Fin 1024) : View.ld x3 r0_0 (ix2 r k) = x3 (ix2 r k) := by pointwise

/-- The new state's block at an entry, -/
theorem out7_at (r : Fin 128) (k : Fin 1024) : out0_7 x0 x1 x2 x3 x4 x5 (ix2 r k)
    = hE (k0_pay21 x0 x1 x2 x3 x4 x5 (ix2 r k)) (Ideal.div 1 (k0_pay29 x0 x1 x2 x3 x4 x5 (ix2 r k)))
      (sgm (k0_pay28 x0 x1 x2 x3 x4 x5 (ix2 r k) + x4 (ix2 6 k))) (x4 (ix2 7 k)) (x3 (ix2 r k)) := by
  unfold out0_7
  refine (congrFun (View.canon_cons_unit_lit _ _ _ (by decide)) _).trans ?_
  refine (pay19_at _ _ _ _ _ _ r k).trans ?_
  rw [ld18_at, ld19_at, ld0_at]

/-- and the gated output's. -/
theorem out6_at (r : Fin 128) (k : Fin 1024) : out0_6 x0 x1 x2 x3 x4 x5 (ix2 r k)
    = hE (k0_pay21 x0 x1 x2 x3 x4 x5 (ix2 r k)) (Ideal.div 1 (k0_pay29 x0 x1 x2 x3 x4 x5 (ix2 r k)))
      (sgm (k0_pay28 x0 x1 x2 x3 x4 x5 (ix2 r k) + x4 (ix2 6 k))) (x4 (ix2 7 k)) (x3 (ix2 r k)) * (x1 (ix2 r k) * sgm (x1 (ix2 r k))) := by
  unfold out0_6
  refine (congrFun (View.canon_cons_unit_lit _ _ _ (by decide)) _).trans ?_
  refine (pay1_at _ _ r k).trans ?_
  rw [pay19_at, ld18_at, ld19_at, ld0_at, ld0_at]

/-- The new state's array. -/
theorem final7 : (dats m 0 c).arrAt 7 (cfgs 0).N
    = Cert.LruRefIdeal.Hand.refH (aZ m c) (aCB m c) (aH m c) (aCW m c) (aCb m c) (aGXW m c) (aGXB m c) (aGAW m c) (aGAB m c) (aLAM m c) := by
  refine (dats m 0 c).arrAt_eq_of_covers 7 _ (by decide +kernel) fun t _ y => ?_
  rw [after0_7]
  obtain ⟨r, k, rfl⟩ : ∃ (r : Fin 128) (k : Fin 1024), y = ix2 r k := ⟨y 0, y 1, by idx_vars y⟩
  have e := (out7_at (iblk m c 0 t) (iblk m c 1 t) (iblk m c 2 t) (iblk m c 3 t) (iblk m c 4 t) (iblk m c 5 t) r k).trans (h_at m c t _ _ _ rfl rfl rfl r k)
  generalize out0_7 (iblk m c 0 t) (iblk m c 1 t) (iblk m c 2 t) (iblk m c 3 t) (iblk m c 4 t) (iblk m c 5 t) = O at *
  generalize Cert.LruRefIdeal.Hand.refH (aZ m c) (aCB m c) (aH m c) (aCW m c) (aCb m c) (aGXW m c) (aGXB m c) (aGAW m c) (aGAB m c) (aLAM m c) = R at *
  blk_ext [e, idx_val t]

/-- The gated output's array. -/
theorem final6 : (dats m 0 c).arrAt 6 (cfgs 0).N
    = Cert.LruRefIdeal.Hand.refO (aZ m c) (aCB m c) (aH m c) (aCW m c) (aCb m c) (aGXW m c) (aGXB m c) (aGAW m c) (aGAB m c) (aLAM m c) := by
  refine (dats m 0 c).arrAt_eq_of_covers 6 _ (by decide +kernel) fun t _ y => ?_
  rw [after0_6]
  obtain ⟨r, k, rfl⟩ : ∃ (r : Fin 128) (k : Fin 1024), y = ix2 r k := ⟨y 0, y 1, by idx_vars y⟩
  have e : out0_6 (iblk m c 0 t) (iblk m c 1 t) (iblk m c 2 t) (iblk m c 3 t) (iblk m c 4 t) (iblk m c 5 t) (ix2 r k)
      = Cert.LruRefIdeal.Hand.refO (aZ m c) (aCB m c) (aH m c) (aCW m c) (aCb m c) (aGXW m c) (aGXB m c) (aGAW m c) (aGAB m c) (aLAM m c) (ix2 r k) := by
    rw [Cert.LruRefIdeal.Hand.refO_at, ← Cert.LruRefIdeal.Hand.refH_at, ← h_at m c t _ _ _ rfl rfl rfl r k, ← zg_at m c t r k]
    exact out6_at _ _ _ _ _ _ r k
  generalize out0_6 (iblk m c 0 t) (iblk m c 1 t) (iblk m c 2 t) (iblk m c 3 t) (iblk m c 4 t) (iblk m c 5 t) = O at *
  generalize Cert.LruRefIdeal.Hand.refO (aZ m c) (aCB m c) (aH m c) (aCW m c) (aCb m c) (aGXW m c) (aGXB m c) (aGAW m c) (aGAB m c) (aLAM m c) = R at *
  blk_ext [e, idx_val t]

/-- The convolution state's payloads: the last two entries of the old state and the new one. -/
theorem cv_at (y : S3x128x1024.Idx) : out0_8 (iblk m c 0 t) (iblk m c 1 t) (iblk m c 2 t) (iblk m c 3 t) (iblk m c 4 t) (iblk m c 5 t) y
    = Cert.LruRefIdeal.Hand.refCv (aZ m c) (aCB m c) y := by
  have c1 : ∀ r k, iblk m c 2 t (ix3 1 r k) = aCB m c (ix3 r 1 k) := conv_at m c t 1
  have c2 : ∀ r k, iblk m c 2 t (ix3 2 r k) = aCB m c (ix3 r 2 k) := conv_at m c t 2
  have c0 := zx_at m c t
  generalize iblk m c 0 t = X0 at *
  generalize iblk m c 2 t = X2 at *
  generalize aZ m c = Z at *
  generalize aCB m c = CB at *
  unfold out0_8
  canon_tiles u h
  · pointwise [k0_pay4, Cert.LruRefIdeal.Hand.refCv, h0, h1, h2]
    exact c0 _ _
  · pointwise [k0_pay3, Cert.LruRefIdeal.Hand.refCv, h0, h1, h2]
    exact c2 _ _
  · pointwise [k0_pay2, Cert.LruRefIdeal.Hand.refCv, h0, h1, h2]
    exact c1 _ _

/-- The convolution state's array. -/
theorem final8 : (dats m 0 c).arrAt 8 (cfgs 0).N = Cert.LruRefIdeal.Hand.refCv (aZ m c) (aCB m c) := by
  refine (dats m 0 c).arrAt_eq_of_covers 8 _ (by decide +kernel) fun t _ y => ?_
  rw [after0_8]
  have e := cv_at m c t y
  generalize out0_8 (iblk m c 0 t) (iblk m c 1 t) (iblk m c 2 t) (iblk m c 3 t) (iblk m c 4 t) (iblk m c 5 t) = O at *
  generalize Cert.LruRefIdeal.Hand.refCv (aZ m c) (aCB m c) = R at *
  blk_ext [e, idx_val t]

end Cert.LruIdeal.Hand

end
-- ==== Proof.LruClaim.lean ====
/- The claims about the RG-LRU decode call. -/
module

public import proofs.«01_k».proof.Defs
public import proofs.«01_k».proof.Proof.LruValue
public import proofs.«01_k».proof.Proof.Gen.Lru.Frame
public import proofs.«01_k».proof.Proof.Gen.LruRefIdeal.Run

@[expose] public section

set_option maxRecDepth 16384

noncomputable section

namespace Cert.Proof

open Idealize.ShloMosaic Idealize.SL.Sem

theorem lru_frame : Cert.quiescent_Lru := by
  intro m g _
  exact Cert.Lru.Gen.frame m g

theorem lru_ideal_frame : Cert.quiescent_LruIdeal := by
  intro m g _
  exact Cert.LruIdeal.Gen.frame m g

theorem lru_ref_frame : Cert.quiescent_LruRefIdeal := fun m g _ =>
  (θ_run Cert.LruRefIdeal.defs _ _).mono (fun r h => ⟨fun c => (h c).2.2.2, sem_eq_zero_of_no_sems (by decide) r.2⟩)
    (Cert.LruRefIdeal.Value.run (F := Ideal) m g)

theorem lru_preserves : Cert.preserves_Lru_LruIdeal := trivial

theorem lru_res82 (m' : (ℓ : Loc Cert.LruRefIdeal.nD Cert.LruRefIdeal.τ Cert.LruRefIdeal.sig) → Buf (Elt Ideal) ℓ) (c : Dev Cert.LruRefIdeal.nD) : Cert.LruRefIdeal.Value.res_main_v82 m' c = Cert.LruRefIdeal.Hand.refH (m' ((c.tc : Thread Cert.LruRefIdeal.nD Cert.LruRefIdeal.τ).loc Cert.LruRefIdeal.main_arg0)) (m' ((c.tc : Thread Cert.LruRefIdeal.nD Cert.LruRefIdeal.τ).loc Cert.LruRefIdeal.main_arg1)) (m' ((c.tc : Thread Cert.LruRefIdeal.nD Cert.LruRefIdeal.τ).loc Cert.LruRefIdeal.main_arg2)) (m' ((c.tc : Thread Cert.LruRefIdeal.nD Cert.LruRefIdeal.τ).loc Cert.LruRefIdeal.main_arg3)) (m' ((c.tc : Thread Cert.LruRefIdeal.nD Cert.LruRefIdeal.τ).loc Cert.LruRefIdeal.main_arg4)) (m' ((c.tc : Thread Cert.LruRefIdeal.nD Cert.LruRefIdeal.τ).loc Cert.LruRefIdeal.main_arg5)) (m' ((c.tc : Thread Cert.LruRefIdeal.nD Cert.LruRefIdeal.τ).loc Cert.LruRefIdeal.main_arg6)) (m' ((c.tc : Thread Cert.LruRefIdeal.nD Cert.LruRefIdeal.τ).loc Cert.LruRefIdeal.main_arg7)) (m' ((c.tc : Thread Cert.LruRefIdeal.nD Cert.LruRefIdeal.τ).loc Cert.LruRefIdeal.main_arg8)) (m' ((c.tc : Thread Cert.LruRefIdeal.nD Cert.LruRefIdeal.τ).loc Cert.LruRefIdeal.main_arg9)) := by
  unfold Cert.LruRefIdeal.Value.res_main_v82 Cert.LruRefIdeal.Hand.refH
  rfl

theorem lru_res85 (m' : (ℓ : Loc Cert.LruRefIdeal.nD Cert.LruRefIdeal.τ Cert.LruRefIdeal.sig) → Buf (Elt Ideal) ℓ) (c : Dev Cert.LruRefIdeal.nD) : Cert.LruRefIdeal.Value.res_main_v85 m' c = Cert.LruRefIdeal.Hand.refO (m' ((c.tc : Thread Cert.LruRefIdeal.nD Cert.LruRefIdeal.τ).loc Cert.LruRefIdeal.main_arg0)) (m' ((c.tc : Thread Cert.LruRefIdeal.nD Cert.LruRefIdeal.τ).loc Cert.LruRefIdeal.main_arg1)) (m' ((c.tc : Thread Cert.LruRefIdeal.nD Cert.LruRefIdeal.τ).loc Cert.LruRefIdeal.main_arg2)) (m' ((c.tc : Thread Cert.LruRefIdeal.nD Cert.LruRefIdeal.τ).loc Cert.LruRefIdeal.main_arg3)) (m' ((c.tc : Thread Cert.LruRefIdeal.nD Cert.LruRefIdeal.τ).loc Cert.LruRefIdeal.main_arg4)) (m' ((c.tc : Thread Cert.LruRefIdeal.nD Cert.LruRefIdeal.τ).loc Cert.LruRefIdeal.main_arg5)) (m' ((c.tc : Thread Cert.LruRefIdeal.nD Cert.LruRefIdeal.τ).loc Cert.LruRefIdeal.main_arg6)) (m' ((c.tc : Thread Cert.LruRefIdeal.nD Cert.LruRefIdeal.τ).loc Cert.LruRefIdeal.main_arg7)) (m' ((c.tc : Thread Cert.LruRefIdeal.nD Cert.LruRefIdeal.τ).loc Cert.LruRefIdeal.main_arg8)) (m' ((c.tc : Thread Cert.LruRefIdeal.nD Cert.LruRefIdeal.τ).loc Cert.LruRefIdeal.main_arg9)) := by
  unfold Cert.LruRefIdeal.Value.res_main_v85 Cert.LruRefIdeal.Hand.refO
  rw [← lru_res82]
  rfl

theorem lru_algebraic : Cert.algebraic_LruIdeal_LruRefIdeal := by
  pair_intro
  · run_from Cert.LruIdeal.Value.run_blocks m g
  · run_from Cert.LruRefIdeal.Value.run m' g'
    · obtain ⟨h0, h1, h2, h3, h4, h5, h6, h7, h8, h9⟩ := hagree c
      refine (lru_res85 m' c).trans (Eq.trans ?_ (Cert.LruIdeal.Hand.final6 m c).symm)
      rw [h0, h1, h2, h3, h4, h5, h6, h7, h8, h9]
    · obtain ⟨h0, h1, h2, h3, h4, h5, h6, h7, h8, h9⟩ := hagree c
      refine (lru_res82 m' c).trans (Eq.trans ?_ (Cert.LruIdeal.Hand.final7 m c).symm)
      rw [h0, h1, h2, h3, h4, h5, h6, h7, h8, h9]
    · obtain ⟨h0, h1, h2, h3, h4, h5, h6, h7, h8, h9⟩ := hagree c
      refine Eq.trans ?_ (Cert.LruIdeal.Hand.final8 m c).symm
      rfl

end Cert.Proof

end
-- ==== Proof.StepTrip.lean ====
/- One trip of the state loops of the decode call. -/
module

public import proofs.«01_k».proof.Proof.Gen.StepIdeal.Frame
public import proofs.«01_k».proof.Proof.Gen.StepIdeal.Skeleton
public import proofs.«01_k».proof.Proof.Gen.StepIdeal.Loops
public import Idealize.ShloMosaic.Lib.Pipeline.ValueKit
public import Idealize.ShloMosaic.Lib.Claim
public import Idealize.ShloMosaic.Lib.Pointwise

@[expose] public section

set_option maxRecDepth 16384

noncomputable section

namespace Cert.StepIdeal.Hand

open Cert.StepIdeal Cert.StepIdeal.Gen
open Idealize.ShloMosaic Idealize.ShloMosaic.TcCoe Idealize.ShloMosaic.Tactic
open Idealize.SL.Sem

variable {F : FTy → Type} [FloatOps F]

/-- The sum over a state's rows against a column of weights: `Σ_i s_i w_i`, one row. -/
def rowSum (w : Vec F S64x128 .f32) (s : FVec F S64x128 .f32) : FVec F S1x128 .f32 :=
  shapeCast S1x128 (multiReduction .add [0] S128 (mulf s w) 0x00000000#32 reduces_S64x128_S128 (.inl rfl) rfl) shapeCasts_S128_S1x128

/-- The recurrence on one row of a head's state: `s d + (Σ s a) b + v k`. -/
def newS (a b k d : Vec F S64x128 .f32) (v : FVec F S1x128 .f32) (s : FVec F S64x128 .f32) : FVec F S64x128 .f32 :=
  addf (addf (mulf s d) (mulf (broadcastTo S64x128 (rowSum a s) broadcasts_S1x128_S64x128) b))
    (mulf (broadcastTo S64x128 v broadcasts_S1x128_S64x128) k)

/-- The row's output: `Σ s (d r) + (Σ s a) (Σ b r) + v (Σ k r)`. -/
def newY (a dr : Vec F S64x128 .f32) (br kr : Vec F S1x128 .f32) (v : FVec F S1x128 .f32) (s : FVec F S64x128 .f32) : FVec F S1x128 .f32 :=
  addf (addf (rowSum dr s) (mulf (rowSum a s) br)) (mulf v kr)

theorem sl8 : ∀ j : Fin 8, S8x128.Slices ![j.val, 0] S1x128
  | 0 => slices_S8x128_o0_0_S1x128
  | 1 => slices_S8x128_o1_0_S1x128
  | 2 => slices_S8x128_o2_0_S1x128
  | 3 => slices_S8x128_o3_0_S1x128
  | 4 => slices_S8x128_o4_0_S1x128
  | 5 => slices_S8x128_o5_0_S1x128
  | 6 => slices_S8x128_o6_0_S1x128
  | 7 => slices_S8x128_o7_0_S1x128

/-- One of a trip's eight stores of the state. -/
def pcS (a b k d : Vec F S64x128 .f32) (v8 : Vec F S8x128 .f32) (x7 : Vec F S2x64x64x128 .f32) (j : Fin 8) (off : Fin 4 → ℕ)
    (inb : ∀ q, off q + S1x1x64x128.size q ≤ S2x64x64x128.size q) : View.Piece (Elt F) S2x64x64x128 .f32 :=
  ⟨Rect.unit (s := S2x64x64x128) off S1x1x64x128.size inb,
    shapeCast S1x1x64x128 (newS a b k d (extractStridedSlice S1x128 ![j.val, 0] v8 (sl8 j))
      (shapeCast S64x128 (View.ld x7 (Rect.unit (s := S2x64x64x128) off S1x1x64x128.size inb)) shapeCasts_S1x1x64x128_S64x128)) shapeCasts_S64x128_S1x1x64x128⟩

/-- One of a trip's eight output rows. -/
def rowY (a dr : Vec F S64x128 .f32) (br kr : Vec F S1x128 .f32) (v8 : Vec F S8x128 .f32) (x7 : Vec F S2x64x64x128 .f32) (j : Fin 8) (off : Fin 4 → ℕ)
    (inb : ∀ q, off q + S1x1x64x128.size q ≤ S2x64x64x128.size q) : FVec F S1x128 .f32 :=
  newY a dr br kr (extractStridedSlice S1x128 ![j.val, 0] v8 (sl8 j))
      (shapeCast S64x128 (View.ld x7 (Rect.unit (s := S2x64x64x128) off S1x1x64x128.size inb)) shapeCasts_S1x1x64x128_S64x128)

/-- A trip's eight output rows. -/
def rowsY (f : Fin 8 → FVec F S1x128 .f32) : FVec F S8x128 .f32 :=
  shapeCast S8x128 (concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S8x128_d0) shapeCasts_S8x128_S8x128

/-- A trip's stores: the eight rows of the state, and their eight outputs. -/
theorem trip1_list (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (X_arg7 : BufTy.Contents (Elt F) arg7.view.ty) (X_arg21 : BufTy.Contents (Elt F) arg21.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 X_arg7 X_arg21 k
      = ([pcS v8 v12 v14 v16 (View.ld (arg21.view.read (Elt F) X_arg21) (Rect.unit (s := S1024x128) (k0_off3 i k) S8x128.size (k0_off3_inb i k))) (arg7.view.read (Elt F) X_arg7) 7 (k0_off4 k 7#32) (k0_off4_inb k 7),
        pcS v8 v12 v14 v16 (View.ld (arg21.view.read (Elt F) X_arg21) (Rect.unit (s := S1024x128) (k0_off3 i k) S8x128.size (k0_off3_inb i k))) (arg7.view.read (Elt F) X_arg7) 6 (k0_off4 k 6#32) (k0_off4_inb k 6),
        pcS v8 v12 v14 v16 (View.ld (arg21.view.read (Elt F) X_arg21) (Rect.unit (s := S1024x128) (k0_off3 i k) S8x128.size (k0_off3_inb i k))) (arg7.view.read (Elt F) X_arg7) 5 (k0_off4 k 5#32) (k0_off4_inb k 5),
        pcS v8 v12 v14 v16 (View.ld (arg21.view.read (Elt F) X_arg21) (Rect.unit (s := S1024x128) (k0_off3 i k) S8x128.size (k0_off3_inb i k))) (arg7.view.read (Elt F) X_arg7) 4 (k0_off4 k 4#32) (k0_off4_inb k 4),
        pcS v8 v12 v14 v16 (View.ld (arg21.view.read (Elt F) X_arg21) (Rect.unit (s := S1024x128) (k0_off3 i k) S8x128.size (k0_off3_inb i k))) (arg7.view.read (Elt F) X_arg7) 3 (k0_off4 k 3#32) (k0_off4_inb k 3),
        pcS v8 v12 v14 v16 (View.ld (arg21.view.read (Elt F) X_arg21) (Rect.unit (s := S1024x128) (k0_off3 i k) S8x128.size (k0_off3_inb i k))) (arg7.view.read (Elt F) X_arg7) 2 (k0_off4 k 2#32) (k0_off4_inb k 2),
        pcS v8 v12 v14 v16 (View.ld (arg21.view.read (Elt F) X_arg21) (Rect.unit (s := S1024x128) (k0_off3 i k) S8x128.size (k0_off3_inb i k))) (arg7.view.read (Elt F) X_arg7) 1 (k0_off4 k 1#32) (k0_off4_inb k 1),
        pcS v8 v12 v14 v16 (View.ld (arg21.view.read (Elt F) X_arg21) (Rect.unit (s := S1024x128) (k0_off3 i k) S8x128.size (k0_off3_inb i k))) (arg7.view.read (Elt F) X_arg7) 0 (k0_off4 k 0#32) (k0_off4_inb k 0)],
        [⟨Rect.unit (s := S1024x128) (k0_off3 i k) S8x128.size (k0_off3_inb i k), rowsY (fun j => rowY v8 v10 v18 v20 (View.ld (arg21.view.read (Elt F) X_arg21) (Rect.unit (s := S1024x128) (k0_off3 i k) S8x128.size (k0_off3_inb i k))) (arg7.view.read (Elt F) X_arg7) j (k0_off4 k (BitVec.ofNat 32 j.val)) (k0_off4_inb k j))⟩]) := by
  unfold tripL_k0_t1 trip_k0_t1
  rfl

/-- A trip's stores: the eight rows of the state, and their eight outputs. -/
theorem trip2_list (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (X_arg7 : BufTy.Contents (Elt F) arg7.view.ty) (X_arg21 : BufTy.Contents (Elt F) arg21.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 X_arg7 X_arg21 k
      = ([pcS v27 v31 v33 v35 (View.ld (arg21.view.read (Elt F) X_arg21) (Rect.unit (s := S1024x128) (k0_off5 i k) S8x128.size (k0_off5_inb i k))) (arg7.view.read (Elt F) X_arg7) 7 (k0_off6 k 7#32) (k0_off6_inb k 7),
        pcS v27 v31 v33 v35 (View.ld (arg21.view.read (Elt F) X_arg21) (Rect.unit (s := S1024x128) (k0_off5 i k) S8x128.size (k0_off5_inb i k))) (arg7.view.read (Elt F) X_arg7) 6 (k0_off6 k 6#32) (k0_off6_inb k 6),
        pcS v27 v31 v33 v35 (View.ld (arg21.view.read (Elt F) X_arg21) (Rect.unit (s := S1024x128) (k0_off5 i k) S8x128.size (k0_off5_inb i k))) (arg7.view.read (Elt F) X_arg7) 5 (k0_off6 k 5#32) (k0_off6_inb k 5),
        pcS v27 v31 v33 v35 (View.ld (arg21.view.read (Elt F) X_arg21) (Rect.unit (s := S1024x128) (k0_off5 i k) S8x128.size (k0_off5_inb i k))) (arg7.view.read (Elt F) X_arg7) 4 (k0_off6 k 4#32) (k0_off6_inb k 4),
        pcS v27 v31 v33 v35 (View.ld (arg21.view.read (Elt F) X_arg21) (Rect.unit (s := S1024x128) (k0_off5 i k) S8x128.size (k0_off5_inb i k))) (arg7.view.read (Elt F) X_arg7) 3 (k0_off6 k 3#32) (k0_off6_inb k 3),
        pcS v27 v31 v33 v35 (View.ld (arg21.view.read (Elt F) X_arg21) (Rect.unit (s := S1024x128) (k0_off5 i k) S8x128.size (k0_off5_inb i k))) (arg7.view.read (Elt F) X_arg7) 2 (k0_off6 k 2#32) (k0_off6_inb k 2),
        pcS v27 v31 v33 v35 (View.ld (arg21.view.read (Elt F) X_arg21) (Rect.unit (s := S1024x128) (k0_off5 i k) S8x128.size (k0_off5_inb i k))) (arg7.view.read (Elt F) X_arg7) 1 (k0_off6 k 1#32) (k0_off6_inb k 1),
        pcS v27 v31 v33 v35 (View.ld (arg21.view.read (Elt F) X_arg21) (Rect.unit (s := S1024x128) (k0_off5 i k) S8x128.size (k0_off5_inb i k))) (arg7.view.read (Elt F) X_arg7) 0 (k0_off6 k 0#32) (k0_off6_inb k 0)],
        [⟨Rect.unit (s := S1024x128) (k0_off5 i k) S8x128.size (k0_off5_inb i k), rowsY (fun j => rowY v27 v29 v37 v39 (View.ld (arg21.view.read (Elt F) X_arg21) (Rect.unit (s := S1024x128) (k0_off5 i k) S8x128.size (k0_off5_inb i k))) (arg7.view.read (Elt F) X_arg7) j (k0_off6 k (BitVec.ofNat 32 j.val)) (k0_off6_inb k j))⟩]) := by
  unfold tripL_k0_t2 trip_k0_t2
  rfl

end Cert.StepIdeal.Hand

end
-- ==== Proof.StepLoop.lean ====
/- What the state loops of the decode call leave. -/
module

public import proofs.«01_k».proof.Proof.StepTrip
public import Idealize.ShloMosaic.Lib.Pipeline.ValueKit
public import Idealize.ShloMosaic.Lib.Claim
public import Idealize.ShloMosaic.Lib.Pointwise

@[expose] public section

set_option maxRecDepth 16384

noncomputable section

namespace Cert.StepIdeal.Hand

open Cert.StepIdeal Cert.StepIdeal.Gen
open Idealize.ShloMosaic Idealize.ShloMosaic.TcCoe Idealize.ShloMosaic.Tactic
open Idealize.SL.Sem

variable {F : FTy → Type} [FloatOps F]

/-- Writes whose payloads are blocks of one function leave it where they cover, and what was there elsewhere. -/
theorem read_tiles {s : Shape} {e : EltTy} (v : View sig .tc .vmem s e) (f : v.ty.Contents (Elt F)) (L : List (View.Piece (Elt F) s e)) (G : s.Idx → Elt F e)
    (P : s.Idx → Prop) [DecidablePred P] (hG : ∀ p ∈ L, ∀ x : p.1.shape.Idx, p.2 x = G (p.1.emb x)) (hP : ∀ y, (∃ p ∈ L, y ∈ p.1.set) ↔ P y) :
    v.read (Elt F) (v.writes (Elt F) f L) = fun y => if P y then G y else v.read (Elt F) f y := by
  funext y
  by_cases h : P y
  · rw [if_pos h, View.read_writes_apply_eq_canon _ _ _ _ ((hP y).mpr h)]
    exact View.canon_apply_of_pieces G L hG y ((hP y).mpr h)
  · rw [if_neg h, View.read_writes_apply_of_forall_not_mem]
    exact fun p hp hy => h ((hP y).mp ⟨p, hp, hy⟩)

/-- The new state at an entry: row `y 1` of head `h`, from the value rows at `base`. -/
def stS (a b k d : Vec F S64x128 .f32) (x21 : Vec F S1024x128 .f32) (x7 : Vec F S2x64x64x128 .f32) (base : ℕ) (hb : base + 64 ≤ 1024) (h : Fin 2) (y : S2x64x64x128.Idx) : Elt F .f32 :=
  newS a b k d (fun q => x21 (ix2 ⟨base + y 1, by have := (y 1).isLt; simp at this; omega⟩ (q 1))) (fun q => x7 (ix4 h (y 1) (q 0) (q 1))) (ix2 (y 2) (y 3))

/-- The output at an entry: row `y 0`, which is row `(y 0 - base) % 64` of the head `h`. -/
def stY (a dr : Vec F S64x128 .f32) (br kr : Vec F S1x128 .f32) (x21 : Vec F S1024x128 .f32) (x7 : Vec F S2x64x64x128 .f32) (h : Fin 2) (y : S1024x128.Idx) : Elt F .f32 :=
  newY a dr br kr (fun q => x21 (ix2 (y 0) (q 1))) (fun q => x7 (ix4 h ⟨y 0 % 64, Nat.mod_lt _ (by decide)⟩ (q 0) (q 1))) (ix2 0 (y 1))

theorem rowsY_at (f : Fin 8 → FVec F S1x128 .f32) (x : S8x128.Idx) : rowsY f x = f (x 0) (ix2 0 (x 1)) := by
  idx_vars x
  pointwise [rowsY]
  fin_vals x0 with hk
  all_goals
    simp [hk]
    exact congrArg (fun j => f j (ix2 0 x1)) (Fin.ext hk.symm)

theorem cast4_at (W : FVec F S64x128 .f32) (x0 x1 : Fin 1) (x2 : Fin 64) (x3 : Fin 128) :
    shapeCast S1x1x64x128 W shapeCasts_S64x128_S1x1x64x128 (ix4 x0 x1 x2 x3) = W (ix2 x2 x3) := by
  pointwise

theorem cast2_eq (W : Vec F S1x1x64x128 .f32) : (shapeCast S64x128 W shapeCasts_S1x1x64x128_S64x128 : FVec F S64x128 .f32) = fun q => W (ix4 0 0 (q 0) (q 1)) := by
  funext q; idx_vars q; pointwise

theorem row8_eq (V : Vec F S8x128 .f32) (j : Fin 8) : (extractStridedSlice S1x128 ![j.val, 0] V (sl8 j) : FVec F S1x128 .f32) = fun q => V (ix2 j (q 1)) := by
  funext q; idx_vars q; pointwise

theorem ld8_at (x21 : Vec F S1024x128 .f32) (o : ℕ) (inb : ∀ q, (![o, 0] : Fin 2 → ℕ) q + S8x128.size q ≤ S1024x128.size q) (j : Fin 8) (b : Fin 128) :
    View.ld x21 (Rect.unit (s := S1024x128) ![o, 0] S8x128.size inb) (ix2 j b) = x21 (ix2 ⟨o + j, by have := inb 0; simp at this; omega⟩ b) := by
  pointwise

theorem ld4_at (x7 : Vec F S2x64x64x128 .f32) (h : Fin 2) (v : Fin 64) (inb : ∀ q, (![h.val, v.val, 0, 0] : Fin 4 → ℕ) q + S1x1x64x128.size q ≤ S2x64x64x128.size q) (i : Fin 64) (b : Fin 128) :
    View.ld x7 (Rect.unit (s := S2x64x64x128) ![h.val, v.val, 0, 0] S1x1x64x128.size inb) (ix4 0 0 i b) = x7 (ix4 h v i b) := by
  pointwise

/-- A store of one state row, at the entries it covers. -/
theorem pcS_at (a b k d : Vec F S64x128 .f32) (x21 : Vec F S1024x128 .f32) (x7 : Vec F S2x64x64x128 .f32) (base : ℕ) (hb : base + 64 ≤ 1024) (h : Fin 2) (n : ℕ) (hn : n < 8) (j : Fin 8)
    (v8 : Vec F S8x128 .f32) (hv : ∀ c : Fin 128, v8 (ix2 j c) = x21 (ix2 ⟨base + (8 * n + j), by omega⟩ c))
    (off : Fin 4 → ℕ) (inb : ∀ q, off q + S1x1x64x128.size q ≤ S2x64x64x128.size q) (e : off = ![h.val, 8 * n + j.val, 0, 0]) (x : S1x1x64x128.Idx) :
    (pcS a b k d v8 x7 j off inb).2 x = stS a b k d x21 x7 base hb h ((pcS a b k d v8 x7 j off inb).1.emb x) := by
  subst e
  have hj := j.isLt
  have e0 : ∀ x : S1x1x64x128.Idx, (Rect.unit (s := S2x64x64x128) ![h.val, 8 * n + j.val, 0, 0] S1x1x64x128.size inb).emb x = ix4 h ⟨8 * n + j, by omega⟩ (x 2) (x 3) := by
    intro x
    funext q
    apply Fin.ext
    have h0 : (x 0).val < 1 := (x 0).isLt
    have h1 : (x 1).val < 1 := (x 1).isLt
    fin_cases q
    · show h.val + 1 * (x 0).val = h.val; omega
    · show 8 * n + j.val + 1 * (x 1).val = 8 * n + j.val; omega
    · show 0 + 1 * (x 2).val = (x 2).val; omega
    · show 0 + 1 * (x 3).val = (x 3).val; omega
  have ex : x = ix4 (x 0) (x 1) (x 2) (x 3) := by funext q; fin_cases q <;> rfl
  refine (?_ : _ = newS a b k d (fun q => x21 (ix2 ⟨base + (8 * n + j), by omega⟩ (q 1))) (fun q => x7 (ix4 h ⟨8 * n + j, by omega⟩ (q 0) (q 1))) (ix2 (x 2) (x 3))).trans ?_
  · rw [ex]
    refine (cast4_at (newS a b k d (extractStridedSlice S1x128 ![j.val, 0] v8 (sl8 j))
      (shapeCast (s := S1x1x64x128) S64x128 (View.ld x7 (Rect.unit (s := S2x64x64x128) ![h.val, 8 * n + j.val, 0, 0] S1x1x64x128.size inb)) shapeCasts_S1x1x64x128_S64x128)) (x 0) (x 1) (x 2) (x 3)).trans ?_
    refine congrArg₂ (fun v s => newS a b k d v s (ix2 (x 2) (x 3))) ?_ ?_
    · rw [row8_eq]
      funext q
      exact hv (q 1)
    · rw [cast2_eq]
      funext q
      exact ld4_at x7 h ⟨8 * n + j, by omega⟩ inb _ _
  · exact (congrArg (stS a b k d x21 x7 base hb h) (e0 x)).symm

/-- A trip's output row, at its entries. -/
theorem rowY_at (a dr : Vec F S64x128 .f32) (br kr : Vec F S1x128 .f32) (x21 : Vec F S1024x128 .f32) (x7 : Vec F S2x64x64x128 .f32) (h : Fin 2) (n : ℕ) (hn : n < 8) (j : Fin 8)
    (v8 : Vec F S8x128 .f32) (row : Fin 1024) (hv : ∀ c : Fin 128, v8 (ix2 j c) = x21 (ix2 row c))
    (off : Fin 4 → ℕ) (inb : ∀ q, off q + S1x1x64x128.size q ≤ S2x64x64x128.size q) (e : off = ![h.val, 8 * n + j.val, 0, 0]) (hr : row.val % 64 = 8 * n + j.val) (c : Fin 128) :
    rowY a dr br kr v8 x7 j off inb (ix2 0 c) = stY a dr br kr x21 x7 h (ix2 row c) := by
  subst e
  have hj := j.isLt
  unfold rowY stY
  refine congrArg₂ (fun v s => newY a dr br kr v s (ix2 0 c)) ?_ ?_
  · rw [row8_eq]
    funext q
    exact hv (q 1)
  · rw [cast2_eq]
    funext q
    refine (ld4_at x7 h ⟨8 * n + j, by omega⟩ inb _ _).trans ?_
    exact congrArg (fun r => x7 (ix4 h r (q 0) (q 1))) (Fin.ext hr.symm)

theorem pcS_mem (a b k d : Vec F S64x128 .f32) (v8 : Vec F S8x128 .f32) (x7 : Vec F S2x64x64x128 .f32) (h : Fin 2) (n : ℕ) (j : Fin 8)
    (off : Fin 4 → ℕ) (inb : ∀ q, off q + S1x1x64x128.size q ≤ S2x64x64x128.size q) (e : off = ![h.val, 8 * n + j.val, 0, 0]) (y : S2x64x64x128.Idx) :
    y ∈ (pcS a b k d v8 x7 j off inb).1.set ↔ (y 0).val = h ∧ (y 1).val = 8 * n + j := by
  subst e
  unfold pcS
  rw [Rect.mem_set_unit]
  have h2 : (y 2).val < 64 := (y 2).isLt
  have h3 : (y 3).val < 128 := (y 3).isLt
  constructor
  · intro hy
    have y0 := hy 0; have y1 := hy 1
    simp at y0 y1
    omega
  · rintro ⟨y0, y1⟩ q
    fin_cases q <;> simp <;> omega

theorem off3_eq : ∀ (i : grid0.Coords) (k : Fin k0_t1_loop.trips), k0_off3 i k = ![128 * (i 0).val + 8 * k.val, 0] := by decide +kernel
theorem off5_eq : ∀ (i : grid0.Coords) (k : Fin k0_t2_loop.trips), k0_off5 i k = ![128 * (i 0).val + 64 + 8 * k.val, 0] := by decide +kernel
theorem off4_eq : ∀ (k : Fin k0_t1_loop.trips) (j : Fin 8), k0_off4 k (BitVec.ofNat 32 j.val) = ![(0 : Fin 2).val, 8 * k.val + j.val, 0, 0] := by decide +kernel
theorem off6_eq : ∀ (k : Fin k0_t2_loop.trips) (j : Fin 8), k0_off6 k (BitVec.ofNat 32 j.val) = ![(1 : Fin 2).val, 8 * k.val + j.val, 0, 0] := by decide +kernel
theorem trips1 : k0_t1_loop.trips = 8 := by decide +kernel
theorem trips2 : k0_t2_loop.trips = 8 := by decide +kernel

/-- What trip `k` of the loop leaves of the state, -/
theorem trip1_state (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (X_arg7 : BufTy.Contents (Elt F) arg7.view.ty) (X_arg21 : BufTy.Contents (Elt F) arg21.view.ty) (k : Fin k0_t1_loop.trips) (f : BufTy.Contents (Elt F) arg14.view.ty) (hb : (128 * (i 0).val) + 64 ≤ 1024) :
    arg14.view.read (Elt F) (arg14.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 X_arg7 X_arg21 k).1)
      = fun y => if (y 0).val = 0 ∧ (y 1).val / 8 = k.val then stS v8 v12 v14 v16 (arg21.view.read (Elt F) X_arg21) (arg7.view.read (Elt F) X_arg7) (128 * (i 0).val) hb 0 y else arg14.view.read (Elt F) f y := by
  have hk : k.val < 8 := Nat.lt_of_lt_of_le k.isLt k0_t1_abs.2.1
  have hv : ∀ (j : Fin 8) (c : Fin 128), (View.ld (arg21.view.read (Elt F) X_arg21) (Rect.unit (s := S1024x128) (k0_off3 i k) S8x128.size (k0_off3_inb i k))) (ix2 j c)
      = (arg21.view.read (Elt F) X_arg21) (ix2 ⟨(128 * (i 0).val) + (8 * k.val + j.val), by omega⟩ c) := by
    intro j c
    refine congrArg (arg21.view.read (Elt F) X_arg21) (funext fun q => Fin.ext ?_)
    have e := congrFun (off3_eq i k) q
    fin_cases q
    · show k0_off3 i k 0 + 1 * j.val = (128 * (i 0).val) + (8 * k.val + j.val)
      rw [off3_eq i k]; show (128 * (i 0).val) + 8 * k.val + 1 * j.val = _; omega
    · show k0_off3 i k 1 + 1 * c.val = c.val
      rw [off3_eq i k]; show 0 + 1 * c.val = _; omega
  refine read_tiles _ _ _ _ _ ?_ ?_
  · rw [trip1_list]
    intro p hp x
    fin_cases hp
    · exact pcS_at v8 v12 v14 v16 (arg21.view.read (Elt F) X_arg21) (arg7.view.read (Elt F) X_arg7) (128 * (i 0).val) hb 0 k.val hk 7 _ (hv 7) _ _ (off4_eq k 7) x
    · exact pcS_at v8 v12 v14 v16 (arg21.view.read (Elt F) X_arg21) (arg7.view.read (Elt F) X_arg7) (128 * (i 0).val) hb 0 k.val hk 6 _ (hv 6) _ _ (off4_eq k 6) x
    · exact pcS_at v8 v12 v14 v16 (arg21.view.read (Elt F) X_arg21) (arg7.view.read (Elt F) X_arg7) (128 * (i 0).val) hb 0 k.val hk 5 _ (hv 5) _ _ (off4_eq k 5) x
    · exact pcS_at v8 v12 v14 v16 (arg21.view.read (Elt F) X_arg21) (arg7.view.read (Elt F) X_arg7) (128 * (i 0).val) hb 0 k.val hk 4 _ (hv 4) _ _ (off4_eq k 4) x
    · exact pcS_at v8 v12 v14 v16 (arg21.view.read (Elt F) X_arg21) (arg7.view.read (Elt F) X_arg7) (128 * (i 0).val) hb 0 k.val hk 3 _ (hv 3) _ _ (off4_eq k 3) x
    · exact pcS_at v8 v12 v14 v16 (arg21.view.read (Elt F) X_arg21) (arg7.view.read (Elt F) X_arg7) (128 * (i 0).val) hb 0 k.val hk 2 _ (hv 2) _ _ (off4_eq k 2) x
    · exact pcS_at v8 v12 v14 v16 (arg21.view.read (Elt F) X_arg21) (arg7.view.read (Elt F) X_arg7) (128 * (i 0).val) hb 0 k.val hk 1 _ (hv 1) _ _ (off4_eq k 1) x
    · exact pcS_at v8 v12 v14 v16 (arg21.view.read (Elt F) X_arg21) (arg7.view.read (Elt F) X_arg7) (128 * (i 0).val) hb 0 k.val hk 0 _ (hv 0) _ _ (off4_eq k 0) x
  · intro y
    rw [trip1_list]
    constructor
    · rintro ⟨p, hp, hy⟩
      have fw : ∀ (j : Fin 8) (inb : ∀ q, k0_off4 k (BitVec.ofNat 32 j.val) q + S1x1x64x128.size q ≤ S2x64x64x128.size q) (V8 : Vec F S8x128 .f32),
          y ∈ (pcS v8 v12 v14 v16 V8 (arg7.view.read (Elt F) X_arg7) j (k0_off4 k (BitVec.ofNat 32 j.val)) inb).1.set → (y 0).val = 0 ∧ (y 1).val / 8 = k.val := by
        intro j inb V8 hy
        obtain ⟨h0, h1⟩ := (pcS_mem _ _ _ _ _ _ (0 : Fin 2) k.val _ _ _ (off4_eq k _) y).mp hy
        exact ⟨h0, by have := j.isLt; omega⟩
      fin_cases hp
      · exact fw 7 _ _ hy
      · exact fw 6 _ _ hy
      · exact fw 5 _ _ hy
      · exact fw 4 _ _ hy
      · exact fw 3 _ _ hy
      · exact fw 2 _ _ hy
      · exact fw 1 _ _ hy
      · exact fw 0 _ _ hy
    · rintro ⟨h0, h1⟩
      have hm : ∀ j : Fin 8, (y 1).val = 8 * k.val + j.val → ∀ (inb : ∀ q, k0_off4 k (BitVec.ofNat 32 j.val) q + S1x1x64x128.size q ≤ S2x64x64x128.size q) (V8 : Vec F S8x128 .f32),
          y ∈ (pcS v8 v12 v14 v16 V8 (arg7.view.read (Elt F) X_arg7) j (k0_off4 k (BitVec.ofNat 32 j.val)) inb).1.set :=
        fun j hj inb V8 => (pcS_mem _ _ _ _ _ _ (0 : Fin 2) k.val _ _ _ (off4_eq k _) y).mpr ⟨h0, hj⟩
      have h8 : (y 1).val % 8 < 8 := Nat.mod_lt _ (by decide)
      obtain e | e | e | e | e | e | e | e : (y 1).val = 8 * k.val + 0 ∨ (y 1).val = 8 * k.val + 1 ∨ (y 1).val = 8 * k.val + 2 ∨ (y 1).val = 8 * k.val + 3 ∨ (y 1).val = 8 * k.val + 4 ∨ (y 1).val = 8 * k.val + 5 ∨ (y 1).val = 8 * k.val + 6 ∨ (y 1).val = 8 * k.val + 7 := by omega
      · exact ⟨_, List.Mem.tail _ (List.Mem.tail _ (List.Mem.tail _ (List.Mem.tail _ (List.Mem.tail _ (List.Mem.tail _ (List.Mem.tail _ (List.Mem.head _))))))), hm 0 e _ _⟩
      · exact ⟨_, List.Mem.tail _ (List.Mem.tail _ (List.Mem.tail _ (List.Mem.tail _ (List.Mem.tail _ (List.Mem.tail _ (List.Mem.head _)))))), hm 1 e _ _⟩
      · exact ⟨_, List.Mem.tail _ (List.Mem.tail _ (List.Mem.tail _ (List.Mem.tail _ (List.Mem.tail _ (List.Mem.head _))))), hm 2 e _ _⟩
      · exact ⟨_, List.Mem.tail _ (List.Mem.tail _ (List.Mem.tail _ (List.Mem.tail _ (List.Mem.head _)))), hm 3 e _ _⟩
      · exact ⟨_, List.Mem.tail _ (List.Mem.tail _ (List.Mem.tail _ (List.Mem.head _))), hm 4 e _ _⟩
      · exact ⟨_, List.Mem.tail _ (List.Mem.tail _ (List.Mem.head _)), hm 5 e _ _⟩
      · exact ⟨_, List.Mem.tail _ (List.Mem.head _), hm 6 e _ _⟩
      · exact ⟨_, List.Mem.head _, hm 7 e _ _⟩

/-- and of the outputs. -/
theorem trip1_out (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (X_arg7 : BufTy.Contents (Elt F) arg7.view.ty) (X_arg21 : BufTy.Contents (Elt F) arg21.view.ty) (k : Fin k0_t1_loop.trips) (f : BufTy.Contents (Elt F) arg24.view.ty) (hb : (128 * (i 0).val) + 64 ≤ 1024) :
    arg24.view.read (Elt F) (arg24.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 X_arg7 X_arg21 k).2)
      = fun y => if (y 0).val / 8 = (128 * (i 0).val) / 8 + k.val then stY v8 v10 v18 v20 (arg21.view.read (Elt F) X_arg21) (arg7.view.read (Elt F) X_arg7) 0 y else arg24.view.read (Elt F) f y := by
  have hk : k.val < 8 := Nat.lt_of_lt_of_le k.isLt k0_t1_abs.2.1
  have hv : ∀ (j : Fin 8) (c : Fin 128), (View.ld (arg21.view.read (Elt F) X_arg21) (Rect.unit (s := S1024x128) (k0_off3 i k) S8x128.size (k0_off3_inb i k))) (ix2 j c)
      = (arg21.view.read (Elt F) X_arg21) (ix2 ⟨(128 * (i 0).val) + (8 * k.val + j.val), by omega⟩ c) := by
    intro j c
    refine congrArg (arg21.view.read (Elt F) X_arg21) (funext fun q => Fin.ext ?_)
    fin_cases q
    · show k0_off3 i k 0 + 1 * j.val = (128 * (i 0).val) + (8 * k.val + j.val)
      rw [off3_eq i k]; show (128 * (i 0).val) + 8 * k.val + 1 * j.val = _; omega
    · show k0_off3 i k 1 + 1 * c.val = c.val
      rw [off3_eq i k]; show 0 + 1 * c.val = _; omega
  have hx : ∀ x : S8x128.Idx, rowsY (fun j => rowY v8 v10 v18 v20 (View.ld (arg21.view.read (Elt F) X_arg21) (Rect.unit (s := S1024x128) (k0_off3 i k) S8x128.size (k0_off3_inb i k))) (arg7.view.read (Elt F) X_arg7) j (k0_off4 k (BitVec.ofNat 32 j.val)) (k0_off4_inb k j)) x
      = stY v8 v10 v18 v20 (arg21.view.read (Elt F) X_arg21) (arg7.view.read (Elt F) X_arg7) 0 ((Rect.unit (s := S1024x128) (k0_off3 i k) S8x128.size (k0_off3_inb i k)).emb x) := by
    intro x
    have ee : (Rect.unit (s := S1024x128) (k0_off3 i k) S8x128.size (k0_off3_inb i k)).emb x = ix2 ⟨(128 * (i 0).val) + (8 * k.val + (x 0).val), by have h : (x 0).val < 8 := (x 0).isLt; omega⟩ (x 1) := by
      funext q
      apply Fin.ext
      fin_cases q
      · show k0_off3 i k 0 + 1 * (x 0).val = (128 * (i 0).val) + (8 * k.val + (x 0).val)
        rw [off3_eq i k]; show (128 * (i 0).val) + 8 * k.val + 1 * (x 0).val = _; omega
      · show k0_off3 i k 1 + 1 * (x 1).val = (x 1).val
        rw [off3_eq i k]; show 0 + 1 * (x 1).val = _; omega
    rw [ee, rowsY_at]
    refine rowY_at v8 v10 v18 v20 (arg21.view.read (Elt F) X_arg21) (arg7.view.read (Elt F) X_arg7) 0 k.val hk (x 0) _ _ (hv (x 0)) _ _ (off4_eq k (x 0)) ?_ (x 1)
    have h : (x 0).val < 8 := (x 0).isLt
    dsimp only
    omega
  refine read_tiles _ _ _ _ _ ?_ ?_
  · rw [trip1_list]
    intro p hp x
    rw [List.mem_singleton] at hp
    subst hp
    exact hx x
  · intro y
    rw [trip1_list]
    have hm : y ∈ (Rect.unit (s := S1024x128) (k0_off3 i k) S8x128.size (k0_off3_inb i k)).set ↔ (y 0).val / 8 = (128 * (i 0).val) / 8 + k.val := by
      rw [Rect.mem_set_unit]
      have hy1 : (y 1).val < 128 := (y 1).isLt
      have o0 : k0_off3 i k 0 = (128 * (i 0).val) + 8 * k.val := by rw [off3_eq i k]; rfl
      have o1 : k0_off3 i k 1 = 0 := by rw [off3_eq i k]; rfl
      constructor
      · intro hy
        have y0 := hy 0
        rw [o0] at y0
        have : S8x128.size 0 = 8 := rfl
        rw [this] at y0
        omega
      · intro hy q
        fin_cases q
        · show k0_off3 i k 0 ≤ (y 0).val ∧ (y 0).val < k0_off3 i k 0 + 8
          rw [o0]; omega
        · show k0_off3 i k 1 ≤ (y 1).val ∧ (y 1).val < k0_off3 i k 1 + 128
          rw [o1]; omega
    rw [← hm]
    exact ⟨fun ⟨p, hp, hy⟩ => by rw [List.mem_singleton] at hp; subst hp; exact hy, fun hy => ⟨_, List.mem_singleton.mpr rfl, hy⟩⟩

/-- What the loop's first `n` trips leave of the state, -/
theorem loop1_state (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (X_arg7 : BufTy.Contents (Elt F) arg7.view.ty) (X_arg21 : BufTy.Contents (Elt F) arg21.view.ty) (f : BufTy.Contents (Elt F) arg14.view.ty) (hb : (128 * (i 0).val) + 64 ≤ 1024) : ∀ n : ℕ, n ≤ k0_t1_loop.trips →
    arg14.view.read (Elt F) (arg14.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 X_arg7 X_arg21 n).1)
      = fun y => if (y 0).val = 0 ∧ (y 1).val / 8 < n then stS v8 v12 v14 v16 (arg21.view.read (Elt F) X_arg21) (arg7.view.read (Elt F) X_arg7) (128 * (i 0).val) hb 0 y else arg14.view.read (Elt F) f y
  | 0, _ => by funext y; simp [pb_k0_t1]
  | n + 1, hn => by
    rw [show n + 1 = (⟨n, hn⟩ : Fin k0_t1_loop.trips).val + 1 from rfl, pb_k0_t1_succ, View.writes_append, trip1_state, loop1_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ f hb n (by first | omega | (dsimp only; omega))]
    funext y
    beta_reduce
    by_cases h0 : (y 0).val = 0
    · rcases Nat.lt_trichotomy ((y 1).val / 8) n with h | h | h
      · rw [if_neg (by first | omega | (dsimp only; omega)), if_pos ⟨h0, h⟩, if_pos ⟨h0, by first | omega | (dsimp only; omega)⟩]
      · rw [if_pos ⟨h0, h⟩, if_pos ⟨h0, by first | omega | (dsimp only; omega)⟩]
      · rw [if_neg (by first | omega | (dsimp only; omega)), if_neg (by first | omega | (dsimp only; omega)), if_neg (by first | omega | (dsimp only; omega))]
    · rw [if_neg (fun h => h0 h.1), if_neg (fun h => h0 h.1), if_neg (fun h => h0 h.1)]

/-- and of the outputs. -/
theorem loop1_out (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (X_arg7 : BufTy.Contents (Elt F) arg7.view.ty) (X_arg21 : BufTy.Contents (Elt F) arg21.view.ty) (f : BufTy.Contents (Elt F) arg24.view.ty) (hb : (128 * (i 0).val) + 64 ≤ 1024) : ∀ n : ℕ, n ≤ k0_t1_loop.trips →
    arg24.view.read (Elt F) (arg24.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 X_arg7 X_arg21 n).2)
      = fun y => if (128 * (i 0).val) / 8 ≤ (y 0).val / 8 ∧ (y 0).val / 8 < (128 * (i 0).val) / 8 + n then stY v8 v10 v18 v20 (arg21.view.read (Elt F) X_arg21) (arg7.view.read (Elt F) X_arg7) 0 y else arg24.view.read (Elt F) f y
  | 0, _ => by funext y; beta_reduce; rw [if_neg (by first | omega | (dsimp only; omega))]; simp [pb_k0_t1]
  | n + 1, hn => by
    rw [show n + 1 = (⟨n, hn⟩ : Fin k0_t1_loop.trips).val + 1 from rfl, pb_k0_t1_succ, View.writes_append, trip1_out (hb := hb), loop1_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ f hb n (by first | omega | (dsimp only; omega))]
    funext y
    beta_reduce
    rcases Nat.lt_trichotomy ((y 0).val / 8) ((128 * (i 0).val) / 8 + n) with h | h | h
    · by_cases h1 : (128 * (i 0).val) / 8 ≤ (y 0).val / 8
      · rw [if_neg (by first | omega | (dsimp only; omega)), if_pos ⟨h1, h⟩, if_pos ⟨h1, by first | omega | (dsimp only; omega)⟩]
      · rw [if_neg (by first | omega | (dsimp only; omega)), if_neg (by first | omega | (dsimp only; omega)), if_neg (by first | omega | (dsimp only; omega))]
    · rw [if_pos h, if_pos ⟨by first | omega | (dsimp only; omega), by first | omega | (dsimp only; omega)⟩]
    · rw [if_neg (by first | omega | (dsimp only; omega)), if_neg (by first | omega | (dsimp only; omega)), if_neg (by first | omega | (dsimp only; omega))]

/-- What trip `k` of the loop leaves of the state, -/
theorem trip2_state (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (X_arg7 : BufTy.Contents (Elt F) arg7.view.ty) (X_arg21 : BufTy.Contents (Elt F) arg21.view.ty) (k : Fin k0_t2_loop.trips) (f : BufTy.Contents (Elt F) arg14.view.ty) (hb : (128 * (i 0).val + 64) + 64 ≤ 1024) :
    arg14.view.read (Elt F) (arg14.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 X_arg7 X_arg21 k).1)
      = fun y => if (y 0).val = 1 ∧ (y 1).val / 8 = k.val then stS v27 v31 v33 v35 (arg21.view.read (Elt F) X_arg21) (arg7.view.read (Elt F) X_arg7) (128 * (i 0).val + 64) hb 1 y else arg14.view.read (Elt F) f y := by
  have hk : k.val < 8 := Nat.lt_of_lt_of_le k.isLt k0_t2_abs.2.1
  have hv : ∀ (j : Fin 8) (c : Fin 128), (View.ld (arg21.view.read (Elt F) X_arg21) (Rect.unit (s := S1024x128) (k0_off5 i k) S8x128.size (k0_off5_inb i k))) (ix2 j c)
      = (arg21.view.read (Elt F) X_arg21) (ix2 ⟨(128 * (i 0).val + 64) + (8 * k.val + j.val), by omega⟩ c) := by
    intro j c
    refine congrArg (arg21.view.read (Elt F) X_arg21) (funext fun q => Fin.ext ?_)
    have e := congrFun (off5_eq i k) q
    fin_cases q
    · show k0_off5 i k 0 + 1 * j.val = (128 * (i 0).val + 64) + (8 * k.val + j.val)
      rw [off5_eq i k]; show (128 * (i 0).val + 64) + 8 * k.val + 1 * j.val = _; omega
    · show k0_off5 i k 1 + 1 * c.val = c.val
      rw [off5_eq i k]; show 0 + 1 * c.val = _; omega
  refine read_tiles _ _ _ _ _ ?_ ?_
  · rw [trip2_list]
    intro p hp x
    fin_cases hp
    · exact pcS_at v27 v31 v33 v35 (arg21.view.read (Elt F) X_arg21) (arg7.view.read (Elt F) X_arg7) (128 * (i 0).val + 64) hb 1 k.val hk 7 _ (hv 7) _ _ (off6_eq k 7) x
    · exact pcS_at v27 v31 v33 v35 (arg21.view.read (Elt F) X_arg21) (arg7.view.read (Elt F) X_arg7) (128 * (i 0).val + 64) hb 1 k.val hk 6 _ (hv 6) _ _ (off6_eq k 6) x
    · exact pcS_at v27 v31 v33 v35 (arg21.view.read (Elt F) X_arg21) (arg7.view.read (Elt F) X_arg7) (128 * (i 0).val + 64) hb 1 k.val hk 5 _ (hv 5) _ _ (off6_eq k 5) x
    · exact pcS_at v27 v31 v33 v35 (arg21.view.read (Elt F) X_arg21) (arg7.view.read (Elt F) X_arg7) (128 * (i 0).val + 64) hb 1 k.val hk 4 _ (hv 4) _ _ (off6_eq k 4) x
    · exact pcS_at v27 v31 v33 v35 (arg21.view.read (Elt F) X_arg21) (arg7.view.read (Elt F) X_arg7) (128 * (i 0).val + 64) hb 1 k.val hk 3 _ (hv 3) _ _ (off6_eq k 3) x
    · exact pcS_at v27 v31 v33 v35 (arg21.view.read (Elt F) X_arg21) (arg7.view.read (Elt F) X_arg7) (128 * (i 0).val + 64) hb 1 k.val hk 2 _ (hv 2) _ _ (off6_eq k 2) x
    · exact pcS_at v27 v31 v33 v35 (arg21.view.read (Elt F) X_arg21) (arg7.view.read (Elt F) X_arg7) (128 * (i 0).val + 64) hb 1 k.val hk 1 _ (hv 1) _ _ (off6_eq k 1) x
    · exact pcS_at v27 v31 v33 v35 (arg21.view.read (Elt F) X_arg21) (arg7.view.read (Elt F) X_arg7) (128 * (i 0).val + 64) hb 1 k.val hk 0 _ (hv 0) _ _ (off6_eq k 0) x
  · intro y
    rw [trip2_list]
    constructor
    · rintro ⟨p, hp, hy⟩
      have fw : ∀ (j : Fin 8) (inb : ∀ q, k0_off6 k (BitVec.ofNat 32 j.val) q + S1x1x64x128.size q ≤ S2x64x64x128.size q) (V8 : Vec F S8x128 .f32),
          y ∈ (pcS v27 v31 v33 v35 V8 (arg7.view.read (Elt F) X_arg7) j (k0_off6 k (BitVec.ofNat 32 j.val)) inb).1.set → (y 0).val = 1 ∧ (y 1).val / 8 = k.val := by
        intro j inb V8 hy
        obtain ⟨h0, h1⟩ := (pcS_mem _ _ _ _ _ _ (1 : Fin 2) k.val _ _ _ (off6_eq k _) y).mp hy
        exact ⟨h0, by have := j.isLt; omega⟩
      fin_cases hp
      · exact fw 7 _ _ hy
      · exact fw 6 _ _ hy
      · exact fw 5 _ _ hy
      · exact fw 4 _ _ hy
      · exact fw 3 _ _ hy
      · exact fw 2 _ _ hy
      · exact fw 1 _ _ hy
      · exact fw 0 _ _ hy
    · rintro ⟨h0, h1⟩
      have hm : ∀ j : Fin 8, (y 1).val = 8 * k.val + j.val → ∀ (inb : ∀ q, k0_off6 k (BitVec.ofNat 32 j.val) q + S1x1x64x128.size q ≤ S2x64x64x128.size q) (V8 : Vec F S8x128 .f32),
          y ∈ (pcS v27 v31 v33 v35 V8 (arg7.view.read (Elt F) X_arg7) j (k0_off6 k (BitVec.ofNat 32 j.val)) inb).1.set :=
        fun j hj inb V8 => (pcS_mem _ _ _ _ _ _ (1 : Fin 2) k.val _ _ _ (off6_eq k _) y).mpr ⟨h0, hj⟩
      have h8 : (y 1).val % 8 < 8 := Nat.mod_lt _ (by decide)
      obtain e | e | e | e | e | e | e | e : (y 1).val = 8 * k.val + 0 ∨ (y 1).val = 8 * k.val + 1 ∨ (y 1).val = 8 * k.val + 2 ∨ (y 1).val = 8 * k.val + 3 ∨ (y 1).val = 8 * k.val + 4 ∨ (y 1).val = 8 * k.val + 5 ∨ (y 1).val = 8 * k.val + 6 ∨ (y 1).val = 8 * k.val + 7 := by omega
      · exact ⟨_, List.Mem.tail _ (List.Mem.tail _ (List.Mem.tail _ (List.Mem.tail _ (List.Mem.tail _ (List.Mem.tail _ (List.Mem.tail _ (List.Mem.head _))))))), hm 0 e _ _⟩
      · exact ⟨_, List.Mem.tail _ (List.Mem.tail _ (List.Mem.tail _ (List.Mem.tail _ (List.Mem.tail _ (List.Mem.tail _ (List.Mem.head _)))))), hm 1 e _ _⟩
      · exact ⟨_, List.Mem.tail _ (List.Mem.tail _ (List.Mem.tail _ (List.Mem.tail _ (List.Mem.tail _ (List.Mem.head _))))), hm 2 e _ _⟩
      · exact ⟨_, List.Mem.tail _ (List.Mem.tail _ (List.Mem.tail _ (List.Mem.tail _ (List.Mem.head _)))), hm 3 e _ _⟩
      · exact ⟨_, List.Mem.tail _ (List.Mem.tail _ (List.Mem.tail _ (List.Mem.head _))), hm 4 e _ _⟩
      · exact ⟨_, List.Mem.tail _ (List.Mem.tail _ (List.Mem.head _)), hm 5 e _ _⟩
      · exact ⟨_, List.Mem.tail _ (List.Mem.head _), hm 6 e _ _⟩
      · exact ⟨_, List.Mem.head _, hm 7 e _ _⟩

/-- and of the outputs. -/
theorem trip2_out (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (X_arg7 : BufTy.Contents (Elt F) arg7.view.ty) (X_arg21 : BufTy.Contents (Elt F) arg21.view.ty) (k : Fin k0_t2_loop.trips) (f : BufTy.Contents (Elt F) arg24.view.ty) (hb : (128 * (i 0).val + 64) + 64 ≤ 1024) :
    arg24.view.read (Elt F) (arg24.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 X_arg7 X_arg21 k).2)
      = fun y => if (y 0).val / 8 = (128 * (i 0).val + 64) / 8 + k.val then stY v27 v29 v37 v39 (arg21.view.read (Elt F) X_arg21) (arg7.view.read (Elt F) X_arg7) 1 y else arg24.view.read (Elt F) f y := by
  have hk : k.val < 8 := Nat.lt_of_lt_of_le k.isLt k0_t2_abs.2.1
  have hv : ∀ (j : Fin 8) (c : Fin 128), (View.ld (arg21.view.read (Elt F) X_arg21) (Rect.unit (s := S1024x128) (k0_off5 i k) S8x128.size (k0_off5_inb i k))) (ix2 j c)
      = (arg21.view.read (Elt F) X_arg21) (ix2 ⟨(128 * (i 0).val + 64) + (8 * k.val + j.val), by omega⟩ c) := by
    intro j c
    refine congrArg (arg21.view.read (Elt F) X_arg21) (funext fun q => Fin.ext ?_)
    fin_cases q
    · show k0_off5 i k 0 + 1 * j.val = (128 * (i 0).val + 64) + (8 * k.val + j.val)
      rw [off5_eq i k]; show (128 * (i 0).val + 64) + 8 * k.val + 1 * j.val = _; omega
    · show k0_off5 i k 1 + 1 * c.val = c.val
      rw [off5_eq i k]; show 0 + 1 * c.val = _; omega
  have hx : ∀ x : S8x128.Idx, rowsY (fun j => rowY v27 v29 v37 v39 (View.ld (arg21.view.read (Elt F) X_arg21) (Rect.unit (s := S1024x128) (k0_off5 i k) S8x128.size (k0_off5_inb i k))) (arg7.view.read (Elt F) X_arg7) j (k0_off6 k (BitVec.ofNat 32 j.val)) (k0_off6_inb k j)) x
      = stY v27 v29 v37 v39 (arg21.view.read (Elt F) X_arg21) (arg7.view.read (Elt F) X_arg7) 1 ((Rect.unit (s := S1024x128) (k0_off5 i k) S8x128.size (k0_off5_inb i k)).emb x) := by
    intro x
    have ee : (Rect.unit (s := S1024x128) (k0_off5 i k) S8x128.size (k0_off5_inb i k)).emb x = ix2 ⟨(128 * (i 0).val + 64) + (8 * k.val + (x 0).val), by have h : (x 0).val < 8 := (x 0).isLt; omega⟩ (x 1) := by
      funext q
      apply Fin.ext
      fin_cases q
      · show k0_off5 i k 0 + 1 * (x 0).val = (128 * (i 0).val + 64) + (8 * k.val + (x 0).val)
        rw [off5_eq i k]; show (128 * (i 0).val + 64) + 8 * k.val + 1 * (x 0).val = _; omega
      · show k0_off5 i k 1 + 1 * (x 1).val = (x 1).val
        rw [off5_eq i k]; show 0 + 1 * (x 1).val = _; omega
    rw [ee, rowsY_at]
    refine rowY_at v27 v29 v37 v39 (arg21.view.read (Elt F) X_arg21) (arg7.view.read (Elt F) X_arg7) 1 k.val hk (x 0) _ _ (hv (x 0)) _ _ (off6_eq k (x 0)) ?_ (x 1)
    have h : (x 0).val < 8 := (x 0).isLt
    dsimp only
    omega
  refine read_tiles _ _ _ _ _ ?_ ?_
  · rw [trip2_list]
    intro p hp x
    rw [List.mem_singleton] at hp
    subst hp
    exact hx x
  · intro y
    rw [trip2_list]
    have hm : y ∈ (Rect.unit (s := S1024x128) (k0_off5 i k) S8x128.size (k0_off5_inb i k)).set ↔ (y 0).val / 8 = (128 * (i 0).val + 64) / 8 + k.val := by
      rw [Rect.mem_set_unit]
      have hy1 : (y 1).val < 128 := (y 1).isLt
      have o0 : k0_off5 i k 0 = (128 * (i 0).val + 64) + 8 * k.val := by rw [off5_eq i k]; rfl
      have o1 : k0_off5 i k 1 = 0 := by rw [off5_eq i k]; rfl
      constructor
      · intro hy
        have y0 := hy 0
        rw [o0] at y0
        have : S8x128.size 0 = 8 := rfl
        rw [this] at y0
        omega
      · intro hy q
        fin_cases q
        · show k0_off5 i k 0 ≤ (y 0).val ∧ (y 0).val < k0_off5 i k 0 + 8
          rw [o0]; omega
        · show k0_off5 i k 1 ≤ (y 1).val ∧ (y 1).val < k0_off5 i k 1 + 128
          rw [o1]; omega
    rw [← hm]
    exact ⟨fun ⟨p, hp, hy⟩ => by rw [List.mem_singleton] at hp; subst hp; exact hy, fun hy => ⟨_, List.mem_singleton.mpr rfl, hy⟩⟩

/-- What the loop's first `n` trips leave of the state, -/
theorem loop2_state (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (X_arg7 : BufTy.Contents (Elt F) arg7.view.ty) (X_arg21 : BufTy.Contents (Elt F) arg21.view.ty) (f : BufTy.Contents (Elt F) arg14.view.ty) (hb : (128 * (i 0).val + 64) + 64 ≤ 1024) : ∀ n : ℕ, n ≤ k0_t2_loop.trips →
    arg14.view.read (Elt F) (arg14.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 X_arg7 X_arg21 n).1)
      = fun y => if (y 0).val = 1 ∧ (y 1).val / 8 < n then stS v27 v31 v33 v35 (arg21.view.read (Elt F) X_arg21) (arg7.view.read (Elt F) X_arg7) (128 * (i 0).val + 64) hb 1 y else arg14.view.read (Elt F) f y
  | 0, _ => by funext y; simp [pb_k0_t2]
  | n + 1, hn => by
    rw [show n + 1 = (⟨n, hn⟩ : Fin k0_t2_loop.trips).val + 1 from rfl, pb_k0_t2_succ, View.writes_append, trip2_state, loop2_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ f hb n (by first | omega | (dsimp only; omega))]
    funext y
    beta_reduce
    by_cases h0 : (y 0).val = 1
    · rcases Nat.lt_trichotomy ((y 1).val / 8) n with h | h | h
      · rw [if_neg (by first | omega | (dsimp only; omega)), if_pos ⟨h0, h⟩, if_pos ⟨h0, by first | omega | (dsimp only; omega)⟩]
      · rw [if_pos ⟨h0, h⟩, if_pos ⟨h0, by first | omega | (dsimp only; omega)⟩]
      · rw [if_neg (by first | omega | (dsimp only; omega)), if_neg (by first | omega | (dsimp only; omega)), if_neg (by first | omega | (dsimp only; omega))]
    · rw [if_neg (fun h => h0 h.1), if_neg (fun h => h0 h.1), if_neg (fun h => h0 h.1)]

/-- and of the outputs. -/
theorem loop2_out (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (X_arg7 : BufTy.Contents (Elt F) arg7.view.ty) (X_arg21 : BufTy.Contents (Elt F) arg21.view.ty) (f : BufTy.Contents (Elt F) arg24.view.ty) (hb : (128 * (i 0).val + 64) + 64 ≤ 1024) : ∀ n : ℕ, n ≤ k0_t2_loop.trips →
    arg24.view.read (Elt F) (arg24.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 X_arg7 X_arg21 n).2)
      = fun y => if (128 * (i 0).val + 64) / 8 ≤ (y 0).val / 8 ∧ (y 0).val / 8 < (128 * (i 0).val + 64) / 8 + n then stY v27 v29 v37 v39 (arg21.view.read (Elt F) X_arg21) (arg7.view.read (Elt F) X_arg7) 1 y else arg24.view.read (Elt F) f y
  | 0, _ => by funext y; beta_reduce; rw [if_neg (by first | omega | (dsimp only; omega))]; simp [pb_k0_t2]
  | n + 1, hn => by
    rw [show n + 1 = (⟨n, hn⟩ : Fin k0_t2_loop.trips).val + 1 from rfl, pb_k0_t2_succ, View.writes_append, trip2_out (hb := hb), loop2_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ f hb n (by first | omega | (dsimp only; omega))]
    funext y
    beta_reduce
    rcases Nat.lt_trichotomy ((y 0).val / 8) ((128 * (i 0).val + 64) / 8 + n) with h | h | h
    · by_cases h1 : (128 * (i 0).val + 64) / 8 ≤ (y 0).val / 8
      · rw [if_neg (by first | omega | (dsimp only; omega)), if_pos ⟨h1, h⟩, if_pos ⟨h1, by first | omega | (dsimp only; omega)⟩]
      · rw [if_neg (by first | omega | (dsimp only; omega)), if_neg (by first | omega | (dsimp only; omega)), if_neg (by first | omega | (dsimp only; omega))]
    · rw [if_pos h, if_pos ⟨by first | omega | (dsimp only; omega), by first | omega | (dsimp only; omega)⟩]
    · rw [if_neg (by first | omega | (dsimp only; omega)), if_neg (by first | omega | (dsimp only; omega)), if_neg (by first | omega | (dsimp only; omega))]

end Cert.StepIdeal.Hand

end
-- ==== Proof.StepBody.lean ====
/- The body of the RWKV-7 decode call over its ideal program, with what it leaves named. -/
module

public import proofs.«01_k».proof.Proof.StepLoop
public import proofs.«01_k».proof.Proof.Gen.StepIdeal.Frame
public import Idealize.ShloMosaic.Lib.Pipeline.ValueKit
public import Idealize.ShloMosaic.Lib.Claim
public import Idealize.ShloMosaic.Lib.Pipeline.TableIdle

@[expose] public section

set_option maxRecDepth 16384

noncomputable section

namespace Cert.StepIdeal.Hand

open Cert.StepIdeal Cert.StepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hb2 (i : grid0.Coords) : 128 * (i 0).val + 64 + 64 ≤ 1024 := by have h : (i 0).val < 8 := (i 0).isLt; omega
theorem hb1 (i : grid0.Coords) : 128 * (i 0).val + 64 ≤ 1024 := by have h : (i 0).val < 8 := (i 0).isLt; omega

/-- Head `h`'s 64 rows of a prepared array, -/
def hd (i : grid0.Coords) (h : BitVec 32) (inb : ∀ q, k0_off1 i h q + S64x128.size q ≤ S1024x128.size q) (p : Vec F S1024x128 .f32) : Vec F S64x128 .f32 :=
  View.ld p (Rect.unit (s := S1024x128) (k0_off1 i h) S64x128.size inb)

/-- and its row of a row-sum array. -/
def hr (i : grid0.Coords) (h : BitVec 32) (inb : ∀ q, k0_off2 i h q + S1x128.size q ≤ S16x128.size q) (p : Vec F S16x128 .f32) : Vec F S1x128 .f32 :=
  View.ld p (Rect.unit (s := S16x128) (k0_off2 i h) S1x128.size inb)

/-- The two heads' new states, from their vectors, -/
def sV (i : grid0.Coords) (a0 b0 k0 d0 a1 b1 k1 d1 : Vec F S64x128 .f32) (x21 : Vec F S1024x128 .f32) (x7 : Vec F S2x64x64x128 .f32) : Vec F S2x64x64x128 .f32 := fun y =>
  if (y 0).val = 1 then stS a1 b1 k1 d1 x21 x7 (128 * (i 0).val + 64) (hb2 i) 1 y else stS a0 b0 k0 d0 x21 x7 (128 * (i 0).val) (hb1 i) 0 y

/-- and their outputs. -/
def yV (i : grid0.Coords) (a0 dr0 : Vec F S64x128 .f32) (br0 kr0 : Vec F S1x128 .f32) (a1 dr1 : Vec F S64x128 .f32) (br1 kr1 : Vec F S1x128 .f32) (x21 : Vec F S1024x128 .f32) (x7 : Vec F S2x64x64x128 .f32) (y24 : Vec F S1024x128 .f32) : Vec F S1024x128 .f32 := fun y =>
  if (128 * (i 0).val + 64) / 8 ≤ (y 0).val / 8 ∧ (y 0).val / 8 < (128 * (i 0).val + 64) / 8 + 8 then stY a1 dr1 br1 kr1 x21 x7 1 y
  else if (128 * (i 0).val) / 8 ≤ (y 0).val / 8 ∧ (y 0).val / 8 < (128 * (i 0).val) / 8 + 8 then stY a0 dr0 br0 kr0 x21 x7 0 y
  else y24 y

/-- The point's two heads' new states, -/
def sOut (i : grid0.Coords) (pa pb pk pd pv : Vec F S1024x128 .f32) (s : Vec F S2x64x64x128 .f32) : Vec F S2x64x64x128 .f32 :=
  sV i (hd i 0#32 (k0_off1_inb i 0) pa) (hd i 0#32 (k0_off1_inb i 0) pb) (hd i 0#32 (k0_off1_inb i 0) pk) (hd i 0#32 (k0_off1_inb i 0) pd)
    (hd i 1#32 (k0_off1_inb i 1) pa) (hd i 1#32 (k0_off1_inb i 1) pb) (hd i 1#32 (k0_off1_inb i 1) pk) (hd i 1#32 (k0_off1_inb i 1) pd) pv s

/-- and their outputs over what the rows held. -/
def yNew (i : grid0.Coords) (pa pdr pv : Vec F S1024x128 .f32) (pbr pkr : Vec F S16x128 .f32) (s : Vec F S2x64x64x128 .f32) (y24 : Vec F S1024x128 .f32) : Vec F S1024x128 .f32 :=
  yV i (hd i 0#32 (k0_off1_inb i 0) pa) (hd i 0#32 (k0_off1_inb i 0) pdr) (hr i 0#32 (k0_off2_inb i 0) pbr) (hr i 0#32 (k0_off2_inb i 0) pkr)
    (hd i 1#32 (k0_off1_inb i 1) pa) (hd i 1#32 (k0_off1_inb i 1) pdr) (hr i 1#32 (k0_off2_inb i 1) pbr) (hr i 1#32 (k0_off2_inb i 1) pkr) pv s y24

theorem sV_eq (i : grid0.Coords) {a0 b0 k0 d0 a1 b1 k1 d1 a0' b0' k0' d0' a1' b1' k1' d1' : Vec F S64x128 .f32} {x21 x21' : Vec F S1024x128 .f32} (x7 : Vec F S2x64x64x128 .f32)
    (e1 : a0 = a0') (e2 : b0 = b0') (e3 : k0 = k0') (e4 : d0 = d0') (e5 : a1 = a1') (e6 : b1 = b1') (e7 : k1 = k1') (e8 : d1 = d1') (e9 : x21 = x21') :
    sV i a0 b0 k0 d0 a1 b1 k1 d1 x21 x7 = sV i a0' b0' k0' d0' a1' b1' k1' d1' x21' x7 := by
  subst e1 e2 e3 e4 e5 e6 e7 e8 e9; rfl

theorem yV_eq (i : grid0.Coords) {a0 dr0 a1 dr1 a0' dr0' a1' dr1' : Vec F S64x128 .f32} {br0 kr0 br1 kr1 br0' kr0' br1' kr1' : Vec F S1x128 .f32} {x21 x21' : Vec F S1024x128 .f32} (x7 : Vec F S2x64x64x128 .f32) (y24 : Vec F S1024x128 .f32)
    (e1 : a0 = a0') (e2 : dr0 = dr0') (e3 : br0 = br0') (e4 : kr0 = kr0') (e5 : a1 = a1') (e6 : dr1 = dr1') (e7 : br1 = br1') (e8 : kr1 = kr1') (e9 : x21 = x21') :
    yV i a0 dr0 br0 kr0 a1 dr1 br1 kr1 x21 x7 y24 = yV i a0' dr0' br0' kr0' a1' dr1' br1' kr1' x21' x7 y24 := by
  subst e1 e2 e3 e4 e5 e6 e7 e8 e9; rfl

/-! The prepared arrays, from the first point's blocks. -/

def pE (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x128 .bf16 := k0_pay4 (View.ld x11 (Rect.unit (s := S128x128) ![0, 0] S128x128.size inb_S128x128_S128x128_0_0))

def pR (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay5 (View.ld x0 (Rect.unit (s := S128x1024) ![0, 0] S128x1024.size inb_S128x1024_S128x1024_0_0)) (View.ld x5 (Rect.unit (s := S128x3200) ![0, 0] S128x1024.size inb_S128x3200_S128x1024_0_0)) (View.ld x7 (Rect.unit (s := S16x1024) ![0, 0] S1x1024.size inb_S16x1024_S1x1024_0_0))

def pK (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay6 (View.ld x1 (Rect.unit (s := S128x1024) ![0, 0] S128x1024.size inb_S128x1024_S128x1024_0_0)) (View.ld x5 (Rect.unit (s := S128x3200) ![0, 1024] S128x1024.size inb_S128x3200_S128x1024_0_1024)) (View.ld x7 (Rect.unit (s := S16x1024) ![1, 0] S1x1024.size inb_S16x1024_S1x1024_1_0))

def pV (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay7 (View.ld x2 (Rect.unit (s := S128x1024) ![0, 0] S128x1024.size inb_S128x1024_S128x1024_0_0)) (View.ld x5 (Rect.unit (s := S128x3200) ![0, 2048] S128x1024.size inb_S128x3200_S128x1024_0_2048)) (View.ld x7 (Rect.unit (s := S16x1024) ![2, 0] S1x1024.size inb_S16x1024_S1x1024_2_0))

def pL (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x128 .f32 := k0_pay8 (View.ld x4 (Rect.unit (s := S128x128) ![0, 0] S128x128.size inb_S128x128_S128x128_0_0)) (View.ld x5 (Rect.unit (s := S128x3200) ![0, 3072] S128x128.size inb_S128x3200_S128x128_0_3072)) (View.ld x8 (Rect.unit (s := S8x128) ![0, 0] S1x128.size inb_S8x128_S1x128_0_0))

def pD (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay9 (pL x0 x1 x2 x4 x5 x7 x8 x9 x10 x11) (View.ld x9 (Rect.unit (s := S128x1024) ![0, 0] S128x1024.size inb_S128x1024_S128x1024_0_0)) (View.ld x7 (Rect.unit (s := S16x1024) ![3, 0] S1x1024.size inb_S16x1024_S1x1024_3_0))

def pA (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay10 (pL x0 x1 x2 x4 x5 x7 x8 x9 x10 x11) (View.ld x10 (Rect.unit (s := S128x1024) ![0, 0] S128x1024.size inb_S128x1024_S128x1024_0_0)) (View.ld x7 (Rect.unit (s := S16x1024) ![4, 0] S1x1024.size inb_S16x1024_S1x1024_4_0))

def pKk (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay11 (pK x0 x1 x2 x4 x5 x7 x8 x9 x10 x11) (View.ld x7 (Rect.unit (s := S16x1024) ![5, 0] S1x1024.size inb_S16x1024_S1x1024_5_0))

def pKk2 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay12 (pK x0 x1 x2 x4 x5 x7 x8 x9 x10 x11) (View.ld x7 (Rect.unit (s := S16x1024) ![5, 0] S1x1024.size inb_S16x1024_S1x1024_5_0))

def pG0 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x128 .f32 := k0_pay13 (pK x0 x1 x2 x4 x5 x7 x8 x9 x10 x11) (View.ld x7 (Rect.unit (s := S16x1024) ![5, 0] S1x1024.size inb_S16x1024_S1x1024_5_0))

def pG1 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x128 .f32 := k0_pay14 (pK x0 x1 x2 x4 x5 x7 x8 x9 x10 x11) (View.ld x7 (Rect.unit (s := S16x1024) ![5, 0] S1x1024.size inb_S16x1024_S1x1024_5_0))

def pG2 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x128 .f32 := k0_pay15 (pK x0 x1 x2 x4 x5 x7 x8 x9 x10 x11) (View.ld x7 (Rect.unit (s := S16x1024) ![5, 0] S1x1024.size inb_S16x1024_S1x1024_5_0))

def pKn (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay17 (pK x0 x1 x2 x4 x5 x7 x8 x9 x10 x11) (pA x0 x1 x2 x4 x5 x7 x8 x9 x10 x11) (View.ld x7 (Rect.unit (s := S16x1024) ![6, 0] S1x1024.size inb_S16x1024_S1x1024_6_0))

def pAt (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay18 (pE x0 x1 x2 x4 x5 x7 x8 x9 x10 x11) (pKk x0 x1 x2 x4 x5 x7 x8 x9 x10 x11) (pKk2 x0 x1 x2 x4 x5 x7 x8 x9 x10 x11) (pG0 x0 x1 x2 x4 x5 x7 x8 x9 x10 x11) (pG1 x0 x1 x2 x4 x5 x7 x8 x9 x10 x11) (pG2 x0 x1 x2 x4 x5 x7 x8 x9 x10 x11)

def pBt (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : FVec F S128x1024 .f32 := k0_pay19 (pE x0 x1 x2 x4 x5 x7 x8 x9 x10 x11) (pA x0 x1 x2 x4 x5 x7 x8 x9 x10 x11) (pKk x0 x1 x2 x4 x5 x7 x8 x9 x10 x11) (pKk2 x0 x1 x2 x4 x5 x7 x8 x9 x10 x11) (pG0 x0 x1 x2 x4 x5 x7 x8 x9 x10 x11) (pG1 x0 x1 x2 x4 x5 x7 x8 x9 x10 x11) (pG2 x0 x1 x2 x4 x5 x7 x8 x9 x10 x11)

def q16 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay21 (pAt x0 x1 x2 x4 x5 x7 x8 x9 x10 x11)

def q17 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay22 (pR x0 x1 x2 x4 x5 x7 x8 x9 x10 x11) (pD x0 x1 x2 x4 x5 x7 x8 x9 x10 x11)

def q18 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay23 (pBt x0 x1 x2 x4 x5 x7 x8 x9 x10 x11)

def q19 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay24 (pKn x0 x1 x2 x4 x5 x7 x8 x9 x10 x11)

def q20 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay25 (pD x0 x1 x2 x4 x5 x7 x8 x9 x10 x11)

def q21 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S1024x128 .f32 := k0_pay26 (pV x0 x1 x2 x4 x5 x7 x8 x9 x10 x11)

def q22 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S16x128 .f32 := k0_pay121 (k0_pay27 (pR x0 x1 x2 x4 x5 x7 x8 x9 x10 x11) (pBt x0 x1 x2 x4 x5 x7 x8 x9 x10 x11))

def q23 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S16x128 .f32 := k0_pay122 (pR x0 x1 x2 x4 x5 x7 x8 x9 x10 x11) (pKn x0 x1 x2 x4 x5 x7 x8 x9 x10 x11)

def q25 (x0 x1 x2 : Vec F S128x1024 .f32) (x4 : Vec F S128x128 .f32) (x5 : Vec F S128x3200 .f32) (x7 : Vec F S16x1024 .f32) (x8 : Vec F S8x128 .f32) (x9 x10 : Vec F S128x1024 .bf16) (x11 : Vec F S128x128 .bf16) : Vec F S3x128x1024 .f32 := View.canon [⟨Rect.unit (s := S3x128x1024) ![2, 0, 0] S1x128x1024.size inb_S3x128x1024_S1x128x1024_2_0_0, k0_pay125 (pV x0 x1 x2 x4 x5 x7 x8 x9 x10 x11)⟩, ⟨Rect.unit (s := S3x128x1024) ![1, 0, 0] S1x128x1024.size inb_S3x128x1024_S1x128x1024_1_0_0, k0_pay124 (pKn x0 x1 x2 x4 x5 x7 x8 x9 x10 x11)⟩, ⟨Rect.unit (s := S3x128x1024) ![0, 0, 0] S1x128x1024.size inb_S3x128x1024_S1x128x1024_0_0_0, k0_pay123 (pR x0 x1 x2 x4 x5 x7 x8 x9 x10 x11)⟩]

/-- The shifted inputs' next values. -/
def nsh (x0 x1 x2 : Vec F S128x1024 .f32) (x4 : Vec F S128x128 .f32) : Vec F S128x3200 .f32 := View.canon [⟨Rect.unit (s := S128x3200) ![0, 3072] S128x128.size inb_S128x3200_S128x128_0_3072, (View.ld x4 (Rect.unit (s := S128x128) ![0, 0] S128x128.size inb_S128x128_S128x128_0_0))⟩, ⟨Rect.unit (s := S128x3200) ![0, 2048] S128x1024.size inb_S128x3200_S128x1024_0_2048, (View.ld x2 (Rect.unit (s := S128x1024) ![0, 0] S128x1024.size inb_S128x1024_S128x1024_0_0))⟩, ⟨Rect.unit (s := S128x3200) ![0, 1024] S128x1024.size inb_S128x3200_S128x1024_0_1024, (View.ld x1 (Rect.unit (s := S128x1024) ![0, 0] S128x1024.size inb_S128x1024_S128x1024_0_0))⟩, ⟨Rect.unit (s := S128x3200) ![0, 0] S128x1024.size inb_S128x3200_S128x1024_0_0, (View.ld x0 (Rect.unit (s := S128x1024) ![0, 0] S128x1024.size inb_S128x1024_S128x1024_0_0))⟩]

/-- The gated output, from all heads' outputs and the kept arrays. -/
def oOut (x3 : Vec F S128x1024 .f32) (x7 : Vec F S16x1024 .f32) (x11 : Vec F S128x128 .bf16) (p25 : Vec F S3x128x1024 .f32) (y24 : Vec F S1024x128 .f32) : Vec F S128x1024 .bf16 :=
  k0_pay3 (k0_pay116 (View.ld p25 (Rect.unit (s := S3x128x1024) ![0, 0, 0] S1x128x1024.size inb_S3x128x1024_S1x128x1024_0_0_0)) (View.ld p25 (Rect.unit (s := S3x128x1024) ![1, 0, 0] S1x128x1024.size inb_S3x128x1024_S1x128x1024_1_0_0)) (View.ld p25 (Rect.unit (s := S3x128x1024) ![2, 0, 0] S1x128x1024.size inb_S3x128x1024_S1x128x1024_2_0_0)) (View.ld x11 (Rect.unit (s := S128x128) ![0, 0] S128x128.size inb_S128x128_S128x128_0_0)) (View.ld x7 (Rect.unit (s := S16x1024) ![7, 0] S1x1024.size inb_S16x1024_S1x1024_7_0))) (k0_pay118 (View.ld x3 (Rect.unit (s := S128x1024) ![0, 0] S128x1024.size inb_S128x1024_S128x1024_0_0)) (k0_pay117 (View.ld x3 (Rect.unit (s := S128x1024) ![0, 0] S128x1024.size inb_S128x1024_S128x1024_0_0))) (Scalar.ofBits .f32 0x3F800000#32)) (k0_pay119 (k0_pay114 (View.ld y24 (Rect.unit (s := S1024x128) ![0, 0] S1024x128.size inb_S1024x128_S1024x128_0_0))) (k0_pay115 (View.ld x11 (Rect.unit (s := S128x128) ![0, 0] S128x128.size inb_S128x128_S128x128_0_0)))) (k0_pay120 (k0_pay114 (View.ld y24 (Rect.unit (s := S1024x128) ![0, 0] S1024x128.size inb_S1024x128_S1024x128_0_0))) (k0_pay115 (View.ld x11 (Rect.unit (s := S128x128) ![0, 0] S128x128.size inb_S128x128_S128x128_0_0)))) (View.ld x7 (Rect.unit (s := S16x1024) ![8, 0] S1x1024.size inb_S16x1024_S1x1024_8_0)) (View.ld x7 (Rect.unit (s := S16x1024) ![9, 0] S1x1024.size inb_S16x1024_S1x1024_9_0))

/-- What both loops leave of the state, -/
theorem read14 (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (f7 : BufTy.Contents (Elt F) arg7.view.ty) (f21 : BufTy.Contents (Elt F) arg21.view.ty) (f : BufTy.Contents (Elt F) arg14.view.ty) :
    arg14.view.read (Elt F) (arg14.view.writes (Elt F) f ((pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 f7 f21 k0_t2_loop.trips).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 f7 f21 k0_t1_loop.trips).1))
      = sV i v8 v12 v14 v16 v27 v31 v33 v35 (arg21.view.read (Elt F) f21) (arg7.view.read (Elt F) f7) := by
  rw [View.writes_append, loop2_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hb2 i) _ le_rfl, loop1_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hb1 i) _ le_rfl, trips1]
  funext y
  unfold sV
  have h0 : (y 0).val < 2 := (y 0).isLt
  have h1 : (y 1).val < 64 := (y 1).isLt
  beta_reduce
  by_cases h : (y 0).val = 1
  · rw [if_pos ⟨h, by omega⟩, if_pos h]
  · rw [if_neg (fun e => h e.1), if_pos ⟨by omega, by omega⟩, if_neg h]

/-- and of the outputs. -/
theorem read24 (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (v6 : BitVec 32) (v8 : Vec F S64x128 .f32) (v10 : Vec F S64x128 .f32) (v12 : Vec F S64x128 .f32) (v14 : Vec F S64x128 .f32) (v16 : Vec F S64x128 .f32) (v18 : Vec F S1x128 .f32) (v20 : Vec F S1x128 .f32) (v25 : BitVec 32) (v27 : Vec F S64x128 .f32) (v29 : Vec F S64x128 .f32) (v31 : Vec F S64x128 .f32) (v33 : Vec F S64x128 .f32) (v35 : Vec F S64x128 .f32) (v37 : Vec F S1x128 .f32) (v39 : Vec F S1x128 .f32) (f7 : BufTy.Contents (Elt F) arg7.view.ty) (f21 : BufTy.Contents (Elt F) arg21.view.ty) (f : BufTy.Contents (Elt F) arg24.view.ty) :
    arg24.view.read (Elt F) (arg24.view.writes (Elt F) f ((pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v25 v27 v29 v31 v33 v35 v37 v39 f7 f21 k0_t2_loop.trips).2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v6 v8 v10 v12 v14 v16 v18 v20 f7 f21 k0_t1_loop.trips).2))
      = yV i v8 v10 v18 v20 v27 v29 v37 v39 (arg21.view.read (Elt F) f21) (arg7.view.read (Elt F) f7) (arg24.view.read (Elt F) f) := by
  rw [View.writes_append, loop2_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hb2 i) _ le_rfl, loop1_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hb1 i) _ le_rfl, trips1]
  rfl

theorem cover16 (p : Vec F S1024x128 .f32) (y : S1024x128.Idx) : ∃ pc ∈ ([⟨Rect.unit (s := S1024x128) ![0, 0] S1024x128.size inb_S1024x128_S1024x128_0_0, p⟩] : List (View.Piece (Elt F) S1024x128 .f32)), y ∈ pc.1.set :=
  View.cover_of_tiled [_] S1024x128.size (by rfl) y
theorem cover22 (p : Vec F S16x128 .f32) (y : S16x128.Idx) : ∃ pc ∈ ([⟨Rect.unit (s := S16x128) ![0, 0] S16x128.size inb_S16x128_S16x128_0_0, p⟩] : List (View.Piece (Elt F) S16x128 .f32)), y ∈ pc.1.set :=
  View.cover_of_tiled [_] S16x128.size (by rfl) y
theorem cover13 (p : Vec F S128x1024 .bf16) (y : S128x1024.Idx) : ∃ pc ∈ ([⟨Rect.unit (s := S128x1024) ![0, 0] S128x1024.size inb_S128x1024_S128x1024_0_0, p⟩] : List (View.Piece (Elt F) S128x1024 .bf16)), y ∈ pc.1.set :=
  View.cover_of_tiled [_] S128x1024.size (by rfl) y
theorem cover25 (p0 p1 p2 : Vec F S1x128x1024 .f32) (y : S3x128x1024.Idx) : ∃ pc ∈ ([⟨Rect.unit (s := S3x128x1024) ![2, 0, 0] S1x128x1024.size inb_S3x128x1024_S1x128x1024_2_0_0, p2⟩, ⟨Rect.unit (s := S3x128x1024) ![1, 0, 0] S1x128x1024.size inb_S3x128x1024_S1x128x1024_1_0_0, p1⟩, ⟨Rect.unit (s := S3x128x1024) ![0, 0, 0] S1x128x1024.size inb_S3x128x1024_S1x128x1024_0_0_0, p0⟩] : List (View.Piece (Elt F) S3x128x1024 .f32)), y ∈ pc.1.set :=
  View.cover_of_tiled [⟨Rect.unit (s := S3x128x1024) ![2, 0, 0] S1x128x1024.size inb_S3x128x1024_S1x128x1024_2_0_0, p2⟩, ⟨Rect.unit (s := S3x128x1024) ![1, 0, 0] S1x128x1024.size inb_S3x128x1024_S1x128x1024_1_0_0, p1⟩, ⟨Rect.unit (s := S3x128x1024) ![0, 0, 0] S1x128x1024.size inb_S3x128x1024_S1x128x1024_0_0_0, p0⟩] S1x128x1024.size (by rfl) y
theorem cover15 (p0 p1 p2 : Vec F S128x1024 .f32) (p3 : Vec F S128x128 .f32) (y : S128x3200.Idx) : ∃ pc ∈ ([⟨Rect.unit (s := S128x3200) ![0, 3072] S128x128.size inb_S128x3200_S128x128_0_3072, p3⟩, ⟨Rect.unit (s := S128x3200) ![0, 2048] S128x1024.size inb_S128x3200_S128x1024_0_2048, p2⟩, ⟨Rect.unit (s := S128x3200) ![0, 1024] S128x1024.size inb_S128x3200_S128x1024_0_1024, p1⟩, ⟨Rect.unit (s := S128x3200) ![0, 0] S128x1024.size inb_S128x3200_S128x1024_0_0, p0⟩] : List (View.Piece (Elt F) S128x3200 .f32)), y ∈ pc.1.set := by
  have h0 : (y 0).val < 128 := (y 0).isLt
  have h1 : (y 1).val < 3200 := (y 1).isLt
  by_cases e1 : (y 1).val < 1024
  · refine ⟨_, .tail _ (.tail _ (.tail _ (.head _))), (Rect.mem_set_unit (inb := inb_S128x3200_S128x1024_0_0)).mpr fun q => ?_⟩
    fin_cases q
    · exact ⟨Nat.zero_le _, by show (y 0).val < 0 + 128; omega⟩
    · exact ⟨Nat.zero_le _, by show (y 1).val < 0 + 1024; omega⟩
  by_cases e2 : (y 1).val < 2048
  · refine ⟨_, .tail _ (.tail _ (.head _)), (Rect.mem_set_unit (inb := inb_S128x3200_S128x1024_0_1024)).mpr fun q => ?_⟩
    fin_cases q
    · exact ⟨Nat.zero_le _, by show (y 0).val < 0 + 128; omega⟩
    · exact ⟨by show 1024 ≤ (y 1).val; omega, by show (y 1).val < 1024 + 1024; omega⟩
  by_cases e3 : (y 1).val < 3072
  · refine ⟨_, .tail _ (.head _), (Rect.mem_set_unit (inb := inb_S128x3200_S128x1024_0_2048)).mpr fun q => ?_⟩
    fin_cases q
    · exact ⟨Nat.zero_le _, by show (y 0).val < 0 + 128; omega⟩
    · exact ⟨by show 2048 ≤ (y 1).val; omega, by show (y 1).val < 2048 + 1024; omega⟩
  · refine ⟨_, .head _, (Rect.mem_set_unit (inb := inb_S128x3200_S128x128_0_3072)).mpr fun q => ?_⟩
    fin_cases q
    · exact ⟨Nat.zero_le _, by show (y 0).val < 0 + 128; omega⟩
    · exact ⟨by show 3072 ≤ (y 1).val; omega, by show (y 1).val < 3072 + 128; omega⟩

/-- Reading back the one whole piece stored. -/
theorem got16 (v : View sig .tc .vmem S1024x128 .f32) (f : BufTy.Contents (Elt F) v.ty) (p : Vec F S1024x128 .f32) :
    v.read (Elt F) (v.writes (Elt F) f [⟨Rect.unit (s := S1024x128) ![0, 0] S1024x128.size inb_S1024x128_S1024x128_0_0, p⟩]) = p :=
  (View.read_writes_eq_canon _ _ _ (cover16 p)).trans (View.canon_cons_unit_lit _ _ _ (by decide))
theorem got22 (v : View sig .tc .vmem S16x128 .f32) (f : BufTy.Contents (Elt F) v.ty) (p : Vec F S16x128 .f32) :
    v.read (Elt F) (v.writes (Elt F) f [⟨Rect.unit (s := S16x128) ![0, 0] S16x128.size inb_S16x128_S16x128_0_0, p⟩]) = p :=
  (View.read_writes_eq_canon _ _ _ (cover22 p)).trans (View.canon_cons_unit_lit _ _ _ (by decide))
theorem cov16 (v : View sig .tc .vmem S1024x128 .f32) (r : Rect S1024x128) (p : Vec F S1024x128 .f32) :
    View.readCov v [⟨Rect.unit (s := S1024x128) ![0, 0] S1024x128.size inb_S1024x128_S1024x128_0_0, p⟩] r.toLoadRect = View.ld p r := by
  rw [View.readCov_eq_canon_ld _ _ _ (cover16 p), View.canon_cons_unit_lit _ _ _ (by decide)]
theorem cov22 (v : View sig .tc .vmem S16x128 .f32) (r : Rect S16x128) (p : Vec F S16x128 .f32) :
    View.readCov v [⟨Rect.unit (s := S16x128) ![0, 0] S16x128.size inb_S16x128_S16x128_0_0, p⟩] r.toLoadRect = View.ld p r := by
  rw [View.readCov_eq_canon_ld _ _ _ (cover22 p), View.canon_cons_unit_lit _ _ _ (by decide)]

set_option maxHeartbeats 4000000 in
/-- The body at the first point. -/
theorem run_first (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (hc0 : k0_cond1 i = 1#1) (hc1 : ¬ k0_cond2 i = 1#1) (x0 : Vec F S128x1024 .f32) (x1 : Vec F S128x1024 .f32) (x2 : Vec F S128x1024 .f32) (x3 : Vec F S128x1024 .f32) (x4 : Vec F S128x128 .f32) (x5 : Vec F S128x3200 .f32) (x6 : Vec F S2x64x64x128 .f32) (x7 : Vec F S16x1024 .f32) (x8 : Vec F S8x128 .f32) (x9 : Vec F S128x1024 .bf16) (x10 : Vec F S128x1024 .bf16) (x11 : Vec F S128x128 .bf16) (y24 : Vec F S1024x128 .f32) (y12 : Vec F S128x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare y24 ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare (sOut i (q16 x0 x1 x2 x4 x5 x7 x8 x9 x10 x11) (q18 x0 x1 x2 x4 x5 x7 x8 x9 x10 x11) (q19 x0 x1 x2 x4 x5 x7 x8 x9 x10 x11) (q20 x0 x1 x2 x4 x5 x7 x8 x9 x10 x11) (q21 x0 x1 x2 x4 x5 x7 x8 x9 x10 x11) x6) ∗ owns (c : Thread nD τ) arg15 fullShare (nsh x0 x1 x2 x4) ∗ owns (c : Thread nD τ) arg16 fullShare (q16 x0 x1 x2 x4 x5 x7 x8 x9 x10 x11) ∗ owns (c : Thread nD τ) arg17 fullShare (q17 x0 x1 x2 x4 x5 x7 x8 x9 x10 x11) ∗ owns (c : Thread nD τ) arg18 fullShare (q18 x0 x1 x2 x4 x5 x7 x8 x9 x10 x11) ∗ owns (c : Thread nD τ) arg19 fullShare (q19 x0 x1 x2 x4 x5 x7 x8 x9 x10 x11) ∗ owns (c : Thread nD τ) arg20 fullShare (q20 x0 x1 x2 x4 x5 x7 x8 x9 x10 x11) ∗ owns (c : Thread nD τ) arg21 fullShare (q21 x0 x1 x2 x4 x5 x7 x8 x9 x10 x11) ∗ owns (c : Thread nD τ) arg22 fullShare (q22 x0 x1 x2 x4 x5 x7 x8 x9 x10 x11) ∗ owns (c : Thread nD τ) arg23 fullShare (q23 x0 x1 x2 x4 x5 x7 x8 x9 x10 x11) ∗ owns (c : Thread nD τ) arg24 fullShare (yNew i (q16 x0 x1 x2 x4 x5 x7 x8 x9 x10 x11) (q17 x0 x1 x2 x4 x5 x7 x8 x9 x10 x11) (q21 x0 x1 x2 x4 x5 x7 x8 x9 x10 x11) (q22 x0 x1 x2 x4 x5 x7 x8 x9 x10 x11) (q23 x0 x1 x2 x4 x5 x7 x8 x9 x10 x11) x6 y24) ∗ owns (c : Thread nD τ) arg25 fullShare (q25 x0 x1 x2 x4 x5 x7 x8 x9 x10 x11)) -∗ K ⟨⟩))
      ⊢ wp frame (wpE (defs₀ (F := F)) Variants.none c none) E (cc0_wkv_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc0_wkv_step_eq_skeleton]; unfold cc0_wkv_step_skel
    simp only [k0_part17_eq_skeleton, k0_part1_eq_skeleton, k0_part2_eq_skeleton, k0_part3_eq_skeleton, k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%d25, %f25, -, H25⟩, Hk⟩
    subst hf1 hf2 hf3 hf4 hf5 hf6 hf7 hf8 hf9 hf10 hf11 hf12 hf13 hf24
    sl_exec (disch := first | sl_exact hc0 | sl_exact hc1)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists _; isplitr
      swap; · iexact H14
      ipureintro
      refine (read14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
      exact sV_eq i _ (cov16 _ _ _) (cov16 _ _ _) (cov16 _ _ _) (cov16 _ _ _) (cov16 _ _ _) (cov16 _ _ _) (cov16 _ _ _) (cov16 _ _ _) (got16 _ _ _)
    isplitl [H15]
    · iexists _; isplitr
      swap; · iexact H15
      ipureintro
      exact (View.read_writes_eq_canon _ _ _ (cover15 _ _ _ _)).trans rfl
    isplitl [H16]
    · iexists _; isplitr
      swap; · iexact H16
      ipureintro
      exact (got16 _ _ _).trans rfl
    isplitl [H17]
    · iexists _; isplitr
      swap; · iexact H17
      ipureintro
      exact (got16 _ _ _).trans rfl
    isplitl [H18]
    · iexists _; isplitr
      swap; · iexact H18
      ipureintro
      exact (got16 _ _ _).trans rfl
    isplitl [H19]
    · iexists _; isplitr
      swap; · iexact H19
      ipureintro
      exact (got16 _ _ _).trans rfl
    isplitl [H20]
    · iexists _; isplitr
      swap; · iexact H20
      ipureintro
      exact (got16 _ _ _).trans rfl
    isplitl [H21]
    · iexists _; isplitr
      swap; · iexact H21
      ipureintro
      exact (got16 _ _ _).trans rfl
    isplitl [H22]
    · iexists _; isplitr
      swap; · iexact H22
      ipureintro
      exact (got22 _ _ _).trans rfl
    isplitl [H23]
    · iexists _; isplitr
      swap; · iexact H23
      ipureintro
      exact (got22 _ _ _).trans rfl
    isplitl [H24]
    · iexists _; isplitr
      swap; · iexact H24
      ipureintro
      refine (read24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
      exact yV_eq i _ _ (cov16 _ _ _) (cov16 _ _ _) (cov22 _ _ _) (cov22 _ _ _) (cov16 _ _ _) (cov16 _ _ _) (cov22 _ _ _) (cov22 _ _ _) (got16 _ _ _)
    iexists _; isplitr
    swap; · iexact H25
    ipureintro
    exact (View.read_writes_eq_canon _ _ _ (cover25 _ _ _)).trans rfl

set_option maxHeartbeats 4000000 in
/-- The body at a point between. -/
theorem run_mid (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (hc0 : ¬ k0_cond1 i = 1#1) (hc1 : ¬ k0_cond2 i = 1#1) (x0 : Vec F S128x1024 .f32) (x1 : Vec F S128x1024 .f32) (x2 : Vec F S128x1024 .f32) (x3 : Vec F S128x1024 .f32) (x4 : Vec F S128x128 .f32) (x5 : Vec F S128x3200 .f32) (x6 : Vec F S2x64x64x128 .f32) (x7 : Vec F S16x1024 .f32) (x8 : Vec F S8x128 .f32) (x9 : Vec F S128x1024 .bf16) (x10 : Vec F S128x1024 .bf16) (x11 : Vec F S128x128 .bf16) (y24 : Vec F S1024x128 .f32) (y12 : Vec F S128x1024 .bf16) (y14 : Vec F S128x3200 .f32) (p16 : Vec F S1024x128 .f32) (p17 : Vec F S1024x128 .f32) (p18 : Vec F S1024x128 .f32) (p19 : Vec F S1024x128 .f32) (p20 : Vec F S1024x128 .f32) (p21 : Vec F S1024x128 .f32) (p22 : Vec F S16x128 .f32) (p23 : Vec F S16x128 .f32) (p25 : Vec F S3x128x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ (∃ d, owns (c : Thread nD τ) arg14 fullShare d) ∗ owns (c : Thread nD τ) arg15 fullShare y14 ∗ owns (c : Thread nD τ) arg16 fullShare p16 ∗ owns (c : Thread nD τ) arg17 fullShare p17 ∗ owns (c : Thread nD τ) arg18 fullShare p18 ∗ owns (c : Thread nD τ) arg19 fullShare p19 ∗ owns (c : Thread nD τ) arg20 fullShare p20 ∗ owns (c : Thread nD τ) arg21 fullShare p21 ∗ owns (c : Thread nD τ) arg22 fullShare p22 ∗ owns (c : Thread nD τ) arg23 fullShare p23 ∗ owns (c : Thread nD τ) arg24 fullShare y24 ∗ owns (c : Thread nD τ) arg25 fullShare p25
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y12 ∗ owns (c : Thread nD τ) arg14 fullShare (sOut i p16 p18 p19 p20 p21 x6) ∗ owns (c : Thread nD τ) arg15 fullShare y14 ∗ owns (c : Thread nD τ) arg16 fullShare p16 ∗ owns (c : Thread nD τ) arg17 fullShare p17 ∗ owns (c : Thread nD τ) arg18 fullShare p18 ∗ owns (c : Thread nD τ) arg19 fullShare p19 ∗ owns (c : Thread nD τ) arg20 fullShare p20 ∗ owns (c : Thread nD τ) arg21 fullShare p21 ∗ owns (c : Thread nD τ) arg22 fullShare p22 ∗ owns (c : Thread nD τ) arg23 fullShare p23 ∗ owns (c : Thread nD τ) arg24 fullShare (yNew i p16 p17 p21 p22 p23 x6 y24) ∗ owns (c : Thread nD τ) arg25 fullShare p25) -∗ K ⟨⟩))
      ⊢ wp frame (wpE (defs₀ (F := F)) Variants.none c none) E (cc0_wkv_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc0_wkv_step_eq_skeleton]; unfold cc0_wkv_step_skel
    simp only [k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    subst hf1 hf2 hf3 hf4 hf5 hf6 hf7 hf8 hf9 hf10 hf11 hf12 hf13 hf15 hf16 hf17 hf18 hf19 hf20 hf21 hf22 hf23 hf24 hf25
    sl_exec (disch := first | sl_exact hc0 | sl_exact hc1)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists _; isplitr
      swap; · iexact H14
      ipureintro
      exact (read14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans rfl
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    isplitl [H19]
    · iexists f19; isplitr; · ipureintro; rfl
      iexact H19
    isplitl [H20]
    · iexists f20; isplitr; · ipureintro; rfl
      iexact H20
    isplitl [H21]
    · iexists f21; isplitr; · ipureintro; rfl
      iexact H21
    isplitl [H22]
    · iexists f22; isplitr; · ipureintro; rfl
      iexact H22
    isplitl [H23]
    · iexists f23; isplitr; · ipureintro; rfl
      iexact H23
    isplitl [H24]
    · iexists _; isplitr
      swap; · iexact H24
      ipureintro
      exact (read24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans rfl
    iexists f25; isplitr; · ipureintro; rfl
    iexact H25

set_option maxHeartbeats 4000000 in
/-- The body at the last point. -/
theorem run_last (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S128x3200 .f32) (harg6 : arg6.IsWhole) (arg7 : Memref sig .tc .vmem S2x64x64x128 .f32) (harg7 : arg7.IsWhole) (arg8 : Memref sig .tc .vmem S16x1024 .f32) (harg8 : arg8.IsWhole) (arg9 : Memref sig .tc .vmem S8x128 .f32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x128 .bf16) (harg12 : arg12.IsWhole) (arg13 : Memref sig .tc .vmem S128x1024 .bf16) (harg13 : arg13.IsWhole) (arg14 : Memref sig .tc .vmem S2x64x64x128 .f32) (harg14 : arg14.IsWhole) (arg15 : Memref sig .tc .vmem S128x3200 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S16x128 .f32) (harg22 : arg22.IsWhole) (arg23 : Memref sig .tc .vmem S16x128 .f32) (harg23 : arg23.IsWhole) (arg24 : Memref sig .tc .vmem S1024x128 .f32) (harg24 : arg24.IsWhole) (arg25 : Memref sig .tc .vmem S3x128x1024 .f32) (harg25 : arg25.IsWhole) (hc0 : ¬ k0_cond1 i = 1#1) (hc1 : k0_cond2 i = 1#1) (x0 : Vec F S128x1024 .f32) (x1 : Vec F S128x1024 .f32) (x2 : Vec F S128x1024 .f32) (x3 : Vec F S128x1024 .f32) (x4 : Vec F S128x128 .f32) (x5 : Vec F S128x3200 .f32) (x6 : Vec F S2x64x64x128 .f32) (x7 : Vec F S16x1024 .f32) (x8 : Vec F S8x128 .f32) (x9 : Vec F S128x1024 .bf16) (x10 : Vec F S128x1024 .bf16) (x11 : Vec F S128x128 .bf16) (y24 : Vec F S1024x128 .f32) (y14 : Vec F S128x3200 .f32) (p16 : Vec F S1024x128 .f32) (p17 : Vec F S1024x128 .f32) (p18 : Vec F S1024x128 .f32) (p19 : Vec F S1024x128 .f32) (p20 : Vec F S1024x128 .f32) (p21 : Vec F S1024x128 .f32) (p22 : Vec F S16x128 .f32) (p23 : Vec F S16x128 .f32) (p25 : Vec F S3x128x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare y14 ∗ owns (c : Thread nD τ) arg16 fullShare p16 ∗ owns (c : Thread nD τ) arg17 fullShare p17 ∗ owns (c : Thread nD τ) arg18 fullShare p18 ∗ owns (c : Thread nD τ) arg19 fullShare p19 ∗ owns (c : Thread nD τ) arg20 fullShare p20 ∗ owns (c : Thread nD τ) arg21 fullShare p21 ∗ owns (c : Thread nD τ) arg22 fullShare p22 ∗ owns (c : Thread nD τ) arg23 fullShare p23 ∗ owns (c : Thread nD τ) arg24 fullShare y24 ∗ owns (c : Thread nD τ) arg25 fullShare p25
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (oOut x3 x7 x11 p25 (yNew i p16 p17 p21 p22 p23 x6 y24)) ∗ owns (c : Thread nD τ) arg14 fullShare (sOut i p16 p18 p19 p20 p21 x6) ∗ owns (c : Thread nD τ) arg15 fullShare y14 ∗ owns (c : Thread nD τ) arg16 fullShare p16 ∗ owns (c : Thread nD τ) arg17 fullShare p17 ∗ owns (c : Thread nD τ) arg18 fullShare p18 ∗ owns (c : Thread nD τ) arg19 fullShare p19 ∗ owns (c : Thread nD τ) arg20 fullShare p20 ∗ owns (c : Thread nD τ) arg21 fullShare p21 ∗ owns (c : Thread nD τ) arg22 fullShare p22 ∗ owns (c : Thread nD τ) arg23 fullShare p23 ∗ owns (c : Thread nD τ) arg24 fullShare (yNew i p16 p17 p21 p22 p23 x6 y24) ∗ owns (c : Thread nD τ) arg25 fullShare p25) -∗ K ⟨⟩))
      ⊢ wp frame (wpE (defs₀ (F := F)) Variants.none c none) E (cc0_wkv_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc0_wkv_step_eq_skeleton]; unfold cc0_wkv_step_skel
    simp only [k0_part17_eq_skeleton, k0_part15_eq_skeleton, k0_part16_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    subst hf1 hf2 hf3 hf4 hf5 hf6 hf7 hf8 hf9 hf10 hf11 hf12 hf15 hf16 hf17 hf18 hf19 hf20 hf21 hf22 hf23 hf24 hf25
    sl_exec (disch := first | sl_exact hc0 | sl_exact hc1)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr
      swap; · iexact H13
      ipureintro
      refine (View.read_writes_eq_canon _ _ _ (cover13 _)).trans ((View.canon_cons_unit_lit _ _ _ (by decide)).trans ?_)
      exact congrArg (oOut _ _ _ _) ((read24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans rfl)
    isplitl [H14]
    · iexists _; isplitr
      swap; · iexact H14
      ipureintro
      exact (read14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans rfl
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    isplitl [H19]
    · iexists f19; isplitr; · ipureintro; rfl
      iexact H19
    isplitl [H20]
    · iexists f20; isplitr; · ipureintro; rfl
      iexact H20
    isplitl [H21]
    · iexists f21; isplitr; · ipureintro; rfl
      iexact H21
    isplitl [H22]
    · iexists f22; isplitr; · ipureintro; rfl
      iexact H22
    isplitl [H23]
    · iexists f23; isplitr; · ipureintro; rfl
      iexact H23
    isplitl [H24]
    · iexists _; isplitr
      swap; · iexact H24
      ipureintro
      exact (read24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans rfl
    iexists f25; isplitr; · ipureintro; rfl
    iexact H25

end Cert.StepIdeal.Hand

end
-- ==== Proof.StepDat.lean ====
/- The proof data of the RWKV-7 decode call, and its frame. -/
module

public import proofs.«01_k».proof.Proof.StepBody
public import proofs.«01_k».proof.Proof.Gen.StepIdeal.Frame
public import Idealize.ShloMosaic.Lib.Pipeline.ValueKit
public import Idealize.ShloMosaic.Lib.Claim
public import Idealize.ShloMosaic.Lib.Pipeline.TableIdle

@[expose] public section

set_option maxRecDepth 16384

noncomputable section

namespace Cert.StepIdeal.Hand

open Cert.StepIdeal Cert.StepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def t0 : Fin cfg0.N := ⟨0, by decide⟩

theorem coords_val : ∀ t : Fin cfg0.N, ((grid0.coords t) 0).val = t.val := by decide +kernel

theorem first_iff : ∀ t : Fin cfg0.N, k0_cond1 (grid0.coords t) = 1#1 ↔ t.val = 0 := by decide +kernel
theorem last_iff : ∀ t : Fin cfg0.N, k0_cond2 (grid0.coords t) = 1#1 ↔ t.val = 7 := by decide +kernel

theorem iblk_at_0 (c : Dev nD) (t : Fin cfg0.N) : iblk m c 0 t = iblk m c 0 t0 := rfl
theorem iblk_at_1 (c : Dev nD) (t : Fin cfg0.N) : iblk m c 1 t = iblk m c 1 t0 := rfl
theorem iblk_at_2 (c : Dev nD) (t : Fin cfg0.N) : iblk m c 2 t = iblk m c 2 t0 := rfl
theorem iblk_at_3 (c : Dev nD) (t : Fin cfg0.N) : iblk m c 3 t = iblk m c 3 t0 := rfl
theorem iblk_at_4 (c : Dev nD) (t : Fin cfg0.N) : iblk m c 4 t = iblk m c 4 t0 := rfl
theorem iblk_at_5 (c : Dev nD) (t : Fin cfg0.N) : iblk m c 5 t = iblk m c 5 t0 := rfl
theorem iblk_at_7 (c : Dev nD) (t : Fin cfg0.N) : iblk m c 7 t = iblk m c 7 t0 := rfl
theorem iblk_at_8 (c : Dev nD) (t : Fin cfg0.N) : iblk m c 8 t = iblk m c 8 t0 := rfl
theorem iblk_at_9 (c : Dev nD) (t : Fin cfg0.N) : iblk m c 9 t = iblk m c 9 t0 := rfl
theorem iblk_at_10 (c : Dev nD) (t : Fin cfg0.N) : iblk m c 10 t = iblk m c 10 t0 := rfl
theorem iblk_at_11 (c : Dev nD) (t : Fin cfg0.N) : iblk m c 11 t = iblk m c 11 t0 := rfl

/-! What the first point leaves in the scratches, from the blocks it reads. -/

def Q16 (c : Dev nD) : Vec F S1024x128 .f32 := q16 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q17 (c : Dev nD) : Vec F S1024x128 .f32 := q17 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q18 (c : Dev nD) : Vec F S1024x128 .f32 := q18 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q19 (c : Dev nD) : Vec F S1024x128 .f32 := q19 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q20 (c : Dev nD) : Vec F S1024x128 .f32 := q20 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q21 (c : Dev nD) : Vec F S1024x128 .f32 := q21 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q22 (c : Dev nD) : Vec F S16x128 .f32 := q22 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q23 (c : Dev nD) : Vec F S16x128 .f32 := q23 (iblk m c 0 t0) (iblk m c 1 t0) (iblk m c 2 t0) (iblk m c 4 t0) (iblk m c 5 t0) (iblk m c 7 t0) (iblk m c 8 t0) (iblk m c 9 t0) (iblk m c 10 t0) (iblk m c 11 t0)
def Q25 (c : Dev nD) : Vec F S3x128x1024 .f32 := q25 (iblk m c 0 t0) (iblk m c 1 t0) (iblk m c 2 t0) (iblk m c 4 t0) (iblk m c 5 t0) (iblk m c 7 t0) (iblk m c 8 t0) (iblk m c 9 t0) (iblk m c 10 t0) (iblk m c 11 t0)

/-- All heads' outputs: a row is written at the point of its two heads. -/
def YT (c : Dev nD) : Vec F S1024x128 .f32 := fun y =>
  yNew (grid0.coords ⟨(y 0).val / 128, by have h : (y 0).val < 1024 := (y 0).isLt; show _ < 8; omega⟩) (Q16 m c) (Q17 m c) (Q21 m c) (Q22 m c) (Q23 m c)
    (iblk m c 6 ⟨(y 0).val / 128, by have h : (y 0).val < 1024 := (y 0).isLt; show _ < 8; omega⟩) (Q16 m c) y

theorem yNew_own (i : grid0.Coords) (pa pdr pv : Vec F S1024x128 .f32) (pbr pkr : Vec F S16x128 .f32) (s : Vec F S2x64x64x128 .f32) (y24 y24' : Vec F S1024x128 .f32)
    (y : S1024x128.Idx) (h : (y 0).val / 128 = (i 0).val) : yNew i pa pdr pv pbr pkr s y24 y = yNew i pa pdr pv pbr pkr s y24' y := by
  unfold yNew yV
  split
  · rfl
  · split
    · rfl
    · omega

theorem yNew_other (i : grid0.Coords) (pa pdr pv : Vec F S1024x128 .f32) (pbr pkr : Vec F S16x128 .f32) (s : Vec F S2x64x64x128 .f32) (y24 : Vec F S1024x128 .f32)
    (y : S1024x128.Idx) (h : ¬ (y 0).val / 128 = (i 0).val) : yNew i pa pdr pv pbr pkr s y24 y = y24 y := by
  unfold yNew yV
  split
  · omega
  · split
    · omega
    · rfl

/-- After point `t` the rows of its heads and of the earlier ones are final. -/
theorem yNew_step (c : Dev nD) (t : Fin cfg0.N) (d : Vec F S1024x128 .f32) (h : ∀ y, (y 0).val < 128 * t.val → d y = YT m c y) (y : S1024x128.Idx) (hy : (y 0).val < 128 * (t.val + 1)) :
    yNew (grid0.coords t) (Q16 m c) (Q17 m c) (Q21 m c) (Q22 m c) (Q23 m c) (iblk m c 6 t) d y = YT m c y := by
  by_cases e : (y 0).val / 128 = t.val
  · rw [yNew_own _ _ _ _ _ _ _ d (Q16 m c) y (e.trans (coords_val t).symm)]
    have ht : t = ⟨(y 0).val / 128, by have h : (y 0).val < 1024 := (y 0).isLt; show _ < 8; omega⟩ := Fin.ext e.symm
    unfold YT
    rw [← ht]
  · rw [yNew_other _ _ _ _ _ _ _ d y (fun e' => e (e'.trans (coords_val t)))]
    exact h y (by omega)

theorem yNew_last (c : Dev nD) (t : Fin cfg0.N) (ht : t.val = 7) (d : Vec F S1024x128 .f32) (h : ∀ y, (y 0).val < 128 * t.val → d y = YT m c y) :
    yNew (grid0.coords t) (Q16 m c) (Q17 m c) (Q21 m c) (Q22 m c) (Q23 m c) (iblk m c 6 t) d = YT m c := by
  funext y
  exact yNew_step m c t d h y (by have h : (y 0).val < 1024 := (y 0).isLt; omega)

abbrev sc0 : Memref sig .tc .vmem S1024x128 .f32 := Memref.whole cc0_scratch0
abbrev sc1 : Memref sig .tc .vmem S1024x128 .f32 := Memref.whole cc0_scratch1
abbrev sc2 : Memref sig .tc .vmem S1024x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x128 .f32 := Memref.whole cc0_scratch5
abbrev sc6 : Memref sig .tc .vmem S16x128 .f32 := Memref.whole cc0_scratch6
abbrev sc7 : Memref sig .tc .vmem S16x128 .f32 := Memref.whole cc0_scratch7
abbrev sc8 : Memref sig .tc .vmem S1024x128 .f32 := Memref.whole cc0_scratch8
abbrev sc9 : Memref sig .tc .vmem S3x128x1024 .f32 := Memref.whole cc0_scratch9

/-- The scratches at any contents, -/
def scrAny (c : Dev nD) : sProp 𝕄 := iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d))

/-- and after `n` points, the first of them included. -/
def scrSet (c : Dev nD) (n : ℕ) : sProp 𝕄 := iprop(owns (c : Thread nD τ) sc0 fullShare (Q16 m c) ∗ owns (c : Thread nD τ) sc1 fullShare (Q17 m c) ∗ owns (c : Thread nD τ) sc2 fullShare (Q18 m c) ∗ owns (c : Thread nD τ) sc3 fullShare (Q19 m c) ∗ owns (c : Thread nD τ) sc4 fullShare (Q20 m c) ∗ owns (c : Thread nD τ) sc5 fullShare (Q21 m c) ∗ owns (c : Thread nD τ) sc6 fullShare (Q22 m c) ∗ owns (c : Thread nD τ) sc7 fullShare (Q23 m c) ∗ (∃ d, iprop(⌜∀ y, (y 0).val < 128 * n → d y = YT m c y⌝ ∗ owns (c : Thread nD τ) sc8 fullShare d)) ∗ owns (c : Thread nD τ) sc9 fullShare (Q25 m c))

def scr (c : Dev nD) (n : ℕ) : sProp 𝕄 := if n = 0 then scrAny c else scrSet m c n

theorem scrSet_any (c : Dev nD) (n : ℕ) : scrSet m c n ⊢ scrAny c := by
  unfold scrSet scrAny
  iintro ⟨H0, H1, H2, H3, H4, H5, H6, H7, ⟨%d, -, H8⟩, H9⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The proof data: each input's buffer at its block, the new states from the prepared arrays and the point's old states,
    the gated output once all heads are done, and the next shift state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oOut (iblk m c 3 t0) (iblk m c 7 t0) (iblk m c 11 t0) (Q25 m c) (YT m c)
    | ⟨13, _⟩ => sOut (grid0.coords t) (Q16 m c) (Q18 m c) (Q19 m c) (Q20 m c) (Q21 m c) (iblk m c 6 t)
    | ⟨14, _⟩ => nsh (iblk m c 0 t0) (iblk m c 1 t0) (iblk m c 2 t0) (iblk m c 4 t0)
  Φ n := iprop(scr m c n.val ∗ (∃ r, prngReg c r))
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = oOut (iblk m c 3 t0) (iblk m c 7 t0) (iblk m c 11 t0) (Q25 m c) (YT m c) := by dsimp only [dats]
theorem after_13 (c : Dev nD) (t : Fin cfg0.N) : (dats m 0 c).after 13 t = sOut (grid0.coords t) (Q16 m c) (Q18 m c) (Q19 m c) (Q20 m c) (Q21 m c) (iblk m c 6 t) := by dsimp only [dats]
theorem after_14 (c : Dev nD) (t : Fin cfg0.N) : (dats m 0 c).after 14 t = nsh (iblk m c 0 t0) (iblk m c 1 t0) (iblk m c 2 t0) (iblk m c 4 t0) := by dsimp only [dats]

theorem idle_12 (t : Fin cfg0.N) (h : ¬ t.val = 7) : cfg0.idle 12 (grid0.coords t) = true := by
  show (!(k0_cond2 (grid0.coords t) == 1#1)) = true
  rw [beq_eq_false_iff_ne.mpr (fun e => h ((last_iff t).mp e))]; rfl

theorem live_12 (t : Fin cfg0.N) (h : t.val = 7) : cfg0.idle 12 (grid0.coords t) = false := by
  show (!(k0_cond2 (grid0.coords t) == 1#1)) = false
  rw [show k0_cond2 (grid0.coords t) = 1#1 from (last_iff t).mpr h]; rfl

theorem idle_14 (t : Fin cfg0.N) (h : ¬ t.val = 0) : cfg0.idle 14 (grid0.coords t) = true := by
  show (!(k0_cond1 (grid0.coords t) == 1#1)) = true
  rw [beq_eq_false_iff_ne.mpr (fun e => h ((first_iff t).mp e))]; rfl

theorem live_14 (t : Fin cfg0.N) (h : t.val = 0) : cfg0.idle 14 (grid0.coords t) = false := by
  show (!(k0_cond1 (grid0.coords t) == 1#1)) = false
  rw [show k0_cond1 (grid0.coords t) = 1#1 from (first_iff t).mpr h]; rfl

theorem noflush_12 : ∀ t : Fin cfg0.N, ¬ t.val = 7 → (cfg0.win 12).flush t = false := by decide +kernel

theorem fresh_14 : ∀ t : Fin cfg0.N, cfg0.fresh 14 t.val = true ↔ t.val = 0 := by decide +kernel

/-- After the first point the next shift state is still in its buffer. -/
theorem before_14 (c : Dev nD) (t : Fin cfg0.N) (h : ¬ t.val = 0) (d) :
    (dats m 0 c).before 14 t d = (dats m 0 c).after 14 t := by
  have hf : ¬ cfg0.fresh 14 t.val = true := fun e => h ((fresh_14 t).mp e)
  rw [(dats m 0 c).before_out_traj 14 rfl (fun _ _ => rfl) (fun s _ _ hs => by rw [after_14, after_14]) t.val t rfl d, if_neg hf, after_14, after_14]

/-- The next shift state in its buffer is what the obligation asks of the point, written back there or not, -/
theorem leaves_14 (c : Dev nD) (t : Fin cfg0.N) :
    owns (c : Thread nD τ) (st0_14 t) fullShare ((dats m 0 c).after 14 t) ⊢ (dats m 0 c).leavesExact 14 t := by
  by_cases h0 : t.val = 0
  · unfold Dat.leavesExact; rw [live_14 t h0]
  · cases hf : (cfg0.win 14).flush t
    · rw [(dats m 0 c).leavesExact_idle 14 t (idle_14 t h0) hf]
      iintro H; iexists default; rw [before_14 m c t h0]; iexact H
    · unfold Dat.leavesExact; rw [idle_14 t h0, hf]

/-- and so is the output's buffer before the last point, whatever it holds, -/
theorem leaves_12 (c : Dev nD) (t : Fin cfg0.N) (h : ¬ t.val = 7) (d) :
    owns (c : Thread nD τ) (st0_12 t) fullShare ((dats m 0 c).before 12 t d) ⊢ (dats m 0 c).leavesExact 12 t := by
  rw [(dats m 0 c).leavesExact_idle 12 t (idle_12 t h) (noflush_12 t h)]
  iintro H; iexists d; iexact H

/-- and at it the gated output. -/
theorem leaves_12_last (c : Dev nD) (t : Fin cfg0.N) (h : t.val = 7) :
    owns (c : Thread nD τ) (st0_12 t) fullShare ((dats m 0 c).after 12 t) ⊢ (dats m 0 c).leavesExact 12 t := by
  unfold Dat.leavesExact; rw [live_12 t h]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (dats m 0 c).leavesExact 12 t ∗ owns (c : Thread nD τ) (st0_13 t) fullShare ((dats m 0 c).after 13 t) ∗ (dats m 0 c).leavesExact 14 t)

set_option maxHeartbeats 1600000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c)]
  rw [show (dats m 0 c).owesAt () t.succ = (dats m 0 c).owesAt () t.castSucc from rfl,
    show (dats m 0 c).Φ t.castSucc = iprop(scr m c t.val ∗ (∃ r, prngReg c r)) from rfl,
    show (dats m 0 c).Φ t.succ = iprop(scr m c (t.val + 1) ∗ (∃ r, prngReg c r)) from rfl,
    after_0, after_1, after_2, after_3, after_4, after_5, after_6, after_7, after_8, after_9, after_10, after_11, after_13]
  simp only [iblk_at_0 m c t, iblk_at_1 m c t, iblk_at_2 m c t, iblk_at_3 m c t, iblk_at_4 m c t, iblk_at_5 m c t, iblk_at_7 m c t, iblk_at_8 m c t, iblk_at_9 m c t, iblk_at_10 m c t, iblk_at_11 m c t]
  rw [show scr m c (t.val + 1) = scrSet m c (t.val + 1) from if_neg (Nat.succ_ne_zero _)]
  rw [show scr m c t.val = scrAny c from if_pos h0]
  unfold scrAny
  · iintro ⟨⟨⟨S0, S1, S2, S3, S4, S5, S6, S7, ⟨%d24, S8⟩, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t) _ _ _ _ _ _ _ _ _ _ _ _ _ _ _ _ _ _ _ _ _ _ _ _ _ _ _ _ _ _ _ _ _ _ _ _ _ _ _ _ _ _ _ _ _ _ _ _ _ _ ((first_iff t).mpr h0) (fun e => by have := (last_iff t).mp e; omega) (iblk m c 0 t0) (iblk m c 1 t0) (iblk m c 2 t0) (iblk m c 3 t0) (iblk m c 4 t0) (iblk m c 5 t0) (iblk m c 6 t) (iblk m c 7 t0) (iblk m c 8 t0) (iblk m c 9 t0) (iblk m c 10 t0) (iblk m c 11 t0) d24 ((dats m 0 c).before 12 t d12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iintro ⟨H0, H1, H2, H3, H4, H5, H6, H7, H8, H9, H10, H11, H12, H13, H14, S0, S1, S2, S3, S4, S5, S6, S7, S8, S9⟩
    isplitl [S0 S1 S2 S3 S4 S5 S6 S7 S8 S9 Hg]
    · isplitl [S0 S1 S2 S3 S4 S5 S6 S7 S8 S9]
      swap; · iexact Hg
      unfold scrSet
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists _; isplitr
        swap; · iexact S8
        ipureintro
        exact fun y hy => yNew_step m c t _ (fun y hy => by omega) y hy
      iexact S9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (leaves_12 m c t (by omega) d12); iexact H12
    isplitl [H13]; · iexact H13
    iapply (leaves_14 m c t); rw [after_14]; iexact H14

set_option maxHeartbeats 1600000 in
theorem sound_mid (c : Dev nD) (t : Fin cfg0.N) (h0 : ¬ t.val = 0) (h7 : ¬ t.val = 7) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c)]
  rw [show (dats m 0 c).owesAt () t.succ = (dats m 0 c).owesAt () t.castSucc from rfl,
    show (dats m 0 c).Φ t.castSucc = iprop(scr m c t.val ∗ (∃ r, prngReg c r)) from rfl,
    show (dats m 0 c).Φ t.succ = iprop(scr m c (t.val + 1) ∗ (∃ r, prngReg c r)) from rfl,
    after_0, after_1, after_2, after_3, after_4, after_5, after_6, after_7, after_8, after_9, after_10, after_11, after_13]
  simp only [iblk_at_0 m c t, iblk_at_1 m c t, iblk_at_2 m c t, iblk_at_3 m c t, iblk_at_4 m c t, iblk_at_5 m c t, iblk_at_7 m c t, iblk_at_8 m c t, iblk_at_9 m c t, iblk_at_10 m c t, iblk_at_11 m c t]
  rw [show scr m c (t.val + 1) = scrSet m c (t.val + 1) from if_neg (Nat.succ_ne_zero _)]
  rw [show scr m c t.val = scrSet m c t.val from if_neg h0]
  simp only [before_14 m c t h0]
  unfold scrSet
  · iintro ⟨⟨⟨S0, S1, S2, S3, S4, S5, S6, S7, ⟨%d24, %hd, S8⟩, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_mid c (grid0.coords t) _ _ _ _ _ _ _ _ _ _ _ _ _ _ _ _ _ _ _ _ _ _ _ _ _ _ _ _ _ _ _ _ _ _ _ _ _ _ _ _ _ _ _ _ _ _ _ _ _ _ (fun e => h0 ((first_iff t).mp e)) (fun e => h7 ((last_iff t).mp e)) (iblk m c 0 t0) (iblk m c 1 t0) (iblk m c 2 t0) (iblk m c 3 t0) (iblk m c 4 t0) (iblk m c 5 t0) (iblk m c 6 t) (iblk m c 7 t0) (iblk m c 8 t0) (iblk m c 9 t0) (iblk m c 10 t0) (iblk m c 11 t0) d24 ((dats m 0 c).before 12 t d12) ((dats m 0 c).after 14 t) (Q16 m c) (Q17 m c) (Q18 m c) (Q19 m c) (Q20 m c) (Q21 m c) (Q22 m c) (Q23 m c) (Q25 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iintro ⟨H0, H1, H2, H3, H4, H5, H6, H7, H8, H9, H10, H11, H12, H13, H14, S0, S1, S2, S3, S4, S5, S6, S7, S8, S9⟩
    isplitl [S0 S1 S2 S3 S4 S5 S6 S7 S8 S9 Hg]
    · isplitl [S0 S1 S2 S3 S4 S5 S6 S7 S8 S9]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists _; isplitr
        swap; · iexact S8
        ipureintro
        exact fun y hy => yNew_step m c t _ hd y hy
      iexact S9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (leaves_12 m c t h7 d12); iexact H12
    isplitl [H13]; · iexact H13
    iapply (leaves_14 m c t); iexact H14

set_option maxHeartbeats 1600000 in
theorem sound_last (c : Dev nD) (t : Fin cfg0.N) (h7 : t.val = 7) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c)]
  rw [show (dats m 0 c).owesAt () t.succ = (dats m 0 c).owesAt () t.castSucc from rfl,
    show (dats m 0 c).Φ t.castSucc = iprop(scr m c t.val ∗ (∃ r, prngReg c r)) from rfl,
    show (dats m 0 c).Φ t.succ = iprop(scr m c (t.val + 1) ∗ (∃ r, prngReg c r)) from rfl,
    after_0, after_1, after_2, after_3, after_4, after_5, after_6, after_7, after_8, after_9, after_10, after_11, after_13]
  simp only [iblk_at_0 m c t, iblk_at_1 m c t, iblk_at_2 m c t, iblk_at_3 m c t, iblk_at_4 m c t, iblk_at_5 m c t, iblk_at_7 m c t, iblk_at_8 m c t, iblk_at_9 m c t, iblk_at_10 m c t, iblk_at_11 m c t]
  rw [show scr m c (t.val + 1) = scrSet m c (t.val + 1) from if_neg (Nat.succ_ne_zero _)]
  have h0 : ¬ t.val = 0 := by omega
  rw [show scr m c t.val = scrSet m c t.val from if_neg h0]
  simp only [before_14 m c t h0]
  unfold scrSet
  · iintro ⟨⟨⟨S0, S1, S2, S3, S4, S5, S6, S7, ⟨%d24, %hd, S8⟩, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_last c (grid0.coords t) _ _ _ _ _ _ _ _ _ _ _ _ _ _ _ _ _ _ _ _ _ _ _ _ _ _ _ _ _ _ _ _ _ _ _ _ _ _ _ _ _ _ _ _ _ _ _ _ _ _ (fun e => h0 ((first_iff t).mp e)) ((last_iff t).mpr h7) (iblk m c 0 t0) (iblk m c 1 t0) (iblk m c 2 t0) (iblk m c 3 t0) (iblk m c 4 t0) (iblk m c 5 t0) (iblk m c 6 t) (iblk m c 7 t0) (iblk m c 8 t0) (iblk m c 9 t0) (iblk m c 10 t0) (iblk m c 11 t0) d24 ((dats m 0 c).after 14 t) (Q16 m c) (Q17 m c) (Q18 m c) (Q19 m c) (Q20 m c) (Q21 m c) (Q22 m c) (Q23 m c) (Q25 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iintro ⟨H0, H1, H2, H3, H4, H5, H6, H7, H8, H9, H10, H11, H12, H13, H14, S0, S1, S2, S3, S4, S5, S6, S7, S8, S9⟩
    isplitl [S0 S1 S2 S3 S4 S5 S6 S7 S8 S9 Hg]
    · isplitl [S0 S1 S2 S3 S4 S5 S6 S7 S8 S9]
      swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]
      · iexists _; isplitr
        swap; · iexact S8
        ipureintro
        exact fun y hy => yNew_step m c t _ hd y hy
      iexact S9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iapply (leaves_12_last m c t h7); rw [after_12, ← yNew_last m c t h7 d24 hd]; iexact H12
    isplitl [H13]; · iexact H13
    iapply (leaves_14 m c t); iexact H14

/-- The body at any point takes the proof data one point on. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h7 : t.val = 7
  · exact sound_last m c t h7
  · exact sound_mid m c t h0 h7

/-- The body table's row at point `t`. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's own invariant: the scratches at some contents and the generator register. -/
theorem PhiA_eq (c : Dev nD) :
    (Pipeline.ΦA spec0 c : sProp 𝕄) = iprop(scrAny c ∗ (∃ r, prngReg c r)) := by
  unfold Pipeline.ΦA scrAny; rw [scopedRest0_eq]; simp only [owns_whole]; try rfl

theorem enters (c : Dev nD) : Pipeline.ΦA spec0 c ⊢ (dats m 0 c).Φ 0 := by
  rw [PhiA_eq, show (dats m 0 c).Φ 0 = iprop(scr m c 0 ∗ (∃ r, prngReg c r)) from rfl]
  unfold scr; rw [if_pos rfl]

theorem leaves (c : Dev nD) : (dats m 0 c).Φ (Fin.last cfg0.N) ⊢ Pipeline.ΦA spec0 c := by
  rw [PhiA_eq, show (dats m 0 c).Φ (Fin.last cfg0.N) = iprop(scr m c cfg0.N ∗ (∃ r, prngReg c r)) from rfl,
    show scr m c cfg0.N = scrSet m c cfg0.N from if_neg (by decide)]
  iintro ⟨HS, Hg⟩
  isplitl [HS]; · iapply (scrSet_any m c _); iexact HS
  iexact Hg

theorem q_eq (c : Dev nD) (w : Fin cfg0.W) (h : (spec0 w).isOut = false) : (dats m 0 c).q w = Pipeline.shareOf spec0 w := by
  dsimp only [dats]; rw [h]; rfl

set_option backward.isDefEq.respectTransparency.types false in
/-- Every run of the call ends with each array at what the proof data say, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := q_eq m)
    (howed := fun _ _ => rfl) (V := V m) (hmain := hmain m Variants.none) (hA := A_eq m) (hin := enters m) (hout := leaves m)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.StepIdeal.Hand

end
-- ==== Proof.StepRef.lean ====
/- What the plain RWKV-7 decode step computes, entry by entry. -/
module

public import proofs.«01_k».proof.Proof.Gen.StepRefIdeal.Run
public import proofs.«01_k».proof.Proof.LruRef
public import Idealize.ShloMosaic.Lib.Pointwise

@[expose] public section

set_option maxRecDepth 16384

noncomputable section

namespace Cert.StepRefIdeal.Hand

open Cert.StepRefIdeal Cert.StepRefIdeal.Gen Idealize.ShloMosaic Idealize.ShloMosaic.TcCoe Idealize.SL.Sem
open Cert.LruRefIdeal.Hand (sgm sp)

abbrev TZ := FVec Ideal S128x10240 .f32
abbrev TZL := FVec Ideal S128x128 .f32
abbrev TSH := FVec Ideal S128x3200 .f32
abbrev TS := FVec Ideal S128x16x64x64 .f32
abbrev TMU := FVec Ideal S3200 .f32
abbrev TV := FVec Ideal S1024 .f32
abbrev TU := FVec Ideal S64x1024 .f32
abbrev TW := FVec Ideal S128x1024 .f32
abbrev TH := FVec Ideal S128x16x64 .f32

/-- The next shift state. -/
def refSh (Z : TZ) (ZL : TZL) : TSH :=
  concatenate S128x3200 1 [⟨S128x3072, (extractStridedSlice S128x3072 ![0, 0] Z slices_S128x10240_S128x3072_0_0)⟩, ⟨S128x128, ZL⟩] concatenates_S128x3072_S128x128_S128x3200_d1

/-- The inputs moved towards the previous step's. -/
def refZS (Z : TZ) (ZL : TZL) (SH : TSH) (MU : TMU) : TSH :=
  addf (refSh Z ZL) (mulf (broadcastInDim S128x3200 ![0, 1] bcast_S1x3200_S128x3200_0_1 (broadcastInDim S1x3200 ![1] bcast_S3200_S1x3200_1 MU)) (subf SH (refSh Z ZL)))

/-- The decay's argument, -/
def refX (ZS : TSH) (W0 : TV) (WU : TU) : TW :=
  addf (broadcastInDim S128x1024 ![0, 1] bcast_S1x1024_S128x1024_0_1 (broadcastInDim S1x1024 ![1] bcast_S1024_S1x1024_1 W0)) (Host.dotGeneral dot_S128x64_S64x1024_S128x1024_1_0_0_1_n_n none (Host.tanh (extractStridedSlice S128x64 ![0, 3072] ZS slices_S128x3200_S128x64_0_3072)) WU)

/-- and the decay. -/
def refDec (X : TW) : TW :=
  Host.exp (Host.negf (Host.exp (subf (Host.negf (select (cmpf .une (subf (Host.negf X) (broadcastInDim S128x1024 ![] bcast_S_S128x1024 (constant S_ .f32 0x00000000#32))) (subf (Host.negf X) (broadcastInDim S128x1024 ![] bcast_S_S128x1024 (constant S_ .f32 0x00000000#32)))) (addf (Host.negf X) (broadcastInDim S128x1024 ![] bcast_S_S128x1024 (constant S_ .f32 0x00000000#32))) (addf (maximumf (Host.negf X) (broadcastInDim S128x1024 ![] bcast_S_S128x1024 (constant S_ .f32 0x00000000#32))) (Host.log1p (Host.exp (Host.negf (Host.absf (subf (Host.negf X) (broadcastInDim S128x1024 ![] bcast_S_S128x1024 (constant S_ .f32 0x00000000#32)))))))))) (broadcastInDim S128x1024 ![] bcast_S_S128x1024 (Host.negf (Host.log (constant S_ .f32 0x3F1B4598#32)))))))

/-- The in-context learning rate. -/
def refA (ZS : TSH) (A0 : TV) (AU : TU) : TW :=
  Host.divf (broadcastInDim S128x1024 ![] bcast_S_S128x1024 (constant S_ .f32 0x3F800000#32)) (addf (broadcastInDim S128x1024 ![] bcast_S_S128x1024 (constant S_ .f32 0x3F800000#32)) (Host.exp (Host.negf (addf (broadcastInDim S128x1024 ![0, 1] bcast_S1x1024_S128x1024_0_1 (broadcastInDim S1x1024 ![1] bcast_S1024_S1x1024_1 A0)) (Host.dotGeneral dot_S128x64_S64x1024_S128x1024_1_0_0_1_n_n none (extractStridedSlice S128x64 ![0, 3136] ZS slices_S128x3200_S128x64_0_3136) AU)))))

/-- The removal key before it is normalised, by heads, -/
def refKr (ZS : TSH) (KKW : TV) : TH :=
  shapeCast _ (mulf (extractStridedSlice S128x1024 ![0, 1024] ZS slices_S128x3200_S128x1024_0_1024) (broadcastInDim S128x1024 ![0, 1] bcast_S1x1024_S128x1024_0_1 (broadcastInDim S1x1024 ![1] bcast_S1024_S1x1024_1 KKW))) shapeCasts_S128x1024_S128x16x64

/-- and normalised. -/
def refKK (KR : TH) : TH :=
  mulf KR (broadcastInDim S128x16x64 ![0, 1, 2] bcast_S128x16x1_S128x16x64_0_1_2 (Host.rsqrt (maximumf (broadcastInDim S128x16x1 ![0, 1] bcast_S128x16_S128x16x1_0_1 (Host.reduceAdd (mulf KR KR) (constant S_ .f32 0x00000000#32) reducesTo_S128x16x64_S128x16_d2 h_S_)) (broadcastInDim S128x16x1 ![] bcast_S_S128x16x1 (constant S_ .f32 0x179ABE15#32)))))

/-- The replacement key. -/
def refK (ZS : TSH) (AG : TW) (KAW : TV) : TW :=
  mulf (extractStridedSlice S128x1024 ![0, 1024] ZS slices_S128x3200_S128x1024_0_1024) (addf (broadcastInDim S128x1024 ![] bcast_S_S128x1024 (constant S_ .f32 0x3F800000#32)) (mulf (subf AG (broadcastInDim S128x1024 ![] bcast_S_S128x1024 (constant S_ .f32 0x3F800000#32))) (broadcastInDim S128x1024 ![0, 1] bcast_S1x1024_S128x1024_0_1 (broadcastInDim S1x1024 ![1] bcast_S1024_S1x1024_1 KAW))))

/-- The value. -/
def refV (ZS : TSH) : TW :=
  extractStridedSlice S128x1024 ![0, 2048] ZS slices_S128x3200_S128x1024_0_2048

/-- The new state, batch last. -/
def refS (S0 : TS) (DEC : TW) (KK : TH) (AG : TW) (VV K2 : TW) : FVec Ideal S16x64x64x128 .f32 :=
  transpose S16x64x64x128 [1, 2, 3, 0] (addf (addf (mulf S0 (broadcastInDim S128x16x64x64 ![0, 1, 2, 3] bcast_S128x16x1x64_S128x16x64x64_0_1_2_3 (broadcastInDim S128x16x1x64 ![0, 1, 3] bcast_S128x16x64_S128x16x1x64_0_1_3 (shapeCast _ DEC shapeCasts_S128x1024_S128x16x64)))) (mulf (broadcastInDim S128x16x64x64 ![0, 1, 2, 3] bcast_S128x16x64x1_S128x16x64x64_0_1_2_3 (broadcastInDim S128x16x64x1 ![0, 1, 2] bcast_S128x16x64_S128x16x64x1_0_1_2 (Host.dotGeneral dot_S128x16x64x64_S128x16x64_S128x16x64_3_2_2_n_01_01 none S0 (Host.negf KK)))) (broadcastInDim S128x16x64x64 ![0, 1, 2, 3] bcast_S128x16x1x64_S128x16x64x64_0_1_2_3 (broadcastInDim S128x16x1x64 ![0, 1, 3] bcast_S128x16x64_S128x16x1x64_0_1_3 (mulf KK (shapeCast _ AG shapeCasts_S128x1024_S128x16x64)))))) (mulf (broadcastInDim S128x16x64x64 ![0, 1, 2, 3] bcast_S128x16x64x1_S128x16x64x64_0_1_2_3 (broadcastInDim S128x16x64x1 ![0, 1, 2] bcast_S128x16x64_S128x16x64x1_0_1_2 (shapeCast _ VV shapeCasts_S128x1024_S128x16x64))) (broadcastInDim S128x16x64x64 ![0, 1, 2, 3] bcast_S128x16x1x64_S128x16x64x64_0_1_2_3 (broadcastInDim S128x16x1x64 ![0, 1, 3] bcast_S128x16x64_S128x16x1x64_0_1_3 (shapeCast _ K2 shapeCasts_S128x1024_S128x16x64))))) transposes_S128x16x64x64_S16x64x64x128_1_2_3_0

/-- The whole of the new state, from the arguments. -/
def refState (Z : TZ) (ZL : TZL) (SH : TSH) (S0 : TS) (MU : TMU) (W0 : TV) (WU : TU) (A0 : TV) (AU : TU) (KKW KAW : TV) : FVec Ideal S16x64x64x128 .f32 :=
  refS S0 (refDec (refX (refZS Z ZL SH MU) W0 WU)) (refKK (refKr (refZS Z ZL SH MU) KKW)) (refA (refZS Z ZL SH MU) A0 AU) (refV (refZS Z ZL SH MU))
    (refK (refZS Z ZL SH MU) (refA (refZS Z ZL SH MU) A0 AU) KAW)

theorem res_state (m' : (ℓ : Loc nD τ sig) → Buf (Elt Ideal) ℓ) (c : Dev nD) : Cert.StepRefIdeal.Value.res_main_v78 m' c
    = refState (m' ((c.tc : Thread nD τ).loc main_arg0)) (m' ((c.tc : Thread nD τ).loc main_arg1)) (m' ((c.tc : Thread nD τ).loc main_arg2)) (m' ((c.tc : Thread nD τ).loc main_arg3))
      (m' ((c.tc : Thread nD τ).loc main_arg4)) (m' ((c.tc : Thread nD τ).loc main_arg5)) (m' ((c.tc : Thread nD τ).loc main_arg6)) (m' ((c.tc : Thread nD τ).loc main_arg7))
      (m' ((c.tc : Thread nD τ).loc main_arg8)) (m' ((c.tc : Thread nD τ).loc main_arg9)) (m' ((c.tc : Thread nD τ).loc main_arg10)) := by
  unfold Cert.StepRefIdeal.Value.res_main_v78 refState refS refDec refX refA refKK refKr refV refK refZS refSh
  rfl

/-- An entry of the moved inputs: of the main columns, -/
def loE (Z : TZ) (SH : TSH) (MU : TMU) (r : Fin 128) (c : Fin 3072) : EReal :=
  Z (ix2 r ⟨c, by omega⟩) + MU (ix1 ⟨c, by omega⟩) * (SH (ix2 r ⟨c, by omega⟩) - Z (ix2 r ⟨c, by omega⟩))

/-- and of the low-rank ones. -/
def hiE (ZL : TZL) (SH : TSH) (MU : TMU) (r : Fin 128) (c : Fin 128) : EReal :=
  ZL (ix2 r c) + MU (ix1 ⟨3072 + c, by omega⟩) * (SH (ix2 r ⟨3072 + c, by omega⟩) - ZL (ix2 r c))

theorem refZS_lo (Z : TZ) (ZL : TZL) (SH : TSH) (MU : TMU) (r : Fin 128) (c : Fin 3072) :
    refZS Z ZL SH MU (ix2 r ⟨c, by omega⟩) = loE Z SH MU r c := by
  pointwise [refZS, refSh, loE]

theorem refZS_hi (Z : TZ) (ZL : TZL) (SH : TSH) (MU : TMU) (r : Fin 128) (c : Fin 128) :
    refZS Z ZL SH MU (ix2 r ⟨3072 + c, by omega⟩) = hiE ZL SH MU r c := by
  pointwise [refZS, refSh, hiE]

theorem refX_at (ZS : TSH) (W0 : TV) (WU : TU) (r : Fin 128) (c : Fin 1024) :
    refX ZS W0 WU (ix2 r c) = W0 (ix1 c) + ∑ i : Fin 64, Ideal.tanh (ZS (ix2 r ⟨3072 + i, by omega⟩)) * WU (ix2 i c) := by
  pointwise [refX]

/-- The decay at an entry, from its argument. -/
def decE (x : EReal) : EReal := Ideal.exp (-Ideal.exp (-sp (-x) - (-Ideal.log (Ideal.ofBits .f32 0x3F1B4598#32))))

theorem refDec_at (X : TW) (r : Fin 128) (c : Fin 1024) : refDec X (ix2 r c) = decE (X (ix2 r c)) := by
  pointwise [refDec, decE, sp]
  rw [if_neg (fun h => h rfl)]
  rfl

theorem refA_at (ZS : TSH) (A0 : TV) (AU : TU) (r : Fin 128) (c : Fin 1024) :
    refA ZS A0 AU (ix2 r c) = sgm (A0 (ix1 c) + ∑ i : Fin 64, ZS (ix2 r ⟨3136 + i, by omega⟩) * AU (ix2 i c)) := by
  pointwise [refA, sgm]

theorem refKr_at (ZS : TSH) (KKW : TV) (r : Fin 128) (h : Fin 16) (k : Fin 64) :
    refKr ZS KKW (ix3 r h k) = ZS (ix2 r ⟨1024 + (h * 64 + k), by omega⟩) * KKW (ix1 ⟨h * 64 + k, by omega⟩) := by
  pointwise [refKr]

theorem refKK_at (KR : TH) (r : Fin 128) (h : Fin 16) (k : Fin 64) :
    refKK KR (ix3 r h k) = KR (ix3 r h k) * Ideal.rsqrt (max (∑ i : Fin 64, KR (ix3 r h i) * KR (ix3 r h i)) (Ideal.ofBits .f32 0x179ABE15#32)) := by
  pointwise [refKK]

theorem refK_at (ZS : TSH) (AG : TW) (KAW : TV) (r : Fin 128) (c : Fin 1024) :
    refK ZS AG KAW (ix2 r c) = ZS (ix2 r ⟨1024 + c, by omega⟩) * (1 + (AG (ix2 r c) - 1) * KAW (ix1 c)) := by
  pointwise [refK]

theorem refV_at (ZS : TSH) (r : Fin 128) (c : Fin 1024) : refV ZS (ix2 r c) = ZS (ix2 r ⟨2048 + c, by omega⟩) := by
  pointwise [refV]

theorem refS_at (S0 : TS) (DEC : TW) (KK : TH) (AG : TW) (VV K2 : TW) (h : Fin 16) (v k : Fin 64) (b : Fin 128) :
    refS S0 DEC KK AG VV K2 (ix4 h v k b) = S0 (ix4 b h v k) * DEC (ix2 b ⟨h * 64 + k, by omega⟩)
      + (∑ i : Fin 64, S0 (ix4 b h v i) * (-KK (ix3 b h i))) * (KK (ix3 b h k) * AG (ix2 b ⟨h * 64 + k, by omega⟩))
      + VV (ix2 b ⟨h * 64 + v, by omega⟩) * K2 (ix2 b ⟨h * 64 + k, by omega⟩) := by
  pointwise [refS]

end Cert.StepRefIdeal.Hand

end
-- ==== Proof.StepPay.lean ====
/- What the decode call's prepared arrays hold, entry by entry, and what its host lines lay out. -/
module

public import proofs.«01_k».proof.Proof.StepDat
public import proofs.«01_k».proof.Proof.StepRef
public import Idealize.ShloMosaic.Lib.Pointwise

@[expose] public section

set_option maxRecDepth 16384

noncomputable section

namespace Cert.StepIdeal.Hand

open Cert.StepIdeal Cert.StepIdeal.Gen Idealize.ShloMosaic Idealize.ShloMosaic.TcCoe Idealize.SL.Sem
open Idealize.ShloMosaic.Pipeline (Dat)
open Cert.LruRefIdeal.Hand (sgm sp)
open Cert.StepRefIdeal.Hand (TZ TZL TSH TS TMU TV TU TW TH loE hiE decE)

section host

/-- The packed vectors, as the host line makes them. -/
def hostP (MU : TMU) (W0 A0 KKW KAW : TV) (RK : FVec Ideal S16x64 .f32) (LG LB : TV) : FVec Ideal S16x1024 .f32 :=
  have z : FVec Ideal S1x1024 .f32 := broadcastInDim S1x1024 ![] bcast_S_S1x1024 (constant S_ .f32 0x00000000#32)
  concatenate S16x1024 0 [⟨S1x1024, shapeCast S1x1024 (extractStridedSlice S1024 ![0] MU slices_S3200_S1024_0) shapeCasts_S1024_S1x1024⟩,
    ⟨S1x1024, shapeCast S1x1024 (extractStridedSlice S1024 ![1024] MU slices_S3200_S1024_1024) shapeCasts_S1024_S1x1024⟩,
    ⟨S1x1024, shapeCast S1x1024 (extractStridedSlice S1024 ![2048] MU slices_S3200_S1024_2048) shapeCasts_S1024_S1x1024⟩,
    ⟨S1x1024, shapeCast S1x1024 W0 shapeCasts_S1024_S1x1024⟩, ⟨S1x1024, shapeCast S1x1024 A0 shapeCasts_S1024_S1x1024⟩,
    ⟨S1x1024, shapeCast S1x1024 KKW shapeCasts_S1024_S1x1024⟩, ⟨S1x1024, shapeCast S1x1024 KAW shapeCasts_S1024_S1x1024⟩,
    ⟨S1x1024, shapeCast S1x1024 RK shapeCasts_S16x64_S1x1024⟩, ⟨S1x1024, shapeCast S1x1024 LG shapeCasts_S1024_S1x1024⟩,
    ⟨S1x1024, shapeCast S1x1024 LB shapeCasts_S1024_S1x1024⟩, ⟨S1x1024, z⟩, ⟨S1x1024, z⟩, ⟨S1x1024, z⟩, ⟨S1x1024, z⟩, ⟨S1x1024, z⟩, ⟨S1x1024, z⟩]
    concatenates_S1x1024_S1x1024_S1x1024_S1x1024_S1x1024_S1x1024_S1x1024_S1x1024_S1x1024_S1x1024_S1x1024_S1x1024_S1x1024_S1x1024_S1x1024_S1x1024_S16x1024_d0

theorem hostP_at (MU : TMU) (W0 A0 KKW KAW : TV) (RK : FVec Ideal S16x64 .f32) (LG LB : TV) (k : Fin 1024) :
    hostP MU W0 A0 KKW KAW RK LG LB (ix2 1 k) = MU (ix1 ⟨1024 + k, by omega⟩) ∧ hostP MU W0 A0 KKW KAW RK LG LB (ix2 2 k) = MU (ix1 ⟨2048 + k, by omega⟩)
    ∧ hostP MU W0 A0 KKW KAW RK LG LB (ix2 3 k) = W0 (ix1 k) ∧ hostP MU W0 A0 KKW KAW RK LG LB (ix2 4 k) = A0 (ix1 k)
    ∧ hostP MU W0 A0 KKW KAW RK LG LB (ix2 5 k) = KKW (ix1 k) ∧ hostP MU W0 A0 KKW KAW RK LG LB (ix2 6 k) = KAW (ix1 k) := by
  refine ⟨?_, ?_, ?_, ?_, ?_, ?_⟩ <;> pointwise [hostP]

/-- The low-rank mixing vector, repeated over eight rows. -/
def hostMul (MU : TMU) : FVec Ideal S8x128 .f32 :=
  broadcastInDim S8x128 ![0, 1] bcast_S1x128_S8x128_0_1 (shapeCast S1x128 (extractStridedSlice S128 ![3072] MU slices_S3200_S128_3072) shapeCasts_S128_S1x128)

theorem hostMul_at (MU : TMU) (k : Fin 128) : hostMul MU (ix2 0 k) = MU (ix1 ⟨3072 + k, by omega⟩) := by
  pointwise [hostMul]

/-- The decay's low-rank matrix over zeros, -/
def hostWd (WU : TU) : FVec Ideal S128x1024 .bf16 :=
  truncf .bf16 (concatenate S128x1024 0 [⟨S64x1024, WU⟩, ⟨S64x1024, broadcastInDim S64x1024 ![] bcast_S_S64x1024 (constant S_ .f32 0x00000000#32)⟩] concatenates_S64x1024_S64x1024_S128x1024_d0) bitsLt_bf16_f32

/-- and the learning rate's under them. -/
def hostWa (AU : TU) : FVec Ideal S128x1024 .bf16 :=
  truncf .bf16 (concatenate S128x1024 0 [⟨S64x1024, broadcastInDim S64x1024 ![] bcast_S_S64x1024 (constant S_ .f32 0x00000000#32)⟩, ⟨S64x1024, AU⟩] concatenates_S64x1024_S64x1024_S128x1024_d0) bitsLt_bf16_f32

theorem hostWd_at (WU : TU) (i : Fin 64) (k : Fin 1024) :
    hostWd WU (ix2 ⟨i, by omega⟩ k) = WU (ix2 i k) ∧ hostWd WU (ix2 ⟨64 + i, by omega⟩ k) = 0 := by
  refine ⟨?_, ?_⟩ <;> pointwise [hostWd]

theorem hostWa_at (AU : TU) (i : Fin 64) (k : Fin 1024) :
    hostWa AU (ix2 ⟨i, by omega⟩ k) = 0 ∧ hostWa AU (ix2 ⟨64 + i, by omega⟩ k) = AU (ix2 i k) := by
  refine ⟨?_, ?_⟩ <;> pointwise [hostWa]

/-- The matrix that adds up each 64 lanes of a pair of heads. -/
def hostE : FVec Ideal S128x128 .bf16 :=
  truncf .bf16 (select (cmpi .eq (cmpi .slt (iotaInDim S128x128 32 0) (broadcastInDim S128x128 ![] bcast_S_S128x128 (constantI S_ 32 64)))
      (cmpi .slt (iotaInDim S128x128 32 1) (broadcastInDim S128x128 ![] bcast_S_S128x128 (constantI S_ 32 64))))
    (broadcastInDim S128x128 ![] bcast_S_S128x128 (constant S_ .f32 0x3F800000#32)) (broadcastInDim S128x128 ![] bcast_S_S128x128 (constant S_ .f32 0x00000000#32))) bitsLt_bf16_f32

theorem hostE_at (u v : Fin 2) (i j : Fin 64) :
    hostE (ix2 ⟨64 * u + i, by omega⟩ ⟨64 * v + j, by omega⟩) = if u = v then 1 else 0 := by
  have h : ∀ (u : Fin 2) (i : Fin 64), IntOp.cmpi CmpIPredicate.slt (BitVec.ofNat 32 (64 * u.val + i.val)) 64#32 = if u = 0 then 1#1 else 0#1 := by decide +kernel
  pointwise [hostE]
  rw [show (64 : BitVec 32) = 64#32 from rfl, h u i, h v j]
  fin_cases u <;> fin_cases v <;> rfl

end host

section pay

variable (x0 x1 x2 : Vec Ideal S128x1024 .f32) (x4 : Vec Ideal S128x128 .f32) (x5 : Vec Ideal S128x3200 .f32) (x7 : Vec Ideal S16x1024 .f32) (x8 : Vec Ideal S8x128 .f32) (x9 x10 : Vec Ideal S128x1024 .bf16) (x11 : Vec Ideal S128x128 .bf16)

theorem pE_at (r c : Fin 128) : pE x0 x1 x2 x4 x5 x7 x8 x9 x10 x11 (ix2 r c) = x11 (ix2 r c) := by
  pointwise [pE, k0_pay4]

theorem pK_at (r : Fin 128) (c : Fin 1024) : pK x0 x1 x2 x4 x5 x7 x8 x9 x10 x11 (ix2 r c)
    = x1 (ix2 r c) + x7 (ix2 1 c) * (x5 (ix2 r ⟨1024 + c, by omega⟩) - x1 (ix2 r c)) := by
  pointwise [pK, k0_pay6]

theorem pV_at (r : Fin 128) (c : Fin 1024) : pV x0 x1 x2 x4 x5 x7 x8 x9 x10 x11 (ix2 r c)
    = x2 (ix2 r c) + x7 (ix2 2 c) * (x5 (ix2 r ⟨2048 + c, by omega⟩) - x2 (ix2 r c)) := by
  pointwise [pV, k0_pay7]

theorem pL_at (r c : Fin 128) : pL x0 x1 x2 x4 x5 x7 x8 x9 x10 x11 (ix2 r c)
    = x4 (ix2 r c) + x8 (ix2 0 c) * (x5 (ix2 r ⟨3072 + c, by omega⟩) - x4 (ix2 r c)) := by
  pointwise [pL, k0_pay8]

theorem pD_at (r : Fin 128) (c : Fin 1024) : pD x0 x1 x2 x4 x5 x7 x8 x9 x10 x11 (ix2 r c)
    = Ideal.ofBits .f32 0xBF1B4598#32 * sgm (x7 (ix2 3 c) + ∑ k : Fin 128, Ideal.tanh (pL x0 x1 x2 x4 x5 x7 x8 x9 x10 x11 (ix2 r k)) * x9 (ix2 k c)) := by
  pointwise [pD, k0_pay9, sgm]
  simp only [zero_sub]

theorem pA_at (r : Fin 128) (c : Fin 1024) : pA x0 x1 x2 x4 x5 x7 x8 x9 x10 x11 (ix2 r c)
    = sgm (x7 (ix2 4 c) + ∑ k : Fin 128, pL x0 x1 x2 x4 x5 x7 x8 x9 x10 x11 (ix2 r k) * x10 (ix2 k c)) := by
  pointwise [pA, k0_pay10, sgm]
  simp only [zero_sub]

theorem pKn_at (r : Fin 128) (c : Fin 1024) : pKn x0 x1 x2 x4 x5 x7 x8 x9 x10 x11 (ix2 r c)
    = pK x0 x1 x2 x4 x5 x7 x8 x9 x10 x11 (ix2 r c) * (1 + (pA x0 x1 x2 x4 x5 x7 x8 x9 x10 x11 (ix2 r c) - 1) * x7 (ix2 6 c)) := by
  pointwise [pKn, k0_pay17]

theorem ld5_at (c : Fin 1024) : View.ld x7 (Rect.unit (s := S16x1024) ![5, 0] S1x1024.size inb_S16x1024_S1x1024_5_0) (ix2 0 c) = x7 (ix2 5 c) := by
  pointwise

/-- Eight groups of 128 lanes, stacked; -/
def stk (f : FVec Ideal S128x1024 .f32) : FVec Ideal S1024x128 .f32 :=
  concatenate S1024x128 0 [⟨S128x128, extractStridedSlice S128x128 ![0, 0] f slices_S128x1024_o0_0_S128x128⟩, ⟨S128x128, extractStridedSlice S128x128 ![0, 128] f slices_S128x1024_o0_128_S128x128⟩, ⟨S128x128, extractStridedSlice S128x128 ![0, 256] f slices_S128x1024_o0_256_S128x128⟩, ⟨S128x128, extractStridedSlice S128x128 ![0, 384] f slices_S128x1024_o0_384_S128x128⟩, ⟨S128x128, extractStridedSlice S128x128 ![0, 512] f slices_S128x1024_o0_512_S128x128⟩, ⟨S128x128, extractStridedSlice S128x128 ![0, 640] f slices_S128x1024_o0_640_S128x128⟩, ⟨S128x128, extractStridedSlice S128x128 ![0, 768] f slices_S128x1024_o0_768_S128x128⟩, ⟨S128x128, extractStridedSlice S128x128 ![0, 896] f slices_S128x1024_o0_896_S128x128⟩] concatenates_S128x128_S128x128_S128x128_S128x128_S128x128_S128x128_S128x128_S128x128_S1024x128_d0

/-- and laid side by side again. -/
def unstk (M : FVec Ideal S1024x128 .f32) : FVec Ideal S128x1024 .f32 :=
  concatenate S128x1024 1 [⟨S128x128, extractStridedSlice S128x128 ![0, 0] M slices_S1024x128_o0_0_S128x128⟩, ⟨S128x128, extractStridedSlice S128x128 ![128, 0] M slices_S1024x128_o128_0_S128x128⟩, ⟨S128x128, extractStridedSlice S128x128 ![256, 0] M slices_S1024x128_o256_0_S128x128⟩, ⟨S128x128, extractStridedSlice S128x128 ![384, 0] M slices_S1024x128_o384_0_S128x128⟩, ⟨S128x128, extractStridedSlice S128x128 ![512, 0] M slices_S1024x128_o512_0_S128x128⟩, ⟨S128x128, extractStridedSlice S128x128 ![640, 0] M slices_S1024x128_o640_0_S128x128⟩, ⟨S128x128, extractStridedSlice S128x128 ![768, 0] M slices_S1024x128_o768_0_S128x128⟩, ⟨S128x128, extractStridedSlice S128x128 ![896, 0] M slices_S1024x128_o896_0_S128x128⟩] concatenates_S128x128_S128x128_S128x128_S128x128_S128x128_S128x128_S128x128_S128x128_S128x1024_d1

theorem stk_at (f : FVec Ideal S128x1024 .f32) (g : Fin 8) (r k : Fin 128) :
    stk f (ix2 ⟨g * 128 + r, by omega⟩ k) = f (ix2 r ⟨g * 128 + k, by omega⟩) := by
  fin_cases g
  · exact (concatenate_apply_piece (t := S1024x128) 0 _ _ _ 0 (by simp) S128x128 _ rfl rfl 0 rfl (ix2 r k)
      (fun b hb => by fin_cases b <;> first | rfl | exact absurd rfl hb) (by simp [ix2])).trans (by pointwise)
  · exact (concatenate_apply_piece (t := S1024x128) 0 _ _ _ 1 (by simp) S128x128 _ rfl rfl 128 rfl (ix2 r k)
      (fun b hb => by fin_cases b <;> first | rfl | exact absurd rfl hb) (by simp [ix2])).trans (by pointwise)
  · exact (concatenate_apply_piece (t := S1024x128) 0 _ _ _ 2 (by simp) S128x128 _ rfl rfl 256 rfl (ix2 r k)
      (fun b hb => by fin_cases b <;> first | rfl | exact absurd rfl hb) (by simp [ix2])).trans (by pointwise)
  · exact (concatenate_apply_piece (t := S1024x128) 0 _ _ _ 3 (by simp) S128x128 _ rfl rfl 384 rfl (ix2 r k)
      (fun b hb => by fin_cases b <;> first | rfl | exact absurd rfl hb) (by simp [ix2])).trans (by pointwise)
  · exact (concatenate_apply_piece (t := S1024x128) 0 _ _ _ 4 (by simp) S128x128 _ rfl rfl 512 rfl (ix2 r k)
      (fun b hb => by fin_cases b <;> first | rfl | exact absurd rfl hb) (by simp [ix2])).trans (by pointwise)
  · exact (concatenate_apply_piece (t := S1024x128) 0 _ _ _ 5 (by simp) S128x128 _ rfl rfl 640 rfl (ix2 r k)
      (fun b hb => by fin_cases b <;> first | rfl | exact absurd rfl hb) (by simp [ix2])).trans (by pointwise)
  · exact (concatenate_apply_piece (t := S1024x128) 0 _ _ _ 6 (by simp) S128x128 _ rfl rfl 768 rfl (ix2 r k)
      (fun b hb => by fin_cases b <;> first | rfl | exact absurd rfl hb) (by simp [ix2])).trans (by pointwise)
  · exact (concatenate_apply_piece (t := S1024x128) 0 _ _ _ 7 (by simp) S128x128 _ rfl rfl 896 rfl (ix2 r k)
      (fun b hb => by fin_cases b <;> first | rfl | exact absurd rfl hb) (by simp [ix2])).trans (by pointwise)

theorem unstk_at (M : FVec Ideal S1024x128 .f32) (g : Fin 8) (r l : Fin 128) :
    unstk M (ix2 r ⟨g * 128 + l, by omega⟩) = M (ix2 ⟨g * 128 + r, by omega⟩ l) := by
  fin_cases g
  · exact (concatenate_apply_piece (t := S128x1024) 1 _ _ _ 0 (by simp) S128x128 _ rfl rfl 0 rfl (ix2 r l)
      (fun b hb => by fin_cases b <;> first | rfl | exact absurd rfl hb) (by simp [ix2])).trans (by pointwise)
  · exact (concatenate_apply_piece (t := S128x1024) 1 _ _ _ 1 (by simp) S128x128 _ rfl rfl 128 rfl (ix2 r l)
      (fun b hb => by fin_cases b <;> first | rfl | exact absurd rfl hb) (by simp [ix2])).trans (by pointwise)
  · exact (concatenate_apply_piece (t := S128x1024) 1 _ _ _ 2 (by simp) S128x128 _ rfl rfl 256 rfl (ix2 r l)
      (fun b hb => by fin_cases b <;> first | rfl | exact absurd rfl hb) (by simp [ix2])).trans (by pointwise)
  · exact (concatenate_apply_piece (t := S128x1024) 1 _ _ _ 3 (by simp) S128x128 _ rfl rfl 384 rfl (ix2 r l)
      (fun b hb => by fin_cases b <;> first | rfl | exact absurd rfl hb) (by simp [ix2])).trans (by pointwise)
  · exact (concatenate_apply_piece (t := S128x1024) 1 _ _ _ 4 (by simp) S128x128 _ rfl rfl 512 rfl (ix2 r l)
      (fun b hb => by fin_cases b <;> first | rfl | exact absurd rfl hb) (by simp [ix2])).trans (by pointwise)
  · exact (concatenate_apply_piece (t := S128x1024) 1 _ _ _ 5 (by simp) S128x128 _ rfl rfl 640 rfl (ix2 r l)
      (fun b hb => by fin_cases b <;> first | rfl | exact absurd rfl hb) (by simp [ix2])).trans (by pointwise)
  · exact (concatenate_apply_piece (t := S128x1024) 1 _ _ _ 6 (by simp) S128x128 _ rfl rfl 768 rfl (ix2 r l)
      (fun b hb => by fin_cases b <;> first | rfl | exact absurd rfl hb) (by simp [ix2])).trans (by pointwise)
  · exact (concatenate_apply_piece (t := S128x1024) 1 _ _ _ 7 (by simp) S128x128 _ rfl rfl 896 rfl (ix2 r l)
      (fun b hb => by fin_cases b <;> first | rfl | exact absurd rfl hb) (by simp [ix2])).trans (by pointwise)

/-- The stacked groups against the adding matrix. -/
def mmE (E : FVec Ideal S128x128 .bf16) (A : FVec Ideal S1024x128 .f32) : FVec Ideal S1024x128 .f32 :=
  matmul dot_S1024x128_S128x128_S1024x128_1_0_0_1_n_n none (truncf .bf16 A bitsLt_bf16_f32) E (constant S1024x128 .f32 0x00000000#32)

theorem mmE_at (E : FVec Ideal S128x128 .bf16) (A : FVec Ideal S1024x128 .f32) (i : Fin 1024) (l : Fin 128) :
    mmE E A (ix2 i l) = ∑ k : Fin 128, A (ix2 i k) * E (ix2 k l) := by
  pointwise [mmE]

theorem pay12_at (K : FVec Ideal S128x1024 .f32) (p : Vec Ideal S1x1024 .f32) (r : Fin 128) (c : Fin 1024) :
    k0_pay12 K p (ix2 r c) = (K (ix2 r c) * p (ix2 0 c)) * (K (ix2 r c) * p (ix2 0 c)) := by
  pointwise [k0_pay12, k0_pay11]

theorem pay16_eq (E : FVec Ideal S128x128 .bf16) (K : FVec Ideal S128x1024 .f32) (p : Vec Ideal S1x1024 .f32) (r : Fin 128) (c : Fin 1024) :
    k0_pay16 E (k0_pay11 K p) (k0_pay12 K p) (k0_pay13 K p) (k0_pay14 K p) (k0_pay15 K p) (ix2 r c)
      = K (ix2 r c) * p (ix2 0 c) * Ideal.rsqrt (max (unstk (mmE E (stk (k0_pay12 K p))) (ix2 r c)) (Ideal.ofBits .f32 0x179ABE15#32)) := by
  have h : k0_pay16 E (k0_pay11 K p) (k0_pay12 K p) (k0_pay13 K p) (k0_pay14 K p) (k0_pay15 K p)
      = mulf (k0_pay11 K p) (rsqrt (maximumf (unstk (mmE E (stk (k0_pay12 K p)))) (broadcast S128x1024 (Scalar.ofBits .f32 0x179ABE15#32)))) := rfl
  rw [h]
  generalize unstk (mmE E (stk (k0_pay12 K p))) = u
  pointwise [k0_pay11]

/-- The normalised removal key: its squares are added up over the head's 64 lanes by the 0/1 matrix. -/
theorem kkn_at (E : FVec Ideal S128x128 .bf16) (K : FVec Ideal S128x1024 .f32) (p : Vec Ideal S1x1024 .f32) (r : Fin 128) (g : Fin 8) (l : Fin 128) :
    k0_pay16 E (k0_pay11 K p) (k0_pay12 K p) (k0_pay13 K p) (k0_pay14 K p) (k0_pay15 K p) (ix2 r ⟨g * 128 + l, by omega⟩)
      = K (ix2 r ⟨g * 128 + l, by omega⟩) * p (ix2 0 ⟨g * 128 + l, by omega⟩)
        * Ideal.rsqrt (max (∑ k : Fin 128, (K (ix2 r ⟨g * 128 + k, by omega⟩) * p (ix2 0 ⟨g * 128 + k, by omega⟩))
          * (K (ix2 r ⟨g * 128 + k, by omega⟩) * p (ix2 0 ⟨g * 128 + k, by omega⟩)) * E (ix2 k l)) (Ideal.ofBits .f32 0x179ABE15#32)) := by
  rw [pay16_eq, unstk_at, mmE_at]
  refine congrArg (fun q => _ * Ideal.rsqrt (max q _)) (Finset.sum_congr rfl fun k _ => ?_)
  rw [stk_at, pay12_at]

theorem pAt_eq (r : Fin 128) (c : Fin 1024) : pAt x0 x1 x2 x4 x5 x7 x8 x9 x10 x11 (ix2 r c)
    = -k0_pay16 (pE x0 x1 x2 x4 x5 x7 x8 x9 x10 x11) (pKk x0 x1 x2 x4 x5 x7 x8 x9 x10 x11) (pKk2 x0 x1 x2 x4 x5 x7 x8 x9 x10 x11) (pG0 x0 x1 x2 x4 x5 x7 x8 x9 x10 x11) (pG1 x0 x1 x2 x4 x5 x7 x8 x9 x10 x11) (pG2 x0 x1 x2 x4 x5 x7 x8 x9 x10 x11) (ix2 r c) := by
  pointwise [pAt, k0_pay18]
  exact zero_sub _

theorem pBt_eq (r : Fin 128) (c : Fin 1024) : pBt x0 x1 x2 x4 x5 x7 x8 x9 x10 x11 (ix2 r c)
    = k0_pay16 (pE x0 x1 x2 x4 x5 x7 x8 x9 x10 x11) (pKk x0 x1 x2 x4 x5 x7 x8 x9 x10 x11) (pKk2 x0 x1 x2 x4 x5 x7 x8 x9 x10 x11) (pG0 x0 x1 x2 x4 x5 x7 x8 x9 x10 x11) (pG1 x0 x1 x2 x4 x5 x7 x8 x9 x10 x11) (pG2 x0 x1 x2 x4 x5 x7 x8 x9 x10 x11) (ix2 r c) * pA x0 x1 x2 x4 x5 x7 x8 x9 x10 x11 (ix2 r c) := by
  pointwise [pBt, k0_pay19]

theorem q16_at (i : Fin 1024) (b : Fin 128) : q16 x0 x1 x2 x4 x5 x7 x8 x9 x10 x11 (ix2 i b) = pAt x0 x1 x2 x4 x5 x7 x8 x9 x10 x11 (ix2 b i) := by
  pointwise [q16, k0_pay21]
theorem q18_at (i : Fin 1024) (b : Fin 128) : q18 x0 x1 x2 x4 x5 x7 x8 x9 x10 x11 (ix2 i b) = pBt x0 x1 x2 x4 x5 x7 x8 x9 x10 x11 (ix2 b i) := by
  pointwise [q18, k0_pay23]
theorem q19_at (i : Fin 1024) (b : Fin 128) : q19 x0 x1 x2 x4 x5 x7 x8 x9 x10 x11 (ix2 i b) = pKn x0 x1 x2 x4 x5 x7 x8 x9 x10 x11 (ix2 b i) := by
  pointwise [q19, k0_pay24]
theorem q20_at (i : Fin 1024) (b : Fin 128) : q20 x0 x1 x2 x4 x5 x7 x8 x9 x10 x11 (ix2 i b) = Ideal.exp (pD x0 x1 x2 x4 x5 x7 x8 x9 x10 x11 (ix2 b i)) := by
  pointwise [q20, k0_pay25, k0_pay20]
theorem q21_at (i : Fin 1024) (b : Fin 128) : q21 x0 x1 x2 x4 x5 x7 x8 x9 x10 x11 (ix2 i b) = pV x0 x1 x2 x4 x5 x7 x8 x9 x10 x11 (ix2 b i) := by
  pointwise [q21, k0_pay26]

end pay

end Cert.StepIdeal.Hand

end
-- ==== Proof.StepDecay.lean ====
/- The decay, as the kernel writes it and as the reference does: for every extended real the same number. -/
module

public import proofs.«01_k».proof.Proof.StepRef

@[expose] public section

noncomputable section

namespace Cert.StepRefIdeal.Hand

open Idealize.ShloMosaic
open Cert.LruRefIdeal.Hand (sgm sp)

/-- The decay's scale. -/
def dq : ℝ := 1271987 / 2097152

theorem dq_pos : 0 < dq := by norm_num [dq]

theorem ofBits_dq : Ideal.ofBits .f32 0x3F1B4598#32 = (dq : EReal) := by
  simp [Ideal.ofBits, Ideal.ieee, -EReal.coe_mul, dq]; norm_num

theorem ofBits_neg_dq : Ideal.ofBits .f32 0xBF1B4598#32 = ((-dq : ℝ) : EReal) := by
  simp [Ideal.ofBits, Ideal.ieee, -EReal.coe_mul, -EReal.coe_neg, dq]; norm_num

theorem log_one : Ideal.log 1 = 0 := by
  rw [← EReal.coe_one, Ideal.log_coe]
  simp

theorem sp_coe (r : ℝ) : sp (r : EReal) = ((Real.log (1 + Real.exp r) : ℝ) : EReal) := by
  have h1 : max (r : EReal) 0 = ((max r 0 : ℝ) : EReal) := (EReal.coe_strictMono.monotone.map_max (a := r) (b := 0)).symm
  have h2 : max (r : EReal) (-(r : EReal)) = ((max r (-r) : ℝ) : EReal) := (EReal.coe_strictMono.monotone.map_max (a := r) (b := -r)).symm
  have h3 : 0 < Real.exp (-max r (-r)) := Real.exp_pos _
  unfold sp Ideal.log1p
  rw [h1, h2, ← EReal.coe_neg, Ideal.exp_coe, ← EReal.coe_one, ← EReal.coe_add, Ideal.log_coe, if_neg (by linarith), ← EReal.coe_add]
  congr 1
  rcases le_total 0 r with h | h
  · rw [max_eq_left h, max_eq_left (by linarith : -r ≤ r)]
    have e : 1 + Real.exp r = Real.exp r * (1 + Real.exp (-r)) := by rw [mul_add, mul_one, ← Real.exp_add]; simp [add_comm]
    rw [e, Real.log_mul (Real.exp_pos r).ne' (by positivity), Real.log_exp]
  · rw [max_eq_right h, max_eq_right (by linarith : r ≤ -r), neg_neg, zero_add]

/-- The kernel's decay is the reference's. -/
theorem dec_eq (x : EReal) : Ideal.exp (Ideal.ofBits .f32 0xBF1B4598#32 * sgm x) = decE x := by
  have hs : sgm x = Ideal.logistic x := rfl
  have hl : Ideal.log (dq : EReal) = ((Real.log dq : ℝ) : EReal) := by rw [Ideal.log_coe, if_neg (not_le.2 dq_pos)]
  unfold decE
  rw [hs, ofBits_neg_dq, ofBits_dq, hl]
  induction x using EReal.rec with
  | bot =>
    have h1 : sp (-(⊥ : EReal)) = ⊤ := by simp [sp, Ideal.log1p, log_one]
    rw [h1, Ideal.logistic_bot]
    simp
  | top =>
    have h1 : sp (-(⊤ : EReal)) = 0 := by simp [sp, Ideal.log1p, log_one]
    rw [h1, Ideal.logistic_top, mul_one, neg_zero, zero_sub, neg_neg, Ideal.exp_coe, Ideal.exp_coe, Real.exp_log dq_pos, ← EReal.coe_neg, Ideal.exp_coe]
  | coe r =>
    have hp : 0 < 1 + Real.exp (-r) := by positivity
    rw [← EReal.coe_neg, sp_coe, Ideal.logistic_coe, ← EReal.coe_mul, ← EReal.coe_neg, ← EReal.coe_neg, ← EReal.coe_sub, Ideal.exp_coe, Ideal.exp_coe, ← EReal.coe_neg, Ideal.exp_coe]
    congr 2
    rw [sub_neg_eq_add, Real.exp_add, Real.exp_neg (Real.log _), Real.exp_log hp, Real.exp_log dq_pos]
    ring

end Cert.StepRefIdeal.Hand

end
-- ==== Proof.StepPrep.lean ====
/- The prepared arrays are the reference's, from blocks that hold what the host lays out. -/
module

public import proofs.«01_k».proof.Proof.StepPay
public import proofs.«01_k».proof.Proof.StepDecay

@[expose] public section

set_option maxRecDepth 16384

noncomputable section

namespace Cert.StepIdeal.Hand

open Cert.StepIdeal Cert.StepIdeal.Gen Idealize.ShloMosaic Idealize.ShloMosaic.TcCoe Idealize.SL.Sem
open Cert.LruRefIdeal.Hand (sgm sp)
open Cert.StepRefIdeal.Hand

variable (x0 x1 x2 : Vec Ideal S128x1024 .f32) (x4 : Vec Ideal S128x128 .f32) (x5 : Vec Ideal S128x3200 .f32) (x7 : Vec Ideal S16x1024 .f32) (x8 : Vec Ideal S8x128 .f32) (x9 x10 : Vec Ideal S128x1024 .bf16) (x11 : Vec Ideal S128x128 .bf16)
variable (Z : TZ) (ZL : TZL) (SH : TSH) (MU : TMU) (W0 : TV) (WU : TU) (A0 : TV) (AU : TU) (KKW KAW : TV)

/-- The blocks hold the arguments, laid out by the host lines. -/
structure Laid : Prop where
  e1 : ∀ r k, x1 (ix2 r k) = Z (ix2 r ⟨1024 + k, by omega⟩)
  e2 : ∀ r k, x2 (ix2 r k) = Z (ix2 r ⟨2048 + k, by omega⟩)
  e4 : ∀ r k, x4 (ix2 r k) = ZL (ix2 r k)
  e5 : ∀ r k, x5 (ix2 r k) = SH (ix2 r k)
  m1 : ∀ k : Fin 1024, x7 (ix2 1 k) = MU (ix1 ⟨1024 + k, by omega⟩)
  m2 : ∀ k : Fin 1024, x7 (ix2 2 k) = MU (ix1 ⟨2048 + k, by omega⟩)
  w0 : ∀ k, x7 (ix2 3 k) = W0 (ix1 k)
  a0 : ∀ k, x7 (ix2 4 k) = A0 (ix1 k)
  kk : ∀ k, x7 (ix2 5 k) = KKW (ix1 k)
  ka : ∀ k, x7 (ix2 6 k) = KAW (ix1 k)
  ml : ∀ k : Fin 128, x8 (ix2 0 k) = MU (ix1 ⟨3072 + k, by omega⟩)
  wd : ∀ (i : Fin 64) k, x9 (ix2 ⟨i, by omega⟩ k) = WU (ix2 i k) ∧ x9 (ix2 ⟨64 + i, by omega⟩ k) = 0
  wa : ∀ (i : Fin 64) k, x10 (ix2 ⟨i, by omega⟩ k) = 0 ∧ x10 (ix2 ⟨64 + i, by omega⟩ k) = AU (ix2 i k)
  se : ∀ (u v : Fin 2) (i j : Fin 64), x11 (ix2 ⟨64 * u + i, by omega⟩ ⟨64 * v + j, by omega⟩) = if u = v then 1 else 0

variable (H : Laid x1 x2 x4 x5 x7 x8 x9 x10 x11 Z ZL SH MU W0 WU A0 AU KKW KAW)

include H

theorem pK_ref (r : Fin 128) (c : Fin 1024) : pK x0 x1 x2 x4 x5 x7 x8 x9 x10 x11 (ix2 r c) = refZS Z ZL SH MU (ix2 r ⟨1024 + c, by omega⟩) := by
  rw [pK_at, H.e1, H.e5, H.m1]
  exact (refZS_lo Z ZL SH MU r ⟨1024 + c, by omega⟩).symm

theorem pV_ref (r : Fin 128) (c : Fin 1024) : pV x0 x1 x2 x4 x5 x7 x8 x9 x10 x11 (ix2 r c) = refZS Z ZL SH MU (ix2 r ⟨2048 + c, by omega⟩) := by
  rw [pV_at, H.e2, H.e5, H.m2]
  exact (refZS_lo Z ZL SH MU r ⟨2048 + c, by omega⟩).symm

theorem pL_ref (r : Fin 128) (c : Fin 128) : pL x0 x1 x2 x4 x5 x7 x8 x9 x10 x11 (ix2 r c) = refZS Z ZL SH MU (ix2 r ⟨3072 + c, by omega⟩) := by
  rw [pL_at, H.e4, H.e5, H.ml]
  exact (refZS_hi Z ZL SH MU r c).symm

theorem pD_ref (r : Fin 128) (c : Fin 1024) : Ideal.exp (pD x0 x1 x2 x4 x5 x7 x8 x9 x10 x11 (ix2 r c)) = refDec (refX (refZS Z ZL SH MU) W0 WU) (ix2 r c) := by
  have hz : ∀ x : EReal, x * 0 = 0 := mul_zero
  rw [pD_at, dec_eq, refDec_at, refX_at, H.w0]
  simp only [pL_ref x0 x1 x2 x4 x5 x7 x8 x9 x10 x11 Z ZL SH MU W0 WU A0 AU KKW KAW H]
  rw [Fin.sum_univ_two_halves 64 64 rfl]
  refine congrArg (fun q : EReal => decE (W0 (ix1 c) + q)) ?_
  refine (congrArg₂ (fun a b : EReal => a + b) (Finset.sum_congr rfl fun i _ => ?_) (Finset.sum_eq_zero fun i _ => ?_)).trans (add_zero _)
  · exact Ideal.mul_congr rfl (H.wd i c).1
  · exact (Ideal.mul_congr rfl (H.wd i c).2).trans (hz _)

theorem pA_ref (r : Fin 128) (c : Fin 1024) : pA x0 x1 x2 x4 x5 x7 x8 x9 x10 x11 (ix2 r c) = refA (refZS Z ZL SH MU) A0 AU (ix2 r c) := by
  have hz : ∀ x : EReal, x * 0 = 0 := mul_zero
  rw [pA_at, refA_at, H.a0]
  simp only [pL_ref x0 x1 x2 x4 x5 x7 x8 x9 x10 x11 Z ZL SH MU W0 WU A0 AU KKW KAW H]
  rw [Fin.sum_univ_two_halves 64 64 rfl]
  refine congrArg (fun q : EReal => sgm (A0 (ix1 c) + q)) ?_
  refine (congrArg₂ (fun a b : EReal => a + b) (Finset.sum_eq_zero fun i _ => ?_) (Finset.sum_congr rfl fun i _ => ?_)).trans (zero_add _)
  · exact (Ideal.mul_congr rfl (H.wa i c).1).trans (hz _)
  · exact Ideal.mul_congr (congrArg (fun q => refZS Z ZL SH MU (ix2 r q)) (Fin.ext (by dsimp only; omega))) (H.wa i c).2

theorem pKn_ref (r : Fin 128) (c : Fin 1024) : pKn x0 x1 x2 x4 x5 x7 x8 x9 x10 x11 (ix2 r c)
    = refK (refZS Z ZL SH MU) (refA (refZS Z ZL SH MU) A0 AU) KAW (ix2 r c) := by
  rw [pKn_at, pK_ref x0 x1 x2 x4 x5 x7 x8 x9 x10 x11 Z ZL SH MU W0 WU A0 AU KKW KAW H, pA_ref x0 x1 x2 x4 x5 x7 x8 x9 x10 x11 Z ZL SH MU W0 WU A0 AU KKW KAW H, H.ka, refK_at]

theorem kr_ref (r : Fin 128) (h : Fin 16) (k : Fin 64) (q : Fin 1024) (hq : q.val = h * 64 + k) :
    pK x0 x1 x2 x4 x5 x7 x8 x9 x10 x11 (ix2 r q) * View.ld x7 (Rect.unit (s := S16x1024) ![5, 0] S1x1024.size inb_S16x1024_S1x1024_5_0) (ix2 0 q)
      = refKr (refZS Z ZL SH MU) KKW (ix3 r h k) := by
  have e : q = ⟨h * 64 + k, by omega⟩ := Fin.ext hq
  rw [e, pK_ref x0 x1 x2 x4 x5 x7 x8 x9 x10 x11 Z ZL SH MU W0 WU A0 AU KKW KAW H, ld5_at, H.kk, refKr_at]

theorem kk_ref (r : Fin 128) (h : Fin 16) (k : Fin 64) :
    k0_pay16 (pE x0 x1 x2 x4 x5 x7 x8 x9 x10 x11) (pKk x0 x1 x2 x4 x5 x7 x8 x9 x10 x11) (pKk2 x0 x1 x2 x4 x5 x7 x8 x9 x10 x11) (pG0 x0 x1 x2 x4 x5 x7 x8 x9 x10 x11) (pG1 x0 x1 x2 x4 x5 x7 x8 x9 x10 x11) (pG2 x0 x1 x2 x4 x5 x7 x8 x9 x10 x11) (ix2 r ⟨h * 64 + k, by omega⟩)
      = refKK (refKr (refZS Z ZL SH MU) KKW) (ix3 r h k) := by
  have hz : ∀ x : EReal, x * 0 = 0 := mul_zero
  obtain ⟨g, u, hg⟩ : ∃ (g : Fin 8) (u : Fin 2), h.val = g.val * 2 + u.val := ⟨⟨h / 2, by omega⟩, ⟨h % 2, by omega⟩, by dsimp only; omega⟩
  have hq : (⟨h * 64 + k, by omega⟩ : Fin 1024) = ⟨g.val * 128 + (⟨64 * u + k, by omega⟩ : Fin 128).val, by dsimp only; omega⟩ := Fin.ext (by dsimp only; omega)
  have kr := kr_ref x0 x1 x2 x4 x5 x7 x8 x9 x10 x11 Z ZL SH MU W0 WU A0 AU KKW KAW H r h
  have se : ∀ (v : Fin 2) (i : Fin 64) (a : Fin 128), a.val = 64 * v + i →
      pE x0 x1 x2 x4 x5 x7 x8 x9 x10 x11 (ix2 a ⟨64 * u + k, by omega⟩) = if v = u then 1 else 0 := by
    intro v i a ha
    have e : a = ⟨64 * v + i, by omega⟩ := Fin.ext ha
    rw [e, pE_at, H.se]
  unfold pKk pKk2 pG0 pG1 pG2
  rw [hq, kkn_at, refKK_at, kr k _ (by dsimp only; omega)]
  refine congrArg (fun q : EReal => refKr (refZS Z ZL SH MU) KKW (ix3 r h k) * Ideal.rsqrt (max q (Ideal.ofBits .f32 0x179ABE15#32))) ?_
  rw [Fin.sum_univ_two_halves 64 64 rfl]
  obtain rfl | rfl : u = 0 ∨ u = 1 := by omega
  · refine (congrArg₂ (fun a b : EReal => a + b) (Finset.sum_congr rfl fun i _ => ?_) (Finset.sum_eq_zero fun i _ => ?_)).trans (add_zero _)
    · rw [se 0 i _ (by simp), if_pos rfl, mul_one, kr i _ (by simp at hg ⊢; omega)]
    · rw [se 1 i _ (by simp), if_neg (by decide)]
      exact hz _
  · refine (congrArg₂ (fun a b : EReal => a + b) (Finset.sum_eq_zero fun i _ => ?_) (Finset.sum_congr rfl fun i _ => ?_)).trans (zero_add _)
    · rw [se 0 i _ (by simp), if_neg (by decide)]
      exact hz _
    · rw [se 1 i _ (by simp), if_pos rfl, mul_one, kr i _ (by simp at hg ⊢; omega)]

theorem q16_ref (h : Fin 16) (k : Fin 64) (b : Fin 128) : q16 x0 x1 x2 x4 x5 x7 x8 x9 x10 x11 (ix2 ⟨h * 64 + k, by omega⟩ b)
    = -refKK (refKr (refZS Z ZL SH MU) KKW) (ix3 b h k) := by
  rw [q16_at, pAt_eq, kk_ref x0 x1 x2 x4 x5 x7 x8 x9 x10 x11 Z ZL SH MU W0 WU A0 AU KKW KAW H]

theorem q18_ref (h : Fin 16) (k : Fin 64) (b : Fin 128) : q18 x0 x1 x2 x4 x5 x7 x8 x9 x10 x11 (ix2 ⟨h * 64 + k, by omega⟩ b)
    = refKK (refKr (refZS Z ZL SH MU) KKW) (ix3 b h k) * refA (refZS Z ZL SH MU) A0 AU (ix2 b ⟨h * 64 + k, by omega⟩) := by
  rw [q18_at, pBt_eq, kk_ref x0 x1 x2 x4 x5 x7 x8 x9 x10 x11 Z ZL SH MU W0 WU A0 AU KKW KAW H, pA_ref x0 x1 x2 x4 x5 x7 x8 x9 x10 x11 Z ZL SH MU W0 WU A0 AU KKW KAW H]

theorem q19_ref (i : Fin 1024) (b : Fin 128) : q19 x0 x1 x2 x4 x5 x7 x8 x9 x10 x11 (ix2 i b)
    = refK (refZS Z ZL SH MU) (refA (refZS Z ZL SH MU) A0 AU) KAW (ix2 b i) := by
  rw [q19_at, pKn_ref x0 x1 x2 x4 x5 x7 x8 x9 x10 x11 Z ZL SH MU W0 WU A0 AU KKW KAW H]

theorem q20_ref (i : Fin 1024) (b : Fin 128) : q20 x0 x1 x2 x4 x5 x7 x8 x9 x10 x11 (ix2 i b) = refDec (refX (refZS Z ZL SH MU) W0 WU) (ix2 b i) := by
  rw [q20_at, pD_ref x0 x1 x2 x4 x5 x7 x8 x9 x10 x11 Z ZL SH MU W0 WU A0 AU KKW KAW H]

theorem q21_ref (i : Fin 1024) (b : Fin 128) : q21 x0 x1 x2 x4 x5 x7 x8 x9 x10 x11 (ix2 i b) = refV (refZS Z ZL SH MU) (ix2 b i) := by
  rw [q21_at, pV_ref x0 x1 x2 x4 x5 x7 x8 x9 x10 x11 Z ZL SH MU W0 WU A0 AU KKW KAW H, refV_at]

end Cert.StepIdeal.Hand

end
-- ==== Proof.StepValue.lean ====
/- The decode call's results over extended reals: the new state and the next shift state are the reference's. -/
module

public import proofs.«01_k».proof.Proof.StepPrep

@[expose] public section

set_option maxRecDepth 16384

noncomputable section

namespace Cert.StepIdeal.Hand

open Cert.StepIdeal Cert.StepIdeal.Gen Idealize.ShloMosaic Idealize.ShloMosaic.TcCoe Idealize.SL.Sem
open Idealize.ShloMosaic.Pipeline (Dat)
open Cert.StepRefIdeal.Hand

variable (m : (ℓ : Loc nD τ sig) → Buf (Elt Ideal) ℓ) (c : Dev nD) (t : Fin cfg0.N)

theorem idx_val : ∀ t : Fin cfg0.N, win0_0.index t = ![0, 0] ∧ win0_1.index t = ![0, 1] ∧ win0_2.index t = ![0, 2] ∧ win0_4.index t = ![0, 0]
    ∧ win0_5.index t = ![0, 0] ∧ win0_6.index t = ![t.val, 0, 0, 0] ∧ win0_7.index t = ![0, 0] ∧ win0_8.index t = ![0, 0] ∧ win0_9.index t = ![0, 0]
    ∧ win0_10.index t = ![0, 0] ∧ win0_11.index t = ![0, 0] ∧ win0_13.index t = ![t.val, 0, 0, 0] ∧ win0_14.index t = ![0, 0] :=
  (by decide +kernel : ∀ t : Fin grid0.N, _)

abbrev aZ : TZ := m ((c : Thread nD τ).loc main_arg0)
abbrev aZL : TZL := m ((c : Thread nD τ).loc main_arg1)
abbrev aSH : TSH := m ((c : Thread nD τ).loc main_arg2)
abbrev aS : TS := m ((c : Thread nD τ).loc main_arg3)
abbrev aMU : TMU := m ((c : Thread nD τ).loc main_arg4)
abbrev aW0 : TV := m ((c : Thread nD τ).loc main_arg5)
abbrev aWU : TU := m ((c : Thread nD τ).loc main_arg6)
abbrev aA0 : TV := m ((c : Thread nD τ).loc main_arg7)
abbrev aAU : TU := m ((c : Thread nD τ).loc main_arg8)
abbrev aKK : TV := m ((c : Thread nD τ).loc main_arg9)
abbrev aKA : TV := m ((c : Thread nD τ).loc main_arg10)
abbrev aRK : FVec Ideal S16x64 .f32 := m ((c : Thread nD τ).loc main_arg11)
abbrev aLG : TV := m ((c : Thread nD τ).loc main_arg12)
abbrev aLB : TV := m ((c : Thread nD τ).loc main_arg13)

theorem t_lt : ∀ t : Fin cfg0.N, t.val < 8 := by decide +kernel

theorem z0_at (r : Fin 128) (k : Fin 1024) : iblk m c 0 t (ix2 r k) = aZ m c (ix2 r ⟨k, by omega⟩) := by
  blk_ext [iblk, V_main_arg0, idx_val t]

theorem z1_at (r : Fin 128) (k : Fin 1024) : iblk m c 1 t (ix2 r k) = aZ m c (ix2 r ⟨1024 + k, by omega⟩) := by
  blk_ext [iblk, V_main_arg0, idx_val t]

theorem z2_at (r : Fin 128) (k : Fin 1024) : iblk m c 2 t (ix2 r k) = aZ m c (ix2 r ⟨2048 + k, by omega⟩) := by
  blk_ext [iblk, V_main_arg0, idx_val t]

theorem zl_at (r k : Fin 128) : iblk m c 4 t (ix2 r k) = aZL m c (ix2 r k) := by
  blk_ext [iblk, V_main_arg1, idx_val t]

theorem sh_at (r : Fin 128) (k : Fin 3200) : iblk m c 5 t (ix2 r k) = aSH m c (ix2 r k) := by
  blk_ext [iblk, V_main_arg2, idx_val t]

/-- The states, batch last. -/
def hostS (S : TS) : FVec Ideal S16x64x64x128 .f32 := transpose S16x64x64x128 [1, 2, 3, 0] S transposes_S128x16x64x64_S16x64x64x128_1_2_3_0

theorem hostS_at (S : TS) (h : Fin 16) (v k : Fin 64) (b : Fin 128) : hostS S (ix4 h v k b) = S (ix4 b h v k) := by
  pointwise [hostS]

theorem V_s : V m c main_v0 = hostS (aS m c) := by
  simp only [V, hostOps0, hostOps0_1, hostOps0_2, List.flatten_cons, List.flatten_nil, List.append_nil, List.cons_append, List.nil_append]
  after_results
  rfl

theorem V_p : V m c main_v15 = hostP (aMU m c) (aW0 m c) (aA0 m c) (aKK m c) (aKA m c) (aRK m c) (aLG m c) (aLB m c) := by
  simp only [V, hostOps0, hostOps0_1, hostOps0_2, List.flatten_cons, List.flatten_nil, List.append_nil, List.cons_append, List.nil_append]
  after_results
  rfl

theorem V_mul : V m c main_v18 = hostMul (aMU m c) := by
  simp only [V, hostOps0, hostOps0_1, hostOps0_2, List.flatten_cons, List.flatten_nil, List.append_nil, List.cons_append, List.nil_append]
  after_results
  rfl

theorem V_wd : V m c main_v21 = hostWd (aWU m c) := by
  simp only [V, hostOps0, hostOps0_1, hostOps0_2, List.flatten_cons, List.flatten_nil, List.append_nil, List.cons_append, List.nil_append]
  after_results
  rfl

theorem V_wa : V m c main_v23 = hostWa (aAU m c) := by
  simp only [V, hostOps0, hostOps0_1, hostOps0_2, List.flatten_cons, List.flatten_nil, List.append_nil, List.cons_append, List.nil_append]
  after_results
  rfl

theorem V_e : V m c main_v33 = hostE := by
  simp only [V, hostOps0, hostOps0_1, hostOps0_2, List.flatten_cons, List.flatten_nil, List.append_nil, List.cons_append, List.nil_append]
  after_results
  rfl

theorem p_at (j : Fin 16) (k : Fin 1024) : iblk m c 7 t (ix2 j k) = hostP (aMU m c) (aW0 m c) (aA0 m c) (aKK m c) (aKA m c) (aRK m c) (aLG m c) (aLB m c) (ix2 j k) := by
  rw [← V_p]
  blk_ext [iblk, idx_val t]

theorem ml_at (j : Fin 8) (k : Fin 128) : iblk m c 8 t (ix2 j k) = hostMul (aMU m c) (ix2 j k) := by
  rw [← V_mul]
  blk_ext [iblk, idx_val t]

theorem wd_at (j : Fin 128) (k : Fin 1024) : iblk m c 9 t (ix2 j k) = hostWd (aWU m c) (ix2 j k) := by
  rw [← V_wd]
  blk_ext [iblk, idx_val t]

theorem wa_at (j : Fin 128) (k : Fin 1024) : iblk m c 10 t (ix2 j k) = hostWa (aAU m c) (ix2 j k) := by
  rw [← V_wa]
  blk_ext [iblk, idx_val t]

theorem e_at (j k : Fin 128) : iblk m c 11 t (ix2 j k) = hostE (ix2 j k) := by
  rw [← V_e m c]
  blk_ext [iblk, idx_val t]

theorem s_at (u : Fin 2) (v k : Fin 64) (b : Fin 128) (h : Fin 16) (hh : h.val = 2 * t.val + u.val) : iblk m c 6 t (ix4 u v k b) = aS m c (ix4 b h v k) := by
  rw [← hostS_at (aS m c) h v k b, ← V_s]
  blk_ext [iblk, idx_val t, hh]

/-- The blocks are laid out as the prepared arrays want them. -/
theorem laid : Laid (iblk m c 1 t0) (iblk m c 2 t0) (iblk m c 4 t0) (iblk m c 5 t0) (iblk m c 7 t0) (iblk m c 8 t0) (iblk m c 9 t0) (iblk m c 10 t0) (iblk m c 11 t0)
    (aZ m c) (aZL m c) (aSH m c) (aMU m c) (aW0 m c) (aWU m c) (aA0 m c) (aAU m c) (aKK m c) (aKA m c) where
  e1 := z1_at m c t0
  e2 := z2_at m c t0
  e4 := zl_at m c t0
  e5 := sh_at m c t0
  m1 k := (p_at m c t0 1 k).trans (hostP_at _ _ _ _ _ _ _ _ k).1
  m2 k := (p_at m c t0 2 k).trans (hostP_at _ _ _ _ _ _ _ _ k).2.1
  w0 k := (p_at m c t0 3 k).trans (hostP_at _ _ _ _ _ _ _ _ k).2.2.1
  a0 k := (p_at m c t0 4 k).trans (hostP_at _ _ _ _ _ _ _ _ k).2.2.2.1
  kk k := (p_at m c t0 5 k).trans (hostP_at _ _ _ _ _ _ _ _ k).2.2.2.2.1
  ka k := (p_at m c t0 6 k).trans (hostP_at _ _ _ _ _ _ _ _ k).2.2.2.2.2
  ml k := (ml_at m c t0 0 k).trans (hostMul_at _ k)
  wd i k := ⟨(wd_at m c t0 _ k).trans (hostWd_at _ i k).1, (wd_at m c t0 _ k).trans (hostWd_at _ i k).2⟩
  wa i k := ⟨(wa_at m c t0 _ k).trans (hostWa_at _ i k).1, (wa_at m c t0 _ k).trans (hostWa_at _ i k).2⟩
  se u v i j := (e_at m c t0 _ _).trans (hostE_at u v i j)

/-- The recurrence's entry. -/
theorem newS_at (a b k d : Vec Ideal S64x128 .f32) (v : FVec Ideal S1x128 .f32) (s : FVec Ideal S64x128 .f32) (q : Fin 64) (l : Fin 128) :
    newS a b k d v s (ix2 q l) = s (ix2 q l) * d (ix2 q l) + (∑ i : Fin 64, s (ix2 i l) * a (ix2 i l)) * b (ix2 q l) + v (ix2 0 l) * k (ix2 q l) := by
  pointwise [newS, rowSum]

theorem hd_at (h : Fin 2) (inb) (p : Vec Ideal S1024x128 .f32) (q : Fin 64) (l : Fin 128) (j : Fin 1024) (hj : j.val = (2 * t.val + h.val) * 64 + q.val) :
    hd (grid0.coords t) (BitVec.ofNat 32 h.val) inb p (ix2 q l) = p (ix2 j l) := by
  have ho : ∀ (t : Fin grid0.N) (h : Fin 2), k0_off1 (grid0.coords t) (BitVec.ofNat 32 h.val) 0 = 128 * t.val + 64 * h.val := by decide +kernel
  refine View.ld_unit_apply_of p _ _ _ _ (ix2 j l) fun a => ?_
  fin_cases a
  · show j.val = k0_off1 (grid0.coords t) (BitVec.ofNat 32 h.val) 0 + q.val
    rw [ho t h]
    omega
  · show l.val = 0 + l.val
    omega

/-- A head's new state: rows `64 h + k` of the prepared arrays. -/
theorem sOut_at (pa pb pk pd pv : Vec Ideal S1024x128 .f32) (s : Vec Ideal S2x64x64x128 .f32) (u : Fin 2) (v k : Fin 64) (l : Fin 128) (h : Fin 16) (hh : h.val = 2 * t.val + u.val) :
    sOut (grid0.coords t) pa pb pk pd pv s (ix4 u v k l) = s (ix4 u v k l) * pd (ix2 ⟨h * 64 + k, by omega⟩ l)
      + (∑ i : Fin 64, s (ix4 u v i l) * pa (ix2 ⟨h * 64 + i, by omega⟩ l)) * pb (ix2 ⟨h * 64 + k, by omega⟩ l)
      + pv (ix2 ⟨h * 64 + v, by omega⟩ l) * pk (ix2 ⟨h * 64 + k, by omega⟩ l) := by
  have hc := coords_val t
  have H := fun (inb) (p : Vec Ideal S1024x128 .f32) (q : Fin 64) => hd_at t u inb p q l ⟨h * 64 + q, by omega⟩ (by dsimp only; rw [hh])
  have hv : ∀ j : Fin 1024, j.val = h.val * 64 + v.val → pv (ix2 j l) = pv (ix2 ⟨h * 64 + v, by omega⟩ l) := fun j hj => congrArg (fun j => pv (ix2 j l)) (Fin.ext hj)
  obtain rfl | rfl : u = 0 ∨ u = 1 := by omega
  · have e : sOut (grid0.coords t) pa pb pk pd pv s (ix4 0 v k l) = stS (hd (grid0.coords t) 0#32 (k0_off1_inb _ 0) pa) (hd (grid0.coords t) 0#32 (k0_off1_inb _ 0) pb)
        (hd (grid0.coords t) 0#32 (k0_off1_inb _ 0) pk) (hd (grid0.coords t) 0#32 (k0_off1_inb _ 0) pd) pv s (128 * ((grid0.coords t) 0).val) (hb1 _) 0 (ix4 0 v k l)  := by
      unfold sOut sV
      rw [if_neg (show ¬ ((ix4 (0 : Fin 2) v k l : S2x64x64x128.Idx) 0).val = 1 by show ¬ (0 : Fin 2).val = 1; decide)]
    rw [e]
    refine (newS_at _ _ _ _ _ _ k l).trans ?_
    refine congrArg₂ (fun a b : EReal => a + b) (congrArg₂ (fun a b : EReal => a + b) (Ideal.mul_congr rfl (H _ _ k))
      (Ideal.mul_congr (Finset.sum_congr rfl fun i _ => Ideal.mul_congr rfl (H _ _ i)) (H _ _ k))) (Ideal.mul_congr (hv _ ?_) (H _ _ k))
    show 128 * ((grid0.coords t) 0).val + v.val = _
    rw [hc, hh]
    simp
    omega
  · have e : sOut (grid0.coords t) pa pb pk pd pv s (ix4 1 v k l) = stS (hd (grid0.coords t) 1#32 (k0_off1_inb _ 1) pa) (hd (grid0.coords t) 1#32 (k0_off1_inb _ 1) pb)
        (hd (grid0.coords t) 1#32 (k0_off1_inb _ 1) pk) (hd (grid0.coords t) 1#32 (k0_off1_inb _ 1) pd) pv s (128 * ((grid0.coords t) 0).val + 64) (hb2 _) 1 (ix4 1 v k l)  := by
      unfold sOut sV
      rw [if_pos (show ((ix4 (1 : Fin 2) v k l : S2x64x64x128.Idx) 0).val = 1 from rfl)]
    rw [e]
    refine (newS_at _ _ _ _ _ _ k l).trans ?_
    refine congrArg₂ (fun a b : EReal => a + b) (congrArg₂ (fun a b : EReal => a + b) (Ideal.mul_congr rfl (H _ _ k))
      (Ideal.mul_congr (Finset.sum_congr rfl fun i _ => Ideal.mul_congr rfl (H _ _ i)) (H _ _ k))) (Ideal.mul_congr (hv _ ?_) (H _ _ k))
    show 128 * ((grid0.coords t) 0).val + 64 + v.val = _
    rw [hc, hh]
    simp
    omega

/-- The new state the arguments give. -/
abbrev rS : FVec Ideal S16x64x64x128 .f32 :=
  refState (aZ m c) (aZL m c) (aSH m c) (aS m c) (aMU m c) (aW0 m c) (aWU m c) (aA0 m c) (aAU m c) (aKK m c) (aKA m c)

theorem st_at (u : Fin 2) (v k : Fin 64) (l : Fin 128) (h : Fin 16) (hh : h.val = 2 * t.val + u.val) :
    sOut (grid0.coords t) (Q16 m c) (Q18 m c) (Q19 m c) (Q20 m c) (Q21 m c) (iblk m c 6 t) (ix4 u v k l) = rS m c (ix4 h v k l) := by
  have L := laid m c
  rw [sOut_at t _ _ _ _ _ _ u v k l h hh]
  unfold rS refState
  rw [refS_at]
  refine congrArg₂ (fun a b : EReal => a + b) (congrArg₂ (fun a b : EReal => a + b) (Ideal.mul_congr (s_at m c t u v k l h hh) ?_)
      (Ideal.mul_congr (Finset.sum_congr rfl fun i _ => Ideal.mul_congr (s_at m c t u v i l h hh) ?_) ?_)) (Ideal.mul_congr ?_ ?_)
  · exact q20_ref _ _ _ _ _ _ _ _ _ _ _ _ _ _ _ _ _ _ _ _ L _ _
  · exact q16_ref _ _ _ _ _ _ _ _ _ _ _ _ _ _ _ _ _ _ _ _ L _ _ _
  · exact q18_ref _ _ _ _ _ _ _ _ _ _ _ _ _ _ _ _ _ _ _ _ L _ _ _
  · exact q21_ref _ _ _ _ _ _ _ _ _ _ _ _ _ _ _ _ _ _ _ _ L _ _
  · exact q19_ref _ _ _ _ _ _ _ _ _ _ _ _ _ _ _ _ _ _ _ _ L _ _

/-- The new state's array. -/
theorem final13 : (dats m 0 c).arrAt 13 (cfgs 0).N = rS m c := by
  refine (dats m 0 c).arrAt_eq_of_covers 13 _ (by decide +kernel) fun t _ y => ?_
  rw [after_13]
  have ht := t_lt t
  have e : ∀ y : S2x64x64x128.Idx, sOut (grid0.coords t) (Q16 m c) (Q18 m c) (Q19 m c) (Q20 m c) (Q21 m c) (iblk m c 6 t) y
      = rS m c (ix4 ⟨2 * t.val + (y 0).val, by have : (y 0).val < 2 := (y 0).isLt; omega⟩ (y 1) (y 2) (y 3)) := fun y => by
    idx_vars y
    exact st_at m c t y0 y1 y2 y3 _ rfl
  generalize sOut (grid0.coords t) (Q16 m c) (Q18 m c) (Q19 m c) (Q20 m c) (Q21 m c) (iblk m c 6 t) = O at *
  generalize rS m c = R at *
  blk_ext [e, idx_val t]

/-- The next shift state's payloads: the projection's first columns and the low-rank ones. -/
theorem nsh_at (y : S128x3200.Idx) : nsh (iblk m c 0 t0) (iblk m c 1 t0) (iblk m c 2 t0) (iblk m c 4 t0) y = refSh (aZ m c) (aZL m c) y := by
  have c0 : ∀ u : S128x1024.Idx, iblk m c 0 t0 u = aZ m c (ix2 (u 0) ⟨(u 1).val, by have : (u 1).val < 1024 := (u 1).isLt; omega⟩) := fun u => by
    idx_vars u
    exact z0_at m c t0 u0 u1
  have c1 : ∀ u : S128x1024.Idx, iblk m c 1 t0 u = aZ m c (ix2 (u 0) ⟨1024 + (u 1).val, by have : (u 1).val < 1024 := (u 1).isLt; omega⟩) := fun u => by
    idx_vars u
    exact z1_at m c t0 u0 u1
  have c2 : ∀ u : S128x1024.Idx, iblk m c 2 t0 u = aZ m c (ix2 (u 0) ⟨2048 + (u 1).val, by have : (u 1).val < 1024 := (u 1).isLt; omega⟩) := fun u => by
    idx_vars u
    exact z2_at m c t0 u0 u1
  have c4 : ∀ u : S128x128.Idx, iblk m c 4 t0 u = aZL m c u := fun u => by
    idx_vars u
    exact zl_at m c t0 u0 u1
  generalize iblk m c 0 t0 = X0 at *
  generalize iblk m c 1 t0 = X1 at *
  generalize iblk m c 2 t0 = X2 at *
  generalize iblk m c 4 t0 = X4 at *
  generalize aZ m c = Z at *
  generalize aZL m c = ZL at *
  unfold nsh
  canon_tiles u h using cover15 _ _ _ _ y
  · pointwise [refSh, h0, h1]
    exact c4 u
  · pointwise [refSh, h0, h1]
    have hu : (u 1).val < 1024 := (u 1).isLt
    rw [dif_pos (by omega)]
    exact c2 u
  · pointwise [refSh, h0, h1]
    have hu : (u 1).val < 1024 := (u 1).isLt
    rw [dif_pos (by omega)]
    exact c1 u
  · pointwise [refSh, h0, h1]
    have hu : (u 1).val < 1024 := (u 1).isLt
    rw [dif_pos (by omega)]
    exact c0 u

/-- The next shift state's array. -/
theorem final14 : (dats m 0 c).arrAt 14 (cfgs 0).N = refSh (aZ m c) (aZL m c) := by
  refine (dats m 0 c).arrAt_eq_of_covers 14 _ (by decide +kernel) fun t _ y => ?_
  rw [after_14]
  have e := nsh_at m c y
  generalize nsh (iblk m c 0 t0) (iblk m c 1 t0) (iblk m c 2 t0) (iblk m c 4 t0) = O at *
  generalize refSh (aZ m c) (aZL m c) = R at *
  blk_ext [e, idx_val t]

/-- Every run of the call ends with both arrays named, the arguments as they began. -/
theorem run_values (ρ : Dev nD → PrngReg) : θ_run defs (onTc (τ := τ) (main (F := Ideal))) ⟨m, fun _ => 0, ρ⟩ (fun r => ∀ c : Dev nD,
    r.2.mem ((c : Thread nD τ).loc main_v34_1) = (dats m 0 c).arrAt 13 cfg0.N
    ∧ r.2.mem ((c : Thread nD τ).loc main_v34_2) = (dats m 0 c).arrAt 14 cfg0.N
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) :=
  (θ_run defs _ _).mono (fun r h c => ⟨(h.1 c).1 13, (h.1 c).1 14, h.2.1 c⟩) (θ_run_and ((θ_run defs _ _).mono (fun _ h => h.1) (run_main_quiescent m ρ)) (frame m ρ))

end Cert.StepIdeal.Hand

end
-- ==== Proof.StepClaim.lean ====
/- The claims about the RWKV-7 decode call. -/
module

public import proofs.«01_k».proof.Defs
public import proofs.«01_k».proof.Proof.StepValue
public import proofs.«01_k».proof.Proof.StepDatBits
public import proofs.«01_k».proof.Proof.Gen.StepRefIdeal.Run

@[expose] public section

set_option maxRecDepth 16384

noncomputable section

namespace Cert.Proof

open Idealize.ShloMosaic Idealize.SL.Sem

theorem step_frame : Cert.quiescent_Step := by
  intro m g _
  exact Cert.Step.Hand.frame m g

theorem step_ideal_frame : Cert.quiescent_StepIdeal := by
  intro m g _
  exact Cert.StepIdeal.Hand.frame m g

theorem step_ref_frame : Cert.quiescent_StepRefIdeal := fun m g _ =>
  (θ_run Cert.StepRefIdeal.defs _ _).mono (fun r h => ⟨fun c => (h c).2.2, sem_eq_zero_of_no_sems (by decide) r.2⟩)
    (Cert.StepRefIdeal.Value.run (F := Ideal) m g)

theorem step_preserves : Cert.preserves_Step_StepIdeal := trivial

theorem step_algebraic : Cert.algebraic_StepIdeal_StepRefIdeal := by
  pair_intro
  · run_from Cert.StepIdeal.Hand.run_values m g
  · run_from Cert.StepRefIdeal.Value.run m' g'
    · obtain ⟨h0, h1, h2, h3, h4, h5, h6, h7, h8, h9, h10, h11, h12, h13⟩ := hagree c
      refine (Cert.StepRefIdeal.Hand.res_state m' c).trans (Eq.trans ?_ (Cert.StepIdeal.Hand.final13 m c).symm)
      rw [h0, h1, h2, h3, h4, h5, h6, h7, h8, h9, h10]
    · obtain ⟨h0, h1, h2, h3, h4, h5, h6, h7, h8, h9, h10, h11, h12, h13⟩ := hagree c
      refine Eq.trans ?_ (Cert.StepIdeal.Hand.final14 m c).symm
      rfl

end Cert.Proof

end
-- ==== Proof.lean ====
module

public import proofs.«01_k».proof.Defs
public import proofs.«01_k».proof.Proof.Gen.StepRefIdeal.Run
public import proofs.«01_k».proof.Proof.Gen.Step
public import proofs.«01_k».proof.Proof.Gen.Step.Skeleton
public import proofs.«01_k».proof.Proof.Gen.Step.Loops
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Loops
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.LruIdeal.Value
public import proofs.«01_k».proof.Proof.Gen.LruRefIdeal.Run
public import proofs.«01_k».proof.Proof.Gen.InprojRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.InprojClaim
public import proofs.«01_k».proof.Proof.HeadClaim
public import proofs.«01_k».proof.Proof.LruClaim
public import proofs.«01_k».proof.Proof.StepClaim
public import Idealize.ShloMosaic.Adequacy
public import Idealize.ShloMosaic.Init

@[expose] public section

noncomputable section

namespace Cert.Proof

open Idealize.ShloMosaic Idealize.SL.Sem Cert.Lru

theorem claim : Cert.Claim := ⟨Cert.Step.Gen.facts, Cert.StepIdeal.Gen.facts, Cert.StepRefIdeal.Gen.facts, Cert.Lru.Gen.facts, Cert.LruIdeal.Gen.facts, Cert.LruRefIdeal.Gen.facts, Cert.Inproj.Gen.facts, Cert.InprojIdeal.Gen.facts, Cert.InprojRefIdeal.Gen.facts, Cert.Head.Gen.facts, Cert.HeadIdeal.Gen.facts, Cert.HeadRefIdeal.Gen.facts, by
  exact ⟨Cert.Proof.step_frame, Cert.Proof.step_ideal_frame, Cert.Proof.step_ref_frame, Cert.Proof.lru_frame, Cert.Proof.lru_ideal_frame, Cert.Proof.lru_ref_frame, Cert.Proof.inproj_frame, Cert.Proof.inproj_ideal_frame, Cert.Proof.inproj_ref_frame, Cert.Proof.head_frame, Cert.Proof.head_ideal_frame, Cert.Proof.head_ref_frame, Cert.Proof.step_preserves, Cert.Proof.step_algebraic, Cert.Proof.lru_preserves, Cert.Proof.lru_algebraic, Cert.Proof.inproj_preserves, Cert.Proof.inproj_algebraic, Cert.Proof.head_preserves, Cert.Proof.head_algebraic⟩⟩

end Cert.Proof

end
